-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37_0) = v0 c
          ∧ r.2.mem ((c.tc : Thread Cert.ReferenceIdeal.nD Cert.ReferenceIdeal.τ).loc Cert.ReferenceIdeal.main_v37_1) = v1 c
          ∧ r.2.mem ((c.tc : Thread Cert.ReferenceIdeal.nD Cert.ReferenceIdeal.τ).loc Cert.ReferenceIdeal.main_v37_2) = v2 c
          ∧ r.2.mem ((c.tc : Thread Cert.ReferenceIdeal.nD Cert.ReferenceIdeal.τ).loc Cert.ReferenceIdeal.main_v37_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x384x1536 : Shape := ⟨3, ![5, 384, 1536]⟩
abbrev S1536x4480 : Shape := ⟨2, ![1536, 4480]⟩
abbrev S12x8960 : Shape := ⟨2, ![12, 8960]⟩
abbrev S1920x1536 : Shape := ⟨2, ![1920, 1536]⟩
abbrev S1920x8960 : Shape := ⟨2, ![1920, 8960]⟩
abbrev S5x384 : Shape := ⟨2, ![5, 384]⟩
abbrev S1536x640 : Shape := ⟨2, ![1536, 640]⟩
abbrev S12x1280 : Shape := ⟨2, ![12, 1280]⟩
abbrev S1920x1280 : Shape := ⟨2, ![1920, 1280]⟩
abbrev S2x2x384x1536 : Shape := ⟨4, ![2, 2, 384, 1536]⟩
abbrev S1536x1280 : Shape := ⟨2, ![1536, 1280]⟩
abbrev S2x2 : Shape := ⟨2, ![2, 2]⟩
abbrev S_ : Shape := ⟨0, ![]⟩
abbrev S1x1 : Shape := ⟨2, ![1, 1]⟩
abbrev S1x1x384x1536 : Shape := ⟨4, ![1, 1, 384, 1536]⟩
abbrev S384x1536 : Shape := ⟨2, ![384, 1536]⟩
abbrev S256x256 : Shape := ⟨2, ![256, 256]⟩
abbrev S384x256 : Shape := ⟨2, ![384, 256]⟩
abbrev S384 : Shape := ⟨1, ![384]⟩
abbrev S384x1 : Shape := ⟨2, ![384, 1]⟩
abbrev S1x384 : Shape := ⟨2, ![1, 384]⟩
abbrev S1536x128 : Shape := ⟨2, ![1536, 128]⟩
abbrev S384x128 : Shape := ⟨2, ![384, 128]⟩
abbrev S384x128x1 : Shape := ⟨3, ![384, 128, 1]⟩
abbrev S128x128 : Shape := ⟨2, ![128, 128]⟩
abbrev S1x128 : Shape := ⟨2, ![1, 128]⟩
abbrev S1536x256 : Shape := ⟨2, ![1536, 256]⟩
abbrev S1920x256 : Shape := ⟨2, ![1920, 256]⟩

abbrev nBuf : Space → Nat
  | .hbm => 10
  | .vmem => 14
  | .smem => 0
  | _ => 0

abbrev bufTy : (tb : Table) → Fin (tcTables nBuf tb) → BufTy
  | .hbm, ⟨0, _⟩ => ⟨S5x384x1536, .bf16⟩
  | .hbm, ⟨1, _⟩ => ⟨S5x384x1536, .bf16⟩
  | .hbm, ⟨2, _⟩ => ⟨S1536x4480, .i8⟩
  | .hbm, ⟨3, _⟩ => ⟨S12x8960, .f32⟩
  | .hbm, ⟨4, _⟩ => ⟨S1920x1536, .bf16⟩
  | .hbm, ⟨5, _⟩ => ⟨S1920x1536, .bf16⟩
  | .hbm, ⟨6, _⟩ => ⟨S1920x8960, .bf16⟩
  | .hbm, ⟨7, _⟩ => ⟨S1920x8960, .bf16⟩
  | .hbm, ⟨8, _⟩ => ⟨S1920x1536, .i8⟩
  | .hbm, ⟨9, _⟩ => ⟨S5x384, .f32⟩
  | .local _ .vmem, ⟨0, _⟩ => ⟨S1536x640, .i8⟩
  | .local _ .vmem, ⟨1, _⟩ => ⟨S1536x640, .i8⟩
  | .local _ .vmem, ⟨2, _⟩ => ⟨S12x1280, .f32⟩
  | .local _ .vmem, ⟨3, _⟩ => ⟨S12x1280, .f32⟩
  | .local _ .vmem, ⟨4, _⟩ => ⟨S1920x1280, .bf16⟩
  | .local _ .vmem, ⟨5, _⟩ => ⟨S1920x1280, .bf16⟩
  | .local _ .vmem, ⟨6, _⟩ => ⟨S1920x1280, .bf16⟩
  | .local _ .vmem, ⟨7, _⟩ => ⟨S1920x1280, .bf16⟩
  | .local _ .vmem, ⟨8, _⟩ => ⟨S5x384, .f32⟩
  | .local _ .vmem, ⟨9, _⟩ => ⟨S2x2x384x1536, .bf16⟩
  | .local _ .vmem, ⟨10, _⟩ => ⟨S1920x1536, .bf16⟩
  | .local _ .vmem, ⟨11, _⟩ => ⟨S1920x1536, .bf16⟩
  | .local _ .vmem, ⟨12, _⟩ => ⟨S1920x1536, .i8⟩
  | .local _ .vmem, ⟨13, _⟩ => ⟨S1536x1280, .bf16⟩
  | _, _ => ⟨S5x384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1536x640 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1920x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1920x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S5x384x1536 : Shape := ⟨3, ![5, 384, 1536]⟩
abbrev S1536x4480 : Shape := ⟨2, ![1536, 4480]⟩
abbrev S12x8960 : Shape := ⟨2, ![12, 8960]⟩
abbrev S2x2 : Shape := ⟨2, ![2, 2]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S_ : Shape := ⟨0, ![]⟩
abbrev S5x384x12x128 : Shape := ⟨4, ![5, 384, 12, 128]⟩
abbrev S1536x4480x1 : Shape := ⟨3, ![1536, 4480, 1]⟩
abbrev S1536x4480x2 : Shape := ⟨3, ![1536, 4480, 2]⟩
abbrev S1536x8960 : Shape := ⟨2, ![1536, 8960]⟩
abbrev S12x128x8960 : Shape := ⟨3, ![12, 128, 8960]⟩
abbrev S12x1x8960 : Shape := ⟨3, ![12, 1, 8960]⟩
abbrev S1920x8960 : Shape := ⟨2, ![1920, 8960]⟩
abbrev S1920x1536 : Shape := ⟨2, ![1920, 1536]⟩
abbrev S5x384 : Shape := ⟨2, ![5, 384]⟩
abbrev S5x384x1 : Shape := ⟨3, ![5, 384, 1]⟩
abbrev S5x384x8960 : Shape := ⟨3, ![5, 384, 8960]⟩

abbrev nBuf : Space → Nat
  | .hbm => 81
  | .vmem => 7
  | .smem => 0
  | _ => 0

abbrev bufTy : (tb : Table) → Fin (tcTables nBuf tb) → BufTy
  | .hbm, ⟨0, _⟩ => ⟨S5x384x1536, .bf16⟩
  | .hbm, ⟨1, _⟩ => ⟨S5x384x1536, .bf16⟩
  | .hbm, ⟨2, _⟩ => ⟨S1536x4480, .i8⟩
  | .hbm, ⟨3, _⟩ => ⟨S12x8960, .f32⟩
  | .hbm, ⟨4, _⟩ => ⟨S2x2, .f32⟩
  | .hbm, ⟨5, _⟩ => ⟨S2x1x2x1, .f32⟩
  | .hbm, ⟨6, _⟩ => ⟨S1x2x1x2, .f32⟩
  | .hbm, ⟨7, _⟩ => ⟨S2x2x2x2, .f32⟩
  | .hbm, ⟨8, _⟩ => ⟨S2x2x2x2, .f32⟩
  | .hbm, ⟨9, _⟩ => ⟨S2x2x2x2, .f32⟩
  | .hbm, ⟨10, _⟩ => ⟨S4x4, .f32⟩
  | .hbm, ⟨11, _⟩ => ⟨S4x1x4x1, .f32⟩
  | .hbm, ⟨12, _⟩ => ⟨S1x2x1x2, .f32⟩
  | .hbm, ⟨13, _⟩ => ⟨S4x2x4x2, .f32⟩
  | .hbm, ⟨14, _⟩ => ⟨S4x2x4x2, .f32⟩
  | .hbm, ⟨15, _⟩ => ⟨S4x2x4x2, .f32⟩
  | .hbm, ⟨16, _⟩ => ⟨S8x8, .f32⟩
  | .hbm, ⟨17, _⟩ => ⟨S8x1x8x1, .f32⟩
  | .hbm, ⟨18, _⟩ => ⟨S1x2x1x2, .f32⟩
  | .hbm, ⟨19, _⟩ => ⟨S8x2x8x2, .f32⟩
  | .hbm, ⟨20, _⟩ => ⟨S8x2x8x2, .f32⟩
  | .hbm, ⟨21, _⟩ => ⟨S8x2x8x2, .f32⟩
  | .hbm, ⟨22, _⟩ => ⟨S16x16, .f32⟩
  | .hbm, ⟨23, _⟩ => ⟨S16x1x16x1, .f32⟩
  | .hbm, ⟨24, _⟩ => ⟨S1x2x1x2, .f32⟩
  | .hbm, ⟨25, _⟩ => ⟨S16x2x16x2, .f32⟩
  | .hbm, ⟨26, _⟩ => ⟨S16x2x16x2, .f32⟩
  | .hbm, ⟨27, _⟩ => ⟨S16x2x16x2, .f32⟩
  | .hbm, ⟨28, _⟩ => ⟨S32x32, .f32⟩
  | .hbm, ⟨29, _⟩ => ⟨S32x1x32x1, .f32⟩
  | .hbm, ⟨30, _⟩ => ⟨S1x2x1x2, .f32⟩
  | .hbm, ⟨31, _⟩ => ⟨S32x2x32x2, .f32⟩
  | .hbm, ⟨32, _⟩ => ⟨S32x2x32x2, .f32⟩
  | .hbm, ⟨33, _⟩ => ⟨S32x2x32x2, .f32⟩
  | .hbm, ⟨34, _⟩ => ⟨S64x64, .f32⟩
  | .hbm, ⟨35, _⟩ => ⟨S64x1x64x1, .f32⟩
  | .hbm, ⟨36, _⟩ => ⟨S1x2x1x2, .f32⟩
  | .hbm, ⟨37, _⟩ => ⟨S64x2x64x2, .f32⟩
  | .hbm, ⟨38, _⟩ => ⟨S64x2x64x2, .f32⟩
  | .hbm, ⟨39, _⟩ => ⟨S64x2x64x2, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S5x384x1536, .f32⟩
  | .hbm, ⟨45, _⟩ => ⟨S5x384x12x128, .f32⟩
  | .hbm, ⟨46, _⟩ => ⟨S5x384x12x128, .f32⟩
  | .hbm, ⟨47, _⟩ => ⟨S5x384x1536, .f32⟩
  | .hbm, ⟨48, _⟩ => ⟨S5x384x1536, .f32⟩
  | .hbm, ⟨49, _⟩ => ⟨S5x384x12x128, .f32⟩
  | .hbm, ⟨50, _⟩ => ⟨S5x384x12x128, .f32⟩
  | .hbm, ⟨51, _⟩ => ⟨S5x384x1536, .f32⟩
  | .hbm, ⟨52, _⟩ => ⟨S1536x4480, .i32⟩
  | .hbm, ⟨53, _⟩ => ⟨S_, .i32⟩
  | .hbm, ⟨54, _⟩ => ⟨S1536x4480, .i32⟩
  | .hbm, ⟨55, _⟩ => ⟨S1536x4480, .i32⟩
  | .hbm, ⟨56, _⟩ => ⟨S_, .i32⟩
  | .hbm, ⟨57, _⟩ => ⟨S1536x4480, .i32⟩
  | .hbm, ⟨58, _⟩ => ⟨S1536x4480, .i32⟩
  | .hbm, ⟨59, _⟩ => ⟨S1536x4480x1, .i32⟩
  | .hbm, ⟨60, _⟩ => ⟨S1536x4480x1, .i32⟩
  | .hbm, ⟨61, _⟩ => ⟨S1536x4480x2, .i32⟩
  | .hbm, ⟨62, _⟩ => ⟨S1536x8960, .i32⟩
  | .hbm, ⟨63, _⟩ => ⟨S12x8960, .bf16⟩
  | .hbm, ⟨64, _⟩ => ⟨S_, .i32⟩
  | .hbm, ⟨65, _⟩ => ⟨S1536x8960, .i32⟩
  | .hbm, ⟨66, _⟩ => ⟨S1536x8960, .i1⟩
  | .hbm, ⟨67, _⟩ => ⟨S_, .i32⟩
  | .hbm, ⟨68, _⟩ => ⟨S1536x8960, .i32⟩
  | .hbm, ⟨69, _⟩ => ⟨S1536x8960, .i32⟩
  | .hbm, ⟨70, _⟩ => ⟨S1536x8960, .i32⟩
  | .hbm, ⟨71, _⟩ => ⟨S1536x8960, .bf16⟩
  | .hbm, ⟨72, _⟩ => ⟨S12x128x8960, .bf16⟩
  | .hbm, ⟨73, _⟩ => ⟨S12x1x8960, .bf16⟩
  | .hbm, ⟨74, _⟩ => ⟨S12x128x8960, .bf16⟩
  | .hbm, ⟨75, _⟩ => ⟨S12x128x8960, .bf16⟩
  | .hbm, ⟨76, _⟩ => ⟨S1536x8960, .bf16⟩
  | .hbm, ⟨77, _⟩ => ⟨S1920x8960, .bf16⟩
  | .hbm, ⟨78, _⟩ => ⟨S1920x8960, .bf16⟩
  | .hbm, ⟨79, _⟩ => ⟨S1920x1536, .i8⟩
  | .hbm, ⟨80, _⟩ => ⟨S5x384, .f32⟩
  | .local _ .vmem, ⟨0, _⟩ => ⟨S5x384x1536, .f32⟩
  | .local _ .vmem, ⟨1, _⟩ => ⟨S5x384x1536, .f32⟩
  | .local _ .vmem, ⟨2, _⟩ => ⟨S1536x8960, .bf16⟩
  | .local _ .vmem, ⟨3, _⟩ => ⟨S1920x8960, .bf16⟩
  | .local _ .vmem, ⟨4, _⟩ => ⟨S1920x8960, .bf16⟩
  | .local _ .vmem, ⟨5, _⟩ => ⟨S1920x1536, .i8⟩
  | .local _ .vmem, ⟨6, _⟩ => ⟨S5x384, .f32⟩
  | _, _ => ⟨S5x384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_v2 : Ref sig .tc := ⟨.hbm, 22, rfl⟩
abbrev main_call3_v0 : Ref sig .tc := ⟨.hbm, 23, rfl⟩
abbrev main_call3_v1 : Ref sig .tc := ⟨.hbm, 24, rfl⟩
abbrev main_call3_v2 : Ref sig .tc := ⟨.hbm, 25, rfl⟩
abbrev main_call3_v3 : Ref sig .tc := ⟨.hbm, 26, rfl⟩
abbrev main_call3_v4 : Ref sig .tc := ⟨.hbm, 27, rfl⟩
abbrev main_v3 : Ref sig .tc := ⟨.hbm, 28, rfl⟩
abbrev main_call4_v0 : Ref sig .tc := ⟨.hbm, 29, rfl⟩
abbrev main_call4_v1 : Ref sig .tc := ⟨.hbm, 30, rfl⟩
abbrev main_call4_v2 : Ref sig .tc := ⟨.hbm, 31, rfl⟩
abbrev main_call4_v3 : Ref sig .tc := ⟨.hbm, 32, rfl⟩
abbrev main_call4_v4 : Ref sig .tc := ⟨.hbm, 33, rfl⟩
abbrev main_v4 : Ref sig .tc := ⟨.hbm, 34, rfl⟩
abbrev main_call5_v0 : Ref sig .tc := ⟨.hbm, 35, rfl⟩
abbrev main_call5_v1 : Ref sig .tc := ⟨.hbm, 36, rfl⟩
abbrev main_call5_v2 : Ref sig .tc := ⟨.hbm, 37, rfl⟩
abbrev main_call5_v3 : Ref sig .tc := ⟨.hbm, 38, rfl⟩
abbrev main_call5_v4 : Ref sig .tc := ⟨.hbm, 39, rfl⟩
abbrev main_v5 : Ref sig .tc := ⟨.hbm, 40, rfl⟩
abbrev main_cst_0 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_c : Ref sig .tc := ⟨.hbm, 53, rfl⟩
abbrev main_v17 : Ref sig .tc := ⟨.hbm, 54, rfl⟩
abbrev main_v18 : Ref sig .tc := ⟨.hbm, 55, rfl⟩
abbrev main_c_1 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_c_2 : Ref sig .tc := ⟨.hbm, 64, rfl⟩
abbrev main_v26 : Ref sig .tc := ⟨.hbm, 65, rfl⟩
abbrev main_v27 : Ref sig .tc := ⟨.hbm, 66, rfl⟩
abbrev main_c_3 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37_0 : Ref sig .tc := ⟨.hbm, 77, rfl⟩
abbrev main_v37_1 : Ref sig .tc := ⟨.hbm, 78, rfl⟩
abbrev main_v37_2 : Ref sig .tc := ⟨.hbm, 79, rfl⟩
abbrev main_v37_3 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5x384x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x8960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x8960 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x8960 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x1536 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KRun.lean ====
/-
  The kernel body, run once at each of the three kinds of grid point: the first one (`runA`: fetch, rotate and quantize the
  activations, start the copy of the codes to HBM, then decode and multiply), a middle one (`runB`: decode and multiply), the
  last one (`runC`: decode and multiply, then wait for the copy of the codes).
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Pipeline.TableIdle
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The test the body makes for the last grid point. -/
abbrev lastCond (i : grid0.Coords) : Prop :=
  Scalar.cmpi .ne (Scalar.extui (Scalar.cmpi .eq (BitVec.ofNat 32 (i 0).val) 6#32) : BitVec 32) 0#32 = 1#1

abbrev hbA : Memref sig .tc .hbm S1920x1536 .bf16 := Memref.whole main_v0
abbrev hbB : Memref sig .tc .hbm S1920x1536 .bf16 := Memref.whole main_v1
abbrev hbC : Memref sig .tc .hbm S1920x1536 .i8 := Memref.whole main_v2_2
abbrev scX : Memref sig .tc .vmem S2x2x384x1536 .bf16 := Memref.whole cc0_scratch0
abbrev scD : Memref sig .tc .vmem S1920x1536 .bf16 := Memref.whole cc0_scratch1
abbrev scV : Memref sig .tc .vmem S1920x1536 .bf16 := Memref.whole cc0_scratch2
abbrev scC : Memref sig .tc .vmem S1920x1536 .i8 := Memref.whole cc0_scratch3
abbrev scW : Memref sig .tc .vmem S1536x1280 .bf16 := Memref.whole cc0_scratch4

/-- Core `c` holds the memref's elements, the whole buffer's contents being `f`. -/
def ownsAt (c : Thread nD τ) {sp : Space} {sh : Shape} {e : EltTy} (m : Memref sig c.2.kind sp sh e) (f : m.view.ty.Contents (Elt F)) : sProp 𝕄 :=
  iprop(m.view.loc c ↦[m.view.set]{fullShare} f)

theorem ownsAt_rep (c : Thread nD τ) {sp : Space} {sh : Shape} {e : EltTy} (m : Memref sig c.2.kind sp sh e) (x : sh.Idx → Elt F e) :
    ownsAt c m (m.view.rep x) = owns c m fullShare x := by
  rw [owns_eq_rep]; rfl

abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

set_option maxHeartbeats 0 in
noncomputable def runA (c : Dev nD) (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) (fA : HbBuf0 (F := F) c hbA) (fB : HbBuf0 (F := F) c hbB)
    (fX : scX.view.ty.Contents (Elt F)) :
    Σ' (L5 : List (View.Piece (Elt F) S1920x1280 .bf16)) (L6 : List (View.Piece (Elt F) S1920x1280 .bf16)) (L8 : List (View.Piece (Elt F) S5x384 .f32))
       (LD LV : List (View.Piece (Elt F) S1920x1536 .bf16)), { LC : List (View.Piece (Elt F) S1920x1536 .i8) //
      ∀ (W : Waits sig Unit) (K : PUnit → sProp 𝕄),
        iprop(ownsAt (c : Thread nD τ) arg3 (arg3.view.rep x3)
            ∗ ownsAt (c : Thread nD τ) arg4 (arg4.view.rep x4)
            ∗ (∃ d, owns (c : Thread nD τ) arg5 fullShare d)
            ∗ (∃ d, owns (c : Thread nD τ) arg6 fullShare d)
            ∗ (∃ d, owns (c : Thread nD τ) arg8 fullShare d)
            ∗ ownsAt (c : Thread nD τ) scX fX
            ∗ (∃ d, owns (c : Thread nD τ) scD fullShare d)
            ∗ (∃ d, owns (c : Thread nD τ) scV fullShare d)
            ∗ (∃ d, owns (c : Thread nD τ) scC fullShare d)
            ∗ (∃ d, owns (c : Thread nD τ) scW fullShare d)
            ∗ semVal ((c : Thread nD τ), SemLoc.dma 9) 0 ∗ semVal ((c : Thread nD τ), SemLoc.dma 10) 0
            ∗ semVal ((c : Thread nD τ), SemLoc.dma 11) 0 ∗ semVal ((c : Thread nD τ), SemLoc.dma 12) 0
            ∗ semVal ((c : Thread nD τ), SemLoc.dma 13) 0
            ∗ hbPt0 c hbA fA ∗ hbPt0 c hbB fB ∗ (∃ d, owns (c : Thread nD τ) hbC fullShare d)
            ∗ owes (c : Thread nD τ) 0 W
            ∗ (iprop(ownsAt (c : Thread nD τ) arg3 (arg3.view.rep x3)
            ∗ ownsAt (c : Thread nD τ) arg4 (arg4.view.rep x4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg8.view.loc (c : Thread nD τ) ↦[arg8.view.set]{fullShare} arg8.view.writes (Elt F) f L8)
                ∗ (∃ d, owns (c : Thread nD τ) scX fullShare d)
                ∗ (∃ f, scD.view.loc (c : Thread nD τ) ↦[scD.view.set]{fullShare} scD.view.writes (Elt F) f LD)
                ∗ (∃ f, scV.view.loc (c : Thread nD τ) ↦[scV.view.set]{fullShare} scV.view.writes (Elt F) f LV)
                ∗ (∃ d, owns (c : Thread nD τ) scW fullShare d)
                ∗ semVal ((c : Thread nD τ), SemLoc.dma 9) 0 ∗ semVal ((c : Thread nD τ), SemLoc.dma 10) 0
                ∗ semVal ((c : Thread nD τ), SemLoc.dma 11) 0 ∗ semVal ((c : Thread nD τ), SemLoc.dma 12) 0
                ∗ hbPt0 c hbA fA ∗ hbPt0 c hbB fB
                ∗ (∃ D fO fC, ⌜D = iprop((hbC.view.loc (c : Thread nD τ) ↦[hbC.view.set]{fullShare} hbC.view.writes (Elt F) fO [⟨Rect.whole S1920x1536, ReadAs.same.apply (scC.view.read (Elt F) (scC.view.writes (Elt F) fC LC))⟩])
                      ∗ (scC.view.loc (c : Thread nD τ) ↦[scC.view.set]{fullShare} scC.view.writes (Elt F) fC LC))⌝
                    ∗ Transfers.Flight (countersEmb (U := Pipeline.UD sig nD τ)) (c : Thread nD τ) (SemLoc.dma 13) default 92160 D)
                ∗ (∃ W', owes (c : Thread nD τ) 0 W')) -∗ K ⟨⟩))
          ⊢ wp frame (wpE (defs₀ (F := F)) Variants.none c none) Set.univ
              (cc0_qspec_linear i hbA (Memref.isWhole_whole _) hbB (Memref.isWhole_whole _) arg3 harg3 arg4 harg4 arg5 harg5 arg6 harg6
                hbC (Memref.isWhole_whole _) arg8 harg8 scX (Memref.isWhole_whole _) scD (Memref.isWhole_whole _) scV (Memref.isWhole_whole _)
                scC (Memref.isWhole_whole _) scW (Memref.isWhole_whole _) cc0_scratch5 cc0_scratch6) K } := by
  refine ⟨?_, ?_, ?_, ?_, ?_, ?LC, fun W K => ?run⟩
  case run =>
    simp only [cc0_qspec_linear_eq_skeleton]; unfold cc0_qspec_linear_skel
    unfold owns ownsAt
    iintro ⟨H3, H4, ⟨%d5, %f5, -, H5⟩, ⟨%d6, %f6, -, H6⟩, ⟨%d8, %f8, -, H8⟩, HX, ⟨%dD, %fD, -, HD⟩, ⟨%dV, %fV, -, HV⟩, ⟨%dC, %fC, -, HC⟩, ⟨%dW, %fW, -, HW⟩,
      Hq9, Hq10, Hq11, Hq12, Hq13, HA, HB, ⟨%dO, %fO, -, HO⟩, Hw, Hk⟩
    set_option sl_exec.squeezeSlice true in
    set_option sl_exec.dmaWindow true in
    set_option sl_exec.dmaWindowSet true in
    sl_exec_parts
    sl_step
    iapply Hk
    isplitl [H3]; · iexact H3
    isplitl [H4]; · iexact H4
    isplitl [H5]; · iexists _; iexact H5
    isplitl [H6]; · iexists _; iexact H6
    isplitl [H8]; · iexists _; iexact H8
    isplitl [HX]
    · iexists _, _; isplitr; swap; · iexact HX
      ipureintro; rfl
    isplitl [HD]; · iexists _; iexact HD
    isplitl [HV]; · iexists _; iexact HV
    isplitl [HW]
    · iexists _, _; isplitr; swap; · iexact HW
      ipureintro; rfl
    isplitl [Hq9]; · iexact Hq9
    isplitl [Hq10]; · iexact Hq10
    isplitl [Hq11]; · iexact Hq11
    isplitl [Hq12]; · iexact Hq12
    isplitl [HA]; · iexact HA
    isplitl [HB]; · iexact HB
    isplitl [Hq13]
    · iexists _, fO, fC; isplitr; swap; · iexact Hq13
      ipureintro
      refine congrArg₂ (fun a b => iprop((hbC.view.loc (c : Thread nD τ) ↦[hbC.view.set]{fullShare} a)
                      ∗ (scC.view.loc (c : Thread nD τ) ↦[scC.view.set]{fullShare} b))) ?h1 ?h2
      case LC => exact runA.sl.HC_5 c fA fB fX
      case h2 => rfl
      case h1 => delta runA.sl.dma50; rfl
    iexists _; iexact Hw

set_option maxHeartbeats 0 in
noncomputable def runB (c : Dev nD) (i : grid0.Coords) (hc1 : ¬ k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) (x8 : Vec F S5x384 .f32) (xd xv : Vec F S1920x1536 .bf16) :
    Σ' (L5 : List (View.Piece (Elt F) S1920x1280 .bf16)), { L6 : List (View.Piece (Elt F) S1920x1280 .bf16) //
      ∀ (K : PUnit → sProp 𝕄),
        iprop(ownsAt (c : Thread nD τ) arg3 (arg3.view.rep x3)
            ∗ ownsAt (c : Thread nD τ) arg4 (arg4.view.rep x4)
            ∗ (∃ d, owns (c : Thread nD τ) arg5 fullShare d)
            ∗ (∃ d, owns (c : Thread nD τ) arg6 fullShare d)
            ∗ ownsAt (c : Thread nD τ) arg8 (arg8.view.rep x8)
            ∗ ownsAt (c : Thread nD τ) scD (scD.view.rep xd)
            ∗ ownsAt (c : Thread nD τ) scV (scV.view.rep xv)
            ∗ (∃ d, owns (c : Thread nD τ) scW fullShare d)
            ∗ (iprop(ownsAt (c : Thread nD τ) arg3 (arg3.view.rep x3)
                ∗ ownsAt (c : Thread nD τ) arg4 (arg4.view.rep x4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ ownsAt (c : Thread nD τ) arg8 (arg8.view.rep x8)
                ∗ ownsAt (c : Thread nD τ) scD (scD.view.rep xd)
                ∗ ownsAt (c : Thread nD τ) scV (scV.view.rep xv)
                ∗ (∃ d, owns (c : Thread nD τ) scW fullShare d)) -∗ K ⟨⟩))
          ⊢ wp frame (wpE (defs₀ (F := F)) Variants.none c none) Set.univ
              (cc0_qspec_linear i hbA (Memref.isWhole_whole _) hbB (Memref.isWhole_whole _) arg3 harg3 arg4 harg4 arg5 harg5 arg6 harg6
                hbC (Memref.isWhole_whole _) arg8 harg8 scX (Memref.isWhole_whole _) scD (Memref.isWhole_whole _) scV (Memref.isWhole_whole _)
                scC (Memref.isWhole_whole _) scW (Memref.isWhole_whole _) cc0_scratch5 cc0_scratch6) K } := by
  refine ⟨?_, ?_, fun K => ?run⟩
  case run =>
    simp only [cc0_qspec_linear_eq_skeleton]; unfold cc0_qspec_linear_skel
    unfold owns ownsAt
    iintro ⟨H3, H4, ⟨%d5, %f5, -, H5⟩, ⟨%d6, %f6, -, H6⟩, H8, HD, HV, ⟨%dW, %fW, -, HW⟩, Hk⟩
    sl_exec_parts
    sl_step
    iapply Hk
    isplitl [H3]; · iexact H3
    isplitl [H4]; · iexact H4
    isplitl [H5]; · iexists _; iexact H5
    isplitl [H6]; · iexists _; iexact H6
    isplitl [H8]; · iexact H8
    isplitl [HD]; · iexact HD
    isplitl [HV]; · iexact HV
    iexists _, _; isplitr; swap; · iexact HW
    ipureintro; rfl

set_option maxHeartbeats 0 in
noncomputable def runC (c : Dev nD) (i : grid0.Coords) (hc1 : ¬ k0_cond1 i = 1#1) (hc2 : lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) (x8 : Vec F S5x384 .f32) (xd xv : Vec F S1920x1536 .bf16)
    (fO : HbBuf0 (F := F) c hbC) (fC : scC.view.ty.Contents (Elt F)) :
    Σ' (L5 : List (View.Piece (Elt F) S1920x1280 .bf16)), { L6 : List (View.Piece (Elt F) S1920x1280 .bf16) //
      ∀ (W : Waits sig Unit) (K : PUnit → sProp 𝕄),
        iprop(ownsAt (c : Thread nD τ) arg3 (arg3.view.rep x3)
            ∗ ownsAt (c : Thread nD τ) arg4 (arg4.view.rep x4)
            ∗ (∃ d, owns (c : Thread nD τ) arg5 fullShare d)
            ∗ (∃ d, owns (c : Thread nD τ) arg6 fullShare d)
            ∗ ownsAt (c : Thread nD τ) arg8 (arg8.view.rep x8)
            ∗ ownsAt (c : Thread nD τ) scD (scD.view.rep xd)
            ∗ ownsAt (c : Thread nD τ) scV (scV.view.rep xv)
            ∗ (∃ d, owns (c : Thread nD τ) scW fullShare d)
            ∗ Transfers.Flight (countersEmb (U := Pipeline.UD sig nD τ)) (c : Thread nD τ) (SemLoc.dma 13) () 92160
                    iprop((hbC.view.loc (c : Thread nD τ) ↦[hbC.view.set]{fullShare} fO)
                      ∗ (scC.view.loc (c : Thread nD τ) ↦[scC.view.set]{fullShare} fC))
            ∗ owes (c : Thread nD τ) 0 W
            ∗ (iprop(ownsAt (c : Thread nD τ) arg3 (arg3.view.rep x3)
                ∗ ownsAt (c : Thread nD τ) arg4 (arg4.view.rep x4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ ownsAt (c : Thread nD τ) arg8 (arg8.view.rep x8)
                ∗ ownsAt (c : Thread nD τ) scD (scD.view.rep xd)
                ∗ ownsAt (c : Thread nD τ) scV (scV.view.rep xv)
                ∗ (∃ d, owns (c : Thread nD τ) scW fullShare d)
                ∗ semVal ((c : Thread nD τ), SemLoc.dma 13) 0
                ∗ ownsAt (c : Thread nD τ) hbC fO ∗ ownsAt (c : Thread nD τ) scC fC
                ∗ (∃ W', owes (c : Thread nD τ) 0 W')) -∗ K ⟨⟩))
          ⊢ wp frame (wpE (defs₀ (F := F)) Variants.none c none) Set.univ
              (cc0_qspec_linear i hbA (Memref.isWhole_whole _) hbB (Memref.isWhole_whole _) arg3 harg3 arg4 harg4 arg5 harg5 arg6 harg6
                hbC (Memref.isWhole_whole _) arg8 harg8 scX (Memref.isWhole_whole _) scD (Memref.isWhole_whole _) scV (Memref.isWhole_whole _)
                scC (Memref.isWhole_whole _) scW (Memref.isWhole_whole _) cc0_scratch5 cc0_scratch6) K } := by
  refine ⟨?_, ?_, fun W K => ?run⟩
  case run =>
    simp only [cc0_qspec_linear_eq_skeleton]; unfold cc0_qspec_linear_skel
    unfold owns ownsAt
    iintro ⟨H3, H4, ⟨%d5, %f5, -, H5⟩, ⟨%d6, %f6, -, H6⟩, H8, HD, HV, ⟨%dW, %fW, -, HW⟩, Hq, Hw, Hk⟩
    sl_exec_parts
    sl_step
    iapply Hk
    isplitl [H3]; · iexact H3
    isplitl [H4]; · iexact H4
    isplitl [H5]; · iexists _; iexact H5
    isplitl [H6]; · iexists _; iexact H6
    isplitl [H8]; · iexact H8
    isplitl [HD]; · iexact HD
    isplitl [HV]; · iexact HV
    isplitl [HW]
    · iexists _, _; isplitr; swap; · iexact HW
      ipureintro; rfl
    isplitl [Hq]; · iexact Hq
    isplitl [Hq_dst]; · iexact Hq_dst
    isplitl [Hq_src]; · iexact Hq_src
    iexists _; iexact Hw

end Cert.Kernel.Hand

end
-- ==== Proof.KSlot.lean ====
/-
  What each load of a chunk of the activations reads at the first grid point: the chunk, as the copy into the slot
  brought it, whatever the slots held before.
-/
module

public import proofs.«01_k».proof.Proof.KRun
public import Idealize.ShloMosaic.Lib.Pipeline.Value

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Slot

variable {sg : RefSig} {κ : Kind} {sp : Space} {s s' : Shape} {e : EltTy} {Val : EltTy → Type}

/-- A load at a slot just written through its squeezed view reads the payload, with the unit axes put back. -/
theorem slot_hit (M : Memref sg κ sp s e) (r : Rect s) (hr : ∀ a, r.stride a = 1) (hq : r.shape.Squeezes s')
    (hc : s'.ShapeCasts r.shape) (f : M.view.ty.Contents Val) (w : s'.Idx → Val e) :
    M.view.readAt Val r.toLoadRect (((M.slice r hr).squeeze s' hq).view.write Val f w Finset.univ) = shapeCast r.shape w hc := by
  have h' : shapeCast s' (M.view.readAt Val r.toLoadRect (((M.slice r hr).squeeze s' hq).view.write Val f w Finset.univ)) hc.symm = w :=
    View.read_write_univ (v := ((M.slice r hr).squeeze s' hq).view) f w
  conv_rhs => rw [← h', shapeCast_shapeCast]

/-- A load at a slot does not see what was written to another. -/
theorem slot_miss (M : Memref sg κ sp s e) (r r' : Rect s) (hr : ∀ a, r'.stride a = 1) (hq : r'.shape.Squeezes s')
    (hd : Disjoint r.set r'.set) (f : M.view.ty.Contents Val) (w : s'.Idx → Val e) :
    M.view.readAt Val r.toLoadRect (((M.slice r' hr).squeeze s' hq).view.write Val f w Finset.univ) = M.view.readAt Val r.toLoadRect f := by
  rw [View.readAt_rect, View.readAt_rect]
  refine View.read_congr fun i hi => View.write_of_not_mem _ _ _ ?_
  have e1 : ((M.slice r' hr).squeeze s' hq).view.setOn Finset.univ = r'.set.map M.view.emb := by
    rw [View.setOn_univ, Memref.set_view_squeeze]; exact View.set_slice _ _
  rw [e1]
  rw [View.set_slice] at hi
  exact fun h => (Finset.disjoint_left.mp ((Finset.disjoint_map _).mpr hd)) hi h

end Slot

theorem up_hc : S384x1536.ShapeCasts S1x1x384x1536 := by decide

/-- The chunk the load `v1506` reads. -/
theorem v1506_eq (c : Dev nD) (fA : HbBuf0 (F := F) c hbA) (fB : HbBuf0 (F := F) c hbB) (fX : scX.view.ty.Contents (Elt F)) :
    runA.sl.v1506 c fA fB fX = shapeCast S1x1x384x1536 (runA.sl.dma0 c fA) up_hc := by
  unfold runA.sl.v1506
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1553` reads. -/
theorem v1553_eq (c : Dev nD) (fA : HbBuf0 (F := F) c hbA) (fB : HbBuf0 (F := F) c hbB) (fX : scX.view.ty.Contents (Elt F)) :
    runA.sl.v1553 c fA fB fX = shapeCast S1x1x384x1536 (runA.sl.dma0_1 c fB) up_hc := by
  unfold runA.sl.v1553
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1594` reads. -/
theorem v1594_eq (c : Dev nD) (fA : HbBuf0 (F := F) c hbA) (fB : HbBuf0 (F := F) c hbB) (fX : scX.view.ty.Contents (Elt F)) :
    runA.sl.v1594 c fA fB fX = shapeCast S1x1x384x1536 (runA.sl.dma0_2 c fA) up_hc := by
  unfold runA.sl.v1594
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1641` reads. -/
theorem v1641_eq (c : Dev nD) (fA : HbBuf0 (F := F) c hbA) (fB : HbBuf0 (F := F) c hbB) (fX : scX.view.ty.Contents (Elt F)) :
    runA.sl.v1641 c fA fB fX = shapeCast S1x1x384x1536 (runA.sl.dma0_3 c fB) up_hc := by
  unfold runA.sl.v1641
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1682` reads. -/
theorem v1682_eq (c : Dev nD) (fA : HbBuf0 (F := F) c hbA) (fB : HbBuf0 (F := F) c hbB) (fX : scX.view.ty.Contents (Elt F)) :
    runA.sl.v1682 c fA fB fX = shapeCast S1x1x384x1536 (runA.sl.dma10 c fA) up_hc := by
  unfold runA.sl.v1682
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1729` reads. -/
theorem v1729_eq (c : Dev nD) (fA : HbBuf0 (F := F) c hbA) (fB : HbBuf0 (F := F) c hbB) (fX : scX.view.ty.Contents (Elt F)) :
    runA.sl.v1729 c fA fB fX = shapeCast S1x1x384x1536 (runA.sl.dma10_1 c fB) up_hc := by
  unfold runA.sl.v1729
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1770` reads. -/
theorem v1770_eq (c : Dev nD) (fA : HbBuf0 (F := F) c hbA) (fB : HbBuf0 (F := F) c hbB) (fX : scX.view.ty.Contents (Elt F)) :
    runA.sl.v1770 c fA fB fX = shapeCast S1x1x384x1536 (runA.sl.dma20 c fA) up_hc := by
  unfold runA.sl.v1770
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1817` reads. -/
theorem v1817_eq (c : Dev nD) (fA : HbBuf0 (F := F) c hbA) (fB : HbBuf0 (F := F) c hbB) (fX : scX.view.ty.Contents (Elt F)) :
    runA.sl.v1817 c fA fB fX = shapeCast S1x1x384x1536 (runA.sl.dma20_1 c fB) up_hc := by
  unfold runA.sl.v1817
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1848` reads. -/
theorem v1848_eq (c : Dev nD) (fA : HbBuf0 (F := F) c hbA) (fB : HbBuf0 (F := F) c hbB) (fX : scX.view.ty.Contents (Elt F)) :
    runA.sl.v1848 c fA fB fX = shapeCast S1x1x384x1536 (runA.sl.dma30 c fA) up_hc := by
  unfold runA.sl.v1848
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1895` reads. -/
theorem v1895_eq (c : Dev nD) (fA : HbBuf0 (F := F) c hbA) (fB : HbBuf0 (F := F) c hbB) (fX : scX.view.ty.Contents (Elt F)) :
    runA.sl.v1895 c fA fB fX = shapeCast S1x1x384x1536 (runA.sl.dma30_1 c fB) up_hc := by
  unfold runA.sl.v1895
  repeat first
    | exact slot_hit (e := .bf16) scX _ _ _ up_hc _ _
    | rw [slot_miss scX _ _ _ _ (by first | exact Rect.unit_disjoint (0 : Fin 4) (by decide) | exact Rect.unit_disjoint (1 : Fin 4) (by decide))]

end Cert.Kernel.Hand

end
-- ==== Proof.KIndep.lean ====
/-
  What the first grid point leaves in its buffers does not depend on what the slots for the activations held before.
-/
module

public import proofs.«01_k».proof.Proof.KSlot

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (fA : HbBuf0 (F := F) c hbA) (fB : HbBuf0 (F := F) c hbB) (fX fX' : scX.view.ty.Contents (Elt F))

theorem HD_5_indep : runA.sl.HD_5 c fA fB fX = runA.sl.HD_5 c fA fB fX' := by
  simp only [runA.sl.HC_3, runA.sl.r_7, runA.sl.r_16, runA.sl.r_17, runA.sl.HD_1, runA.sl.HD_2, runA.sl.H8_5, runA.sl.r_10, runA.sl.r_2, runA.sl.HV_2, runA.sl.HV_5, runA.sl.r_23, runA.sl.r_5, runA.sl.r_76, runA.sl.r_72, runA.sl.r_22, runA.sl.r_3, runA.sl.r_1, runA.sl.r_4, runA.sl.r_18, runA.sl.r_20, runA.sl.r_19, runA.sl.HC_1, runA.sl.HC_2, runA.sl.r_24, runA.sl.r_6, runA.sl.r_74, runA.sl.r_21, runA.sl.H8_4, runA.sl.r_25, runA.sl.HC_5, runA.sl.H8_1, runA.sl.H8_2, runA.sl.r_75, runA.sl.HD_4, runA.sl.r_73, runA.sl.H8_3, runA.sl.r_11, runA.sl.r_13, runA.sl.HV_3, runA.sl.r_12, runA.sl.HV_4, runA.sl.r_15, runA.sl.HV_1, runA.sl.r_9, runA.sl.HC_4, runA.sl.r_14, runA.sl.r_77, runA.sl.HD_5, runA.sl.HD_3, runA.sl.r_8, v1506_eq, v1553_eq, v1594_eq, v1641_eq, v1682_eq, v1729_eq, v1770_eq, v1817_eq, v1848_eq, v1895_eq]

theorem HV_5_indep : runA.sl.HV_5 c fA fB fX = runA.sl.HV_5 c fA fB fX' := by
  simp only [runA.sl.HC_3, runA.sl.r_7, runA.sl.r_16, runA.sl.r_17, runA.sl.HD_1, runA.sl.HD_2, runA.sl.H8_5, runA.sl.r_10, runA.sl.r_2, runA.sl.HV_2, runA.sl.HV_5, runA.sl.r_23, runA.sl.r_5, runA.sl.r_76, runA.sl.r_72, runA.sl.r_22, runA.sl.r_3, runA.sl.r_1, runA.sl.r_4, runA.sl.r_18, runA.sl.r_20, runA.sl.r_19, runA.sl.HC_1, runA.sl.HC_2, runA.sl.r_24, runA.sl.r_6, runA.sl.r_74, runA.sl.r_21, runA.sl.H8_4, runA.sl.r_25, runA.sl.HC_5, runA.sl.H8_1, runA.sl.H8_2, runA.sl.r_75, runA.sl.HD_4, runA.sl.r_73, runA.sl.H8_3, runA.sl.r_11, runA.sl.r_13, runA.sl.HV_3, runA.sl.r_12, runA.sl.HV_4, runA.sl.r_15, runA.sl.HV_1, runA.sl.r_9, runA.sl.HC_4, runA.sl.r_14, runA.sl.r_77, runA.sl.HD_5, runA.sl.HD_3, runA.sl.r_8, v1506_eq, v1553_eq, v1594_eq, v1641_eq, v1682_eq, v1729_eq, v1770_eq, v1817_eq, v1848_eq, v1895_eq]

theorem HC_5_indep : runA.sl.HC_5 c fA fB fX = runA.sl.HC_5 c fA fB fX' := by
  simp only [runA.sl.HC_3, runA.sl.r_7, runA.sl.r_16, runA.sl.r_17, runA.sl.HD_1, runA.sl.HD_2, runA.sl.H8_5, runA.sl.r_10, runA.sl.r_2, runA.sl.HV_2, runA.sl.HV_5, runA.sl.r_23, runA.sl.r_5, runA.sl.r_76, runA.sl.r_72, runA.sl.r_22, runA.sl.r_3, runA.sl.r_1, runA.sl.r_4, runA.sl.r_18, runA.sl.r_20, runA.sl.r_19, runA.sl.HC_1, runA.sl.HC_2, runA.sl.r_24, runA.sl.r_6, runA.sl.r_74, runA.sl.r_21, runA.sl.H8_4, runA.sl.r_25, runA.sl.HC_5, runA.sl.H8_1, runA.sl.H8_2, runA.sl.r_75, runA.sl.HD_4, runA.sl.r_73, runA.sl.H8_3, runA.sl.r_11, runA.sl.r_13, runA.sl.HV_3, runA.sl.r_12, runA.sl.HV_4, runA.sl.r_15, runA.sl.HV_1, runA.sl.r_9, runA.sl.HC_4, runA.sl.r_14, runA.sl.r_77, runA.sl.HD_5, runA.sl.HD_3, runA.sl.r_8, v1506_eq, v1553_eq, v1594_eq, v1641_eq, v1682_eq, v1729_eq, v1770_eq, v1817_eq, v1848_eq, v1895_eq]

theorem H8_5_indep : runA.sl.H8_5 c fA fB fX = runA.sl.H8_5 c fA fB fX' := by
  simp only [runA.sl.HC_3, runA.sl.r_7, runA.sl.r_16, runA.sl.r_17, runA.sl.HD_1, runA.sl.HD_2, runA.sl.H8_5, runA.sl.r_10, runA.sl.r_2, runA.sl.HV_2, runA.sl.HV_5, runA.sl.r_23, runA.sl.r_5, runA.sl.r_76, runA.sl.r_72, runA.sl.r_22, runA.sl.r_3, runA.sl.r_1, runA.sl.r_4, runA.sl.r_18, runA.sl.r_20, runA.sl.r_19, runA.sl.HC_1, runA.sl.HC_2, runA.sl.r_24, runA.sl.r_6, runA.sl.r_74, runA.sl.r_21, runA.sl.H8_4, runA.sl.r_25, runA.sl.HC_5, runA.sl.H8_1, runA.sl.H8_2, runA.sl.r_75, runA.sl.HD_4, runA.sl.r_73, runA.sl.H8_3, runA.sl.r_11, runA.sl.r_13, runA.sl.HV_3, runA.sl.r_12, runA.sl.HV_4, runA.sl.r_15, runA.sl.HV_1, runA.sl.r_9, runA.sl.HC_4, runA.sl.r_14, runA.sl.r_77, runA.sl.HD_5, runA.sl.HD_3, runA.sl.r_8, v1506_eq, v1553_eq, v1594_eq, v1641_eq, v1682_eq, v1729_eq, v1770_eq, v1817_eq, v1848_eq, v1895_eq]

theorem runA_L8 (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) :
    (runA c i hc1 hc2 arg3 harg3 arg4 harg4 arg5 harg5 arg6 harg6 arg8 harg8 x3 x4 fA fB fX).2.2.1 = runA.sl.H8_5 c fA fB fX := rfl

theorem runA_LD (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) :
    (runA c i hc1 hc2 arg3 harg3 arg4 harg4 arg5 harg5 arg6 harg6 arg8 harg8 x3 x4 fA fB fX).2.2.2.1 = runA.sl.HD_5 c fA fB fX := rfl

theorem runA_LV (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) :
    (runA c i hc1 hc2 arg3 harg3 arg4 harg4 arg5 harg5 arg6 harg6 arg8 harg8 x3 x4 fA fB fX).2.2.2.2.1 = runA.sl.HV_5 c fA fB fX := rfl

theorem runA_LC (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) :
    (runA c i hc1 hc2 arg3 harg3 arg4 harg4 arg5 harg5 arg6 harg6 arg8 harg8 x3 x4 fA fB fX).2.2.2.2.2.1 = runA.sl.HC_5 c fA fB fX := rfl

theorem runA_L5_indep (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) :
    (runA c i hc1 hc2 arg3 harg3 arg4 harg4 arg5 harg5 arg6 harg6 arg8 harg8 x3 x4 fA fB fX).1 = (runA c i hc1 hc2 arg3 harg3 arg4 harg4 arg5 harg5 arg6 harg6 arg8 harg8 x3 x4 fA fB fX').1 := by
  unfold runA; dsimp only
  simp only [runA.sl.dma50, runA.sl.H6_5, runA.sl.H6_3, runA.sl.H5_15, runA.sl.v1166, runA.sl.H5_17, runA.sl.H6_2, runA.sl.H5_20, runA.sl.H5_8, runA.sl.v1157, runA.sl.H5_2, runA.sl.v1193, runA.sl.v1155, runA.sl.H5_5, runA.sl.v1164, runA.sl.v1184, runA.sl.v1175, runA.sl.v1151, runA.sl.H5_11, runA.sl.H6_1, runA.sl.v1173, runA.sl.H6_4, runA.sl.v1182, runA.sl.v1191, runA.sl.r_72, runA.sl.r_73, runA.sl.r_74, runA.sl.r_75, runA.sl.r_76, runA.sl.r_77]
  simp only [HD_5_indep c fA fB fX fX', HV_5_indep c fA fB fX fX', H8_5_indep c fA fB fX fX']

theorem runA_L6_indep (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) :
    (runA c i hc1 hc2 arg3 harg3 arg4 harg4 arg5 harg5 arg6 harg6 arg8 harg8 x3 x4 fA fB fX).2.1 = (runA c i hc1 hc2 arg3 harg3 arg4 harg4 arg5 harg5 arg6 harg6 arg8 harg8 x3 x4 fA fB fX').2.1 := by
  unfold runA; dsimp only
  simp only [runA.sl.dma50, runA.sl.H6_5, runA.sl.H6_3, runA.sl.H5_15, runA.sl.v1166, runA.sl.H5_17, runA.sl.H6_2, runA.sl.H5_20, runA.sl.H5_8, runA.sl.v1157, runA.sl.H5_2, runA.sl.v1193, runA.sl.v1155, runA.sl.H5_5, runA.sl.v1164, runA.sl.v1184, runA.sl.v1175, runA.sl.v1151, runA.sl.H5_11, runA.sl.H6_1, runA.sl.v1173, runA.sl.H6_4, runA.sl.v1182, runA.sl.v1191, runA.sl.r_72, runA.sl.r_73, runA.sl.r_74, runA.sl.r_75, runA.sl.r_76, runA.sl.r_77]
  simp only [HD_5_indep c fA fB fX fX', HV_5_indep c fA fB fX fX', H8_5_indep c fA fB fX fX']

end Cert.Kernel.Hand

end
-- ==== Proof.KPoints.lean ====
/-
  The kernel at its grid points: what its buffers hold before and after each,
  and that its argument arrays end as they began.
-/
module

public import proofs.«01_k».proof.Proof.KIndep
public import proofs.«01_k».proof.Proof.Gen.Kernel.Frame
public import Idealize.ShloMosaic.Lib.Pipeline.FrameValue
public import Idealize.ShloMosaic.Lib.Pipeline.Frame
public import Idealize.ShloMosaic.Lib.Pipeline.Kit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The grid points -/

theorem cond1_iff (t : Fin cfg0.N) : k0_cond1 (grid0.coords t) = 1#1 ↔ t.val = 0 := by
  rcases fin_N0 t with rfl | rfl | rfl | rfl | rfl | rfl | rfl <;> decide
theorem last_iff (t : Fin cfg0.N) : lastCond (grid0.coords t) ↔ t.val = 6 := by
  rcases fin_N0 t with rfl | rfl | rfl | rfl | rfl | rfl | rfl <;> decide

/-! ## The buffers the body moves itself -/

abbrev osem0 : Fin 5 → SemLoc sig := fun j => (![SemLoc.dma 9, SemLoc.dma 10, SemLoc.dma 11, SemLoc.dma 12, SemLoc.dma 13] : Fin 5 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0
          ∗ semVal ((c : Thread nD τ), SemLoc.dma 11) 0 ∗ semVal ((c : Thread nD τ), SemLoc.dma 12) 0
          ∗ semVal ((c : Thread nD τ), SemLoc.dma 13) 0) := by
  rw [Pipeline.ownSems0_eq_of_list c osem0 [0, 1, 2, 3, 4] (by decide) (by decide)]; rfl

/-- The arrays the body copies from. -/
def H0 : Finset (Ref sig .tc) := {main_v0, main_v1}
/-- The array the body copies to. -/
def R0 : Finset (Ref sig .tc) := {main_v2_2}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄)
      = iprop(hbPt0 c hbA (V m c main_v0) ∗ hbPt0 c hbB (V m c main_v1)) := by
  rw [BI.bigSep_eq_bigSepL_of_eq [main_v0, main_v1] (by decide) (by decide)]; rfl
theorem routed0_eq (c : Dev nD) (G : (b : Ref sig .tc) → Buf (Elt F) ((c : Thread nD τ).loc b)) :
    (Pipeline.routed R0 c G : sProp 𝕄) = owns (c : Thread nD τ) hbC fullShare (G main_v2_2) := by
  unfold Pipeline.routed
  rw [BI.bigSep_eq_bigSepL_of_eq [main_v2_2] (by decide) (by decide), owns_whole]; rfl

theorem PhiDR0_eq (c : Dev nD) (G : (c : Dev nD) → (b : Ref sig .tc) → Buf (Elt F) ((c : Thread nD τ).loc b)) :
    (Pipeline.ΦDRG osem0 spec0 H0 R0 (V m) G c : sProp 𝕄)
      = iprop(iprop((∃ d, owns (c : Thread nD τ) scX fullShare d) ∗ (∃ d, owns (c : Thread nD τ) scD fullShare d)
                ∗ (∃ d, owns (c : Thread nD τ) scV fullShare d) ∗ (∃ d, owns (c : Thread nD τ) scC fullShare d)
                ∗ (∃ d, owns (c : Thread nD τ) scW fullShare d))
          ∗ (∃ r, prngReg c r)
          ∗ iprop(semVal ((c : Thread nD τ), SemLoc.dma 9) 0 ∗ semVal ((c : Thread nD τ), SemLoc.dma 10) 0
              ∗ semVal ((c : Thread nD τ), SemLoc.dma 11) 0 ∗ semVal ((c : Thread nD τ), SemLoc.dma 12) 0
              ∗ semVal ((c : Thread nD τ), SemLoc.dma 13) 0)
          ∗ iprop(hbPt0 c hbA (V m c main_v0) ∗ hbPt0 c hbB (V m c main_v1))
          ∗ owns (c : Thread nD τ) hbC fullShare (G c main_v2_2)) := by
  rw [Pipeline.ΦDRG_eq, scopedRest0_eq, ownSems00_eq, hbmPts0_eq, routed0_eq]
  simp only [scX, scD, scV, scC, scW, hbC, owns_whole]; try rfl

/-- A buffer written with pieces that cover it is held at what the pieces say. -/
theorem owns_of_writes (c : Thread nD τ) {sp : Space} {sh : Shape} {e : EltTy} (M : Memref sig c.2.kind sp sh e)
    (f : M.view.ty.Contents (Elt F)) (L : List (View.Piece (Elt F) sh e)) (h : ∀ y, ∃ p ∈ L, y ∈ p.1.set) :
    (M.view.loc c ↦[M.view.set]{fullShare} M.view.writes (Elt F) f L : sProp 𝕄) ⊢ owns c M fullShare (View.canon L) := by
  unfold owns; iintro H; iexists _; isplitr
  swap; · iexact H
  ipureintro; exact View.read_writes_eq_canon _ _ _ h

theorem owns_of_ownsAt (c : Thread nD τ) {sp : Space} {sh : Shape} {e : EltTy} (M : Memref sig c.2.kind sp sh e)
    (f : M.view.ty.Contents (Elt F)) : (ownsAt c M f : sProp 𝕄) ⊢ owns c M fullShare (M.view.read (Elt F) f) := by
  unfold owns ownsAt; iintro H; iexists _; isplitr
  swap; · iexact H
  ipureintro; rfl

/-! ## What the first grid point leaves -/

/-- The rotated activations for the data product. -/
def XD (c : Dev nD) : Vec F S1920x1536 .bf16 := View.canon (runA.sl.HD_5 c (V m c main_v0) (V m c main_v1) scX.view.junk)
/-- The rotated activations for the other product. -/
def XV (c : Dev nD) : Vec F S1920x1536 .bf16 := View.canon (runA.sl.HV_5 c (V m c main_v0) (V m c main_v1) scX.view.junk)
/-- The codes. -/
def CO (c : Dev nD) : Vec F S1920x1536 .i8 := View.canon (runA.sl.HC_5 c (V m c main_v0) (V m c main_v1) scX.view.junk)
/-- The scales. -/
def SC (c : Dev nD) : Vec F S5x384 .f32 := View.canon (runA.sl.H8_5 c (V m c main_v0) (V m c main_v1) scX.view.junk)

theorem cover_HD (c : Dev nD) (fA : HbBuf0 (F := F) c hbA) (fB : HbBuf0 (F := F) c hbB) (fX : scX.view.ty.Contents (Elt F)) (y : S1920x1536.Idx) :
    ∃ p ∈ runA.sl.HD_5 c fA fB fX, y ∈ p.1.set :=
  View.cover_of_tiledL (runA.sl.HD_5 c fA fB fX) S384x1536.size (by sl_kernel_rfl) y
theorem cover_HV (c : Dev nD) (fA : HbBuf0 (F := F) c hbA) (fB : HbBuf0 (F := F) c hbB) (fX : scX.view.ty.Contents (Elt F)) (y : S1920x1536.Idx) :
    ∃ p ∈ runA.sl.HV_5 c fA fB fX, y ∈ p.1.set :=
  View.cover_of_tiledL (runA.sl.HV_5 c fA fB fX) S384x1536.size (by sl_kernel_rfl) y
theorem cover_HC (c : Dev nD) (fA : HbBuf0 (F := F) c hbA) (fB : HbBuf0 (F := F) c hbB) (fX : scX.view.ty.Contents (Elt F)) (y : S1920x1536.Idx) :
    ∃ p ∈ runA.sl.HC_5 c fA fB fX, y ∈ p.1.set :=
  View.cover_of_tiledL (runA.sl.HC_5 c fA fB fX) S384x1536.size (by sl_kernel_rfl) y
theorem cover_H8 (c : Dev nD) (fA : HbBuf0 (F := F) c hbA) (fB : HbBuf0 (F := F) c hbB) (fX : scX.view.ty.Contents (Elt F)) (y : S5x384.Idx) :
    ∃ p ∈ runA.sl.H8_5 c fA fB fX, y ∈ p.1.set :=
  View.cover_of_tiledL (runA.sl.H8_5 c fA fB fX) ![1, 384] (by sl_kernel_rfl) y

/-! ## What each grid point leaves in the two products' blocks -/

abbrev ms0_0 (t : Fin cfg0.N) : Memref sig .tc .vmem S1536x640 .i8 := win0_0.stage (cfg0.slots t 0)
abbrev ms0_1 (t : Fin cfg0.N) : Memref sig .tc .vmem S12x1280 .f32 := win0_1.stage (cfg0.slots t 1)
abbrev ms0_2 (t : Fin cfg0.N) : Memref sig .tc .vmem S1920x1280 .bf16 := win0_2.stage (cfg0.slots t 2)
abbrev ms0_3 (t : Fin cfg0.N) : Memref sig .tc .vmem S1920x1280 .bf16 := win0_3.stage (cfg0.slots t 3)
abbrev ms0_4 (t : Fin cfg0.N) : Memref sig .tc .vmem S5x384 .f32 := win0_4.stage (cfg0.slots t 4)
theorem hs0_0 (t : Fin cfg0.N) : (ms0_0 t).IsWhole := hstage0_0 ((cfg0.slots t 0).cast nbuf0_0)
theorem hs0_1 (t : Fin cfg0.N) : (ms0_1 t).IsWhole := hstage0_1 ((cfg0.slots t 1).cast nbuf0_1)
theorem hs0_2 (t : Fin cfg0.N) : (ms0_2 t).IsWhole := hstage0_2 ((cfg0.slots t 2).cast nbuf0_2)
theorem hs0_3 (t : Fin cfg0.N) : (ms0_3 t).IsWhole := hstage0_3 ((cfg0.slots t 3).cast nbuf0_3)
theorem hs0_4 (t : Fin cfg0.N) : (ms0_4 t).IsWhole := hstage0_4 ((cfg0.slots t 4).cast nbuf0_4)

/-- The run at the first grid point, at any earlier contents of the activations' slots. -/
abbrev rA (c : Dev nD) (t : Fin cfg0.N) (h : t.val = 0) (fX : scX.view.ty.Contents (Elt F)) :=
  runA c (grid0.coords t) ((cond1_iff t).2 h) (fun h' => by have := (last_iff t).1 h'; omega) (ms0_0 t) (hs0_0 t) (ms0_1 t) (hs0_1 t)
    (ms0_2 t) (hs0_2 t) (ms0_3 t) (hs0_3 t) (ms0_4 t) (hs0_4 t) (iblk m c 0 t) (iblk m c 1 t) (V m c main_v0) (V m c main_v1) fX
abbrev rB (c : Dev nD) (t : Fin cfg0.N) (h : ¬ t.val = 0) (h' : ¬ t.val = 6) :=
  runB c (grid0.coords t) (fun e => h ((cond1_iff t).1 e)) (fun e => h' ((last_iff t).1 e)) (ms0_0 t) (hs0_0 t) (ms0_1 t) (hs0_1 t)
    (ms0_2 t) (hs0_2 t) (ms0_3 t) (hs0_3 t) (ms0_4 t) (hs0_4 t) (iblk m c 0 t) (iblk m c 1 t) (SC m c) (XD m c) (XV m c)
abbrev rC (c : Dev nD) (t : Fin cfg0.N) (h : ¬ t.val = 0) (h' : t.val = 6) (fO : HbBuf0 (F := F) c hbC) (fC : scC.view.ty.Contents (Elt F)) :=
  runC c (grid0.coords t) (fun e => h ((cond1_iff t).1 e)) ((last_iff t).2 h') (ms0_0 t) (hs0_0 t) (ms0_1 t) (hs0_1 t)
    (ms0_2 t) (hs0_2 t) (ms0_3 t) (hs0_3 t) (ms0_4 t) (hs0_4 t) (iblk m c 0 t) (iblk m c 1 t) (SC m c) (XD m c) (XV m c) fO fC

/-- The data product's block after point `t`. -/
def out5 (c : Dev nD) (t : Fin cfg0.N) : Vec F S1920x1280 .bf16 :=
  if h : t.val = 0 then View.canon (rA m c t h scX.view.junk).1
  else if h' : t.val = 6 then View.canon (rC m c t h h' hbC.view.junk scC.view.junk).1
  else View.canon (rB m c t h h').1
/-- The other product's block after point `t`. -/
def out6 (c : Dev nD) (t : Fin cfg0.N) : Vec F S1920x1280 .bf16 :=
  if h : t.val = 0 then View.canon (rA m c t h scX.view.junk).2.1
  else if h' : t.val = 6 then View.canon (rC m c t h h' hbC.view.junk scC.view.junk).2.1
  else View.canon (rB m c t h h').2.1

theorem runC_L5_indep (c : Dev nD) (i : grid0.Coords) (hc1 : ¬ k0_cond1 i = 1#1) (hc2 : lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) (x8 : Vec F S5x384 .f32) (xd xv : Vec F S1920x1536 .bf16)
    (fO fO' : HbBuf0 (F := F) c hbC) (fC fC' : scC.view.ty.Contents (Elt F)) :
    (runC c i hc1 hc2 arg3 harg3 arg4 harg4 arg5 harg5 arg6 harg6 arg8 harg8 x3 x4 x8 xd xv fO fC).1 = (runC c i hc1 hc2 arg3 harg3 arg4 harg4 arg5 harg5 arg6 harg6 arg8 harg8 x3 x4 x8 xd xv fO' fC').1 := by
  unfold runC; dsimp only
theorem runC_L6 (c : Dev nD) (i : grid0.Coords) (hc1 : ¬ k0_cond1 i = 1#1) (hc2 : lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) (x8 : Vec F S5x384 .f32) (xd xv : Vec F S1920x1536 .bf16)
    (fO : HbBuf0 (F := F) c hbC) (fC : scC.view.ty.Contents (Elt F)) :
    (runC c i hc1 hc2 arg3 harg3 arg4 harg4 arg5 harg5 arg6 harg6 arg8 harg8 x3 x4 x8 xd xv fO fC).2.1 = runC.sl.H6_5 c arg3 arg4 x3 x4 xv := rfl

theorem cover_rA5 (c : Dev nD) (t : Fin cfg0.N) (h : t.val = 0) (fX : scX.view.ty.Contents (Elt F)) (y : S1920x1280.Idx) :
    ∃ p ∈ (rA m c t h fX).1, y ∈ p.1.set :=
  View.cover_of_tiledL (rA m c t h fX).1 ![384, 256] (by sl_kernel_rfl) y
theorem cover_rA6 (c : Dev nD) (t : Fin cfg0.N) (h : t.val = 0) (fX : scX.view.ty.Contents (Elt F)) (y : S1920x1280.Idx) :
    ∃ p ∈ (rA m c t h fX).2.1, y ∈ p.1.set :=
  View.cover_of_tiledL (rA m c t h fX).2.1 ![1920, 256] (by sl_kernel_rfl) y
theorem cover_rB5 (c : Dev nD) (t : Fin cfg0.N) (h : ¬ t.val = 0) (h' : ¬ t.val = 6) (y : S1920x1280.Idx) :
    ∃ p ∈ (rB m c t h h').1, y ∈ p.1.set :=
  View.cover_of_tiledL (rB m c t h h').1 ![384, 256] (by sl_kernel_rfl) y
theorem cover_rB6 (c : Dev nD) (t : Fin cfg0.N) (h : ¬ t.val = 0) (h' : ¬ t.val = 6) (y : S1920x1280.Idx) :
    ∃ p ∈ (rB m c t h h').2.1, y ∈ p.1.set :=
  View.cover_of_tiledL (rB m c t h h').2.1 ![1920, 256] (by sl_kernel_rfl) y
theorem cover_rC5 (c : Dev nD) (t : Fin cfg0.N) (h : ¬ t.val = 0) (h' : t.val = 6) (fO : HbBuf0 (F := F) c hbC) (fC : scC.view.ty.Contents (Elt F)) (y : S1920x1280.Idx) :
    ∃ p ∈ (rC m c t h h' fO fC).1, y ∈ p.1.set :=
  View.cover_of_tiledL (rC m c t h h' fO fC).1 ![384, 256] (by sl_kernel_rfl) y
theorem cover_rC6 (c : Dev nD) (t : Fin cfg0.N) (h : ¬ t.val = 0) (h' : t.val = 6) (fO : HbBuf0 (F := F) c hbC) (fC : scC.view.ty.Contents (Elt F)) (y : S1920x1280.Idx) :
    ∃ p ∈ (rC m c t h h' fO fC).2.1, y ∈ p.1.set :=
  View.cover_of_tiledL (rC m c t h h' fO fC).2.1 ![1920, 256] (by sl_kernel_rfl) y

/-! ## The invariant and the pipeline's data -/

/-- Between the first and the last grid point: the rotated activations are in place and the codes are on their way. -/
def Mid (c : Dev nD) : sProp 𝕄 :=
  iprop((∃ d, owns (c : Thread nD τ) scX fullShare d) ∗ owns (c : Thread nD τ) scD fullShare (XD m c)
    ∗ owns (c : Thread nD τ) scV fullShare (XV m c) ∗ (∃ d, owns (c : Thread nD τ) scW fullShare d)
    ∗ (∃ r, prngReg c r)
    ∗ semVal ((c : Thread nD τ), SemLoc.dma 9) 0 ∗ semVal ((c : Thread nD τ), SemLoc.dma 10) 0
    ∗ semVal ((c : Thread nD τ), SemLoc.dma 11) 0 ∗ semVal ((c : Thread nD τ), SemLoc.dma 12) 0
    ∗ hbPt0 c hbA (V m c main_v0) ∗ hbPt0 c hbB (V m c main_v1)
    ∗ (∃ fC, Transfers.Flight (countersEmb (U := Pipeline.UD sig nD τ)) (c : Thread nD τ) (SemLoc.dma 13) () 92160
        iprop(ownsAt (c : Thread nD τ) hbC (hbC.view.rep (CO m c)) ∗ ownsAt (c : Thread nD τ) scC fC)))

/-- The kernel's buffers at the end: the codes' array at the codes. -/
def G (c : Dev nD) : (b : Ref sig .tc) → Buf (Elt F) ((c : Thread nD τ).loc b) := Function.update (V m c) main_v2_2 (CO m c)
theorem G_v2_2 (c : Dev nD) : G m c main_v2_2 = CO m c := by unfold G; exact Function.update_self ..

def Inv (c : Dev nD) (k : ℕ) : sProp 𝕄 :=
  if k = 0 then Pipeline.ΦDRG osem0 spec0 H0 R0 (V m) (V m) c
  else if k = 7 then Pipeline.ΦDRG osem0 spec0 H0 R0 (V m) (G m) c
  else Mid m c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => out5 m c t
    | ⟨3, _⟩ => out6 m c t
    | ⟨4, _⟩ => SC m c
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out5 m c t := by dsimp only [dats]
theorem after0_3 (c : Dev nD) (t : Fin cfg0.N) : (dats m 0 c).after 3 t = out6 m c t := by dsimp only [dats]
theorem after0_4 (c : Dev nD) (t : Fin cfg0.N) : (dats m 0 c).after 4 t = SC m c := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem idle4_first (t : Fin cfg0.N) (h : t.val = 0) : cfg0.idle 4 (cfg0.grid.coords t) = false := by
  show (!(k0_cond1 (grid0.coords t) == 1#1)) = false
  rw [(cond1_iff t).2 h]; rfl
theorem idle4_later (t : Fin cfg0.N) (h : ¬ t.val = 0) : cfg0.idle 4 (cfg0.grid.coords t) = true := by
  show (!(k0_cond1 (grid0.coords t) == 1#1)) = true
  have := mt (cond1_iff t).1 h
  rw [Bool.not_eq_true', beq_eq_false_iff_ne]; exact this
theorem flush4_early (t : Fin cfg0.N) (h : t.val < 6) : (cfg0.win 4).flush t = false := by
  rw [← Bool.not_eq_true, flush0_4]; have := t.isLt; have : cfg0.N = 7 := N_0; omega
/-- After the first grid point the scales' buffer holds the scales: later points leave it alone. -/
theorem before0_4_aux (c : Dev nD) : ∀ (n : ℕ) (t : Fin cfg0.N) (_ : t.val = n + 1) (d), (dats m 0 c).before 4 t d = SC m c
  | 0, t, hn, d => by
    have hlt : t.val < 7 := lt_of_lt_of_eq t.isLt N_0
    rw [(dats m 0 c).before_of_pos 4 t (by omega) ((cfg0.win 4).fetch_out rfl t) d, flush4_early _ (by simp only; omega), if_neg Bool.false_ne_true]
    unfold Dat.left
    rw [idle4_first _ (by simp only; omega)]
    unfold Dat.kept
    rw [Pipeline.fill_of_clip_none 4 _ (fun _ => rfl) d ((dats m 0 c).after 4 _), Window.fill_cut, after0_4]
  | n + 1, t, hn, d => by
    have hlt : t.val < 7 := lt_of_lt_of_eq t.isLt N_0
    rw [(dats m 0 c).before_of_pos 4 t (by omega) ((cfg0.win 4).fetch_out rfl t) d, flush4_early _ (by simp only; omega), if_neg Bool.false_ne_true]
    unfold Dat.left
    rw [idle4_later _ (by simp only; omega)]
    exact before0_4_aux c n _ (by simp only; omega) d
theorem before0_4 (c : Dev nD) (t : Fin cfg0.N) (ht : ¬ t.val = 0) (d) : (dats m 0 c).before 4 t d = SC m c :=
  before0_4_aux m c (t.val - 1) t (by omega) d
/-- The scales' buffer at the scales is what a grid point must leave there. -/
theorem leaves4 (c : Dev nD) (t : Fin cfg0.N) : owns (c : Thread nD τ) (ms0_4 t) fullShare (SC m c) ⊢ (dats m 0 c).leavesExact 4 t := by
  have hlt : t.val < 7 := lt_of_lt_of_eq t.isLt N_0
  unfold Dat.leavesExact
  by_cases h0 : t.val = 0
  · rw [idle4_first t h0]; dsimp only; rw [after0_4]
  · rw [idle4_later t h0]; dsimp only
    by_cases h6 : t.val = 6
    · rw [(flush0_4 t).2 (by have : cfg0.N = 7 := N_0; omega)]; dsimp only; rw [after0_4]
    · rw [flush4_early t (by omega)]; dsimp only
      iintro H
      iexists (SC m c)
      rw [before0_4 m c t h0]
      iexact H

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

theorem own_in (c : Thread nD τ) {sp : Space} {sh : Shape} {e : EltTy} (a : Memref sig c.2.kind sp sh e) (x : Vec F sh e) :
    (owns c a fullShare x : sProp 𝕄) ⊢ ownsAt c a (a.view.rep x) := by rw [ownsAt_rep]
theorem own_out (c : Thread nD τ) {sp : Space} {sh : Shape} {e : EltTy} (a : Memref sig c.2.kind sp sh e) (x : Vec F sh e) :
    (ownsAt c a (a.view.rep x) : sProp 𝕄) ⊢ owns c a fullShare x := by rw [ownsAt_rep]

theorem Phi_eq (c : Dev nD) (k : Fin (cfg0.N + 1)) : (dats m 0 c).Φ k = Inv m c k.val := by dsimp only [dats]

end Cert.Kernel.Hand

end
-- ==== Proof.KFrame.lean ====
/-
  The kernel's run over its whole grid: what its buffers hold before each grid point, what it leaves in its four results,
  and that its argument arrays end as they began.
-/
module

public import proofs.«01_k».proof.Proof.KPoints
public import proofs.«01_k».proof.Proof.Gen.Kernel.Frame
public import Idealize.ShloMosaic.Lib.Pipeline.FrameValue
public import Idealize.ShloMosaic.Lib.Pipeline.Frame
public import Idealize.ShloMosaic.Lib.Pipeline.Kit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- `owns_of_writes` at an equal list of pieces. -/
theorem owns_of_writes_eq (c : Thread nD τ) {sp : Space} {sh : Shape} {e : EltTy} (a : Memref sig c.2.kind sp sh e) (f : a.view.ty.Contents (Elt F))
    {L L' : List (View.Piece (Elt F) sh e)} (h : L = L') (hc : ∀ y, ∃ p ∈ L', y ∈ p.1.set) :
    (iprop(a.view.loc c ↦[a.view.set]{fullShare} a.view.writes (Elt F) f L) : sProp 𝕄) ⊢ owns c a fullShare (View.canon L') := by
  subst h; exact owns_of_writes c a f L hc

/-- What the copy of the codes delivers. -/
theorem deliver (c : Dev nD) (fO : HbBuf0 (F := F) c hbC) (fX : scX.view.ty.Contents (Elt F)) (fC : scC.view.ty.Contents (Elt F))
    (L : List (View.Piece (Elt F) S1920x1536 .i8)) (hL : L = runA.sl.HC_5 c (V m c main_v0) (V m c main_v1) fX) :
    (iprop((hbC.view.loc (c : Thread nD τ) ↦[hbC.view.set]{fullShare} hbC.view.writes (Elt F) fO [⟨Rect.whole S1920x1536, ReadAs.same.apply (scC.view.read (Elt F) (scC.view.writes (Elt F) fC L))⟩])
                      ∗ (scC.view.loc (c : Thread nD τ) ↦[scC.view.set]{fullShare} scC.view.writes (Elt F) fC L)) : sProp 𝕄)
    ⊢ iprop(ownsAt (c : Thread nD τ) hbC (hbC.view.rep (CO m c)) ∗ ownsAt (c : Thread nD τ) scC (scC.view.writes (Elt F) fC L)) := by
  subst hL
  rw [ownsAt_rep]
  unfold owns ownsAt
  iintro ⟨H, H'⟩
  isplitl [H]
  · iexists _; isplitr
    swap; · iexact H
    ipureintro
    rw [View.read_writes_whole, View.read_writes_eq_canon _ _ _ (cover_HC c _ _ _), HC_5_indep c _ _ fX scX.view.junk]
    rfl
  · iexact H'

/-- The copy on its way, with what it delivers spelled out. -/
theorem flight_raw (c : Dev nD) (xo : Vec F S1920x1536 .i8) (fC : scC.view.ty.Contents (Elt F)) :
    (Transfers.Flight (countersEmb (U := Pipeline.UD sig nD τ)) (c : Thread nD τ) (SemLoc.dma 13) () 92160
        iprop(ownsAt (c : Thread nD τ) hbC (hbC.view.rep xo) ∗ ownsAt (c : Thread nD τ) scC fC) : sProp 𝕄)
    ⊢ Transfers.Flight (countersEmb (U := Pipeline.UD sig nD τ)) (c : Thread nD τ) (SemLoc.dma 13) () 92160
        iprop((hbC.view.loc (c : Thread nD τ) ↦[hbC.view.set]{fullShare} (hbC.view.rep xo : HbBuf0 (F := F) c hbC))
          ∗ (scC.view.loc (c : Thread nD τ) ↦[scC.view.set]{fullShare} fC)) := by
  unfold ownsAt; exact .rfl

set_option maxHeartbeats 1600000 in
theorem sound_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, after0_0, after0_1, after0_2, after0_3, after0_4]
  rw [Phi_eq, Phi_eq, show Inv m c t.castSucc.val = Pipeline.ΦDRG osem0 spec0 H0 R0 (V m) (V m) c from if_pos h0,
    show Inv m c t.succ.val = Mid m c from by unfold Inv; rw [if_neg (by simp), if_neg (by simp [h0])], PhiDR0_eq]
  unfold Dat.owesAt Pipeline.owesWithin Mid
  rw [show (dats m 0 c).owed t.castSucc = 0 from rfl, show (dats m 0 c).owed t.succ = 0 from rfl]
  iintro ⟨⟨⟨⟨%dX, HX⟩, HD, HV, HC, HS⟩, Hg, ⟨Hq9, Hq10, Hq11, Hq12, Hq13⟩, ⟨HA, HB⟩, HO⟩, ⟨%W, -, HW⟩, ⟨%d0, H0⟩, ⟨%d1, H1⟩, ⟨%d2, H2⟩, ⟨%d3, H3⟩, ⟨%d4, H4⟩⟩
  iapply ((rA m c t h0 (scX.view.rep dX)).2.2.2.2.2.2 W _)
  isplitl [H0]; · iapply (own_in (c : Thread nD τ) (ms0_0 t) _) $$ H0
  isplitl [H1]; · iapply (own_in (c : Thread nD τ) (ms0_1 t) _) $$ H1
  isplitl [H2]; · iexists _; iexact H2
  isplitl [H3]; · iexists _; iexact H3
  isplitl [H4]; · iexists _; iexact H4
  isplitl [HX]; · iapply (own_in (c : Thread nD τ) scX dX) $$ HX
  isplitl [HD]; · iexact HD
  isplitl [HV]; · iexact HV
  isplitl [HC]; · iexact HC
  isplitl [HS]; · iexact HS
  isplitl [Hq9]; · iexact Hq9
  isplitl [Hq10]; · iexact Hq10
  isplitl [Hq11]; · iexact Hq11
  isplitl [Hq12]; · iexact Hq12
  isplitl [Hq13]; · iexact Hq13
  isplitl [HA]; · iexact HA
  isplitl [HB]; · iexact HB
  isplitl [HO]; · iexists _; iexact HO
  isplitl [HW]; · iexact HW
  iintro ⟨H0, H1, ⟨%e2, H2⟩, ⟨%e3, H3⟩, ⟨%e4, H4⟩, HX, ⟨%eD, HD⟩, ⟨%eV, HV⟩, HS, Hq9, Hq10, Hq11, Hq12, HA, HB, ⟨%D, %fO, %fC, %hD, HF⟩, ⟨%W', HW'⟩⟩
  subst hD
  isplitl [HX HD HV HS Hg Hq9 Hq10 Hq11 Hq12 HA HB HF]
  · isplitl [HX]; · iexact HX
    isplitl [HD]
    · unfold XD; rw [HD_5_indep c _ _ scX.view.junk (scX.view.rep dX)]
      iapply (owns_of_writes_eq (c : Thread nD τ) scD eD (runA_LD ..) (cover_HD c _ _ _)) $$ HD
    isplitl [HV]
    · unfold XV; rw [HV_5_indep c _ _ scX.view.junk (scX.view.rep dX)]
      iapply (owns_of_writes_eq (c : Thread nD τ) scV eV (runA_LV ..) (cover_HV c _ _ _)) $$ HV
    isplitl [HS]; · iexact HS
    isplitl [Hg]; · iexact Hg
    isplitl [Hq9]; · iexact Hq9
    isplitl [Hq10]; · iexact Hq10
    isplitl [Hq11]; · iexact Hq11
    isplitl [Hq12]; · iexact Hq12
    isplitl [HA]; · iexact HA
    isplitl [HB]; · iexact HB
    iexists _
    iapply (Transfers.Flight_mono (countersEmb (U := Pipeline.UD sig nD τ)) (c : Thread nD τ) (deliver m c fO (scX.view.rep dX) fC _ (runA_LC ..))) $$ HF
  isplitl [HW']
  · iexists W'; isplitr; · ipureintro; exact fun _ _ => Or.inl trivial
    iexact HW'
  isplitl [H0]; · iapply (own_out (c : Thread nD τ) (ms0_0 t) _) $$ H0
  isplitl [H1]; · iapply (own_out (c : Thread nD τ) (ms0_1 t) _) $$ H1
  isplitl [H2]
  · unfold out5; rw [dif_pos h0, runA_L5_indep c _ _ scX.view.junk (scX.view.rep dX)]
    iapply (owns_of_writes (c : Thread nD τ) (ms0_2 t) e2 _ (cover_rA5 m c t h0 _)) $$ H2
  isplitl [H3]
  · unfold out6; rw [dif_pos h0, runA_L6_indep c _ _ scX.view.junk (scX.view.rep dX)]
    iapply (owns_of_writes (c : Thread nD τ) (ms0_3 t) e3 _ (cover_rA6 m c t h0 _)) $$ H3
  · unfold SC; rw [H8_5_indep c _ _ scX.view.junk (scX.view.rep dX)]
    iapply (owns_of_writes_eq (c : Thread nD τ) (ms0_4 t) e4 (runA_L8 ..) (cover_H8 c _ _ _)) $$ H4

set_option maxHeartbeats 1600000 in
theorem sound_mid (c : Dev nD) (t : Fin cfg0.N) (h0 : ¬ t.val = 0) (h6 : ¬ t.val = 6) :
    bodyPre m c t ⊢ wp frame (wpE (defs₀ (F := F)) Variants.none c none) Set.univ (bodyAt0 t) (fun _ => bodyPost m c t) := by
  unfold bodyPre bodyPost bodyAt0
  simp only [before0_0, before0_1, before0_4 m c t h0, after0_0, after0_1, after0_2, after0_3, after0_4]
  have hlt : t.val < 7 := lt_of_lt_of_eq t.isLt N_0
  rw [Phi_eq, Phi_eq, show Inv m c t.castSucc.val = Mid m c from by unfold Inv; rw [if_neg (by simpa using h0), if_neg (by simp; omega)],
    show Inv m c t.succ.val = Mid m c from by unfold Inv; rw [if_neg (by simp), if_neg (by simp; omega)]]
  unfold Dat.owesAt Pipeline.owesWithin Mid
  rw [show (dats m 0 c).owed t.castSucc = 0 from rfl, show (dats m 0 c).owed t.succ = 0 from rfl]
  iintro ⟨⟨HX, HD, HV, HS, Hrest⟩, ⟨%W, -, HW⟩, ⟨%d0, H0⟩, ⟨%d1, H1⟩, ⟨%d2, H2⟩, ⟨%d3, H3⟩, ⟨%d4, H4⟩⟩
  iapply ((rB m c t h0 h6).2.2 _)
  isplitl [H0]; · iapply (own_in (c : Thread nD τ) (ms0_0 t) _) $$ H0
  isplitl [H1]; · iapply (own_in (c : Thread nD τ) (ms0_1 t) _) $$ H1
  isplitl [H2]; · iexists _; iexact H2
  isplitl [H3]; · iexists _; iexact H3
  isplitl [H4]; · iapply (own_in (c : Thread nD τ) (ms0_4 t) _) $$ H4
  isplitl [HD]; · iapply (own_in (c : Thread nD τ) scD _) $$ HD
  isplitl [HV]; · iapply (own_in (c : Thread nD τ) scV _) $$ HV
  isplitl [HS]; · iexact HS
  iintro ⟨H0, H1, ⟨%e2, H2⟩, ⟨%e3, H3⟩, H4, HD, HV, HS⟩
  isplitl [HX HD HV HS Hrest]
  · isplitl [HX]; · iexact HX
    isplitl [HD]; · iapply (own_out (c : Thread nD τ) scD _) $$ HD
    isplitl [HV]; · iapply (own_out (c : Thread nD τ) scV _) $$ HV
    isplitl [HS]; · iexact HS
    iexact Hrest
  isplitl [HW]
  · iexists W; isplitr; · ipureintro; exact fun _ _ => Or.inl trivial
    iexact HW
  isplitl [H0]; · iapply (own_out (c : Thread nD τ) (ms0_0 t) _) $$ H0
  isplitl [H1]; · iapply (own_out (c : Thread nD τ) (ms0_1 t) _) $$ H1
  isplitl [H2]
  · unfold out5; rw [dif_neg h0, dif_neg h6]
    iapply (owns_of_writes (c : Thread nD τ) (ms0_2 t) e2 _ (cover_rB5 m c t h0 h6)) $$ H2
  isplitl [H3]
  · unfold out6; rw [dif_neg h0, dif_neg h6]
    iapply (owns_of_writes (c : Thread nD τ) (ms0_3 t) e3 _ (cover_rB6 m c t h0 h6)) $$ H3
  · iapply (own_out (c : Thread nD τ) (ms0_4 t) _) $$ H4

set_option maxHeartbeats 1600000 in
/-- The run at the last grid point, from and to whole buffers. -/
theorem runC_owns (c : Dev nD) (i : grid0.Coords) (hc1 : ¬ k0_cond1 i = 1#1) (hc2 : lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) (x8 : Vec F S5x384 .f32) (xd xv : Vec F S1920x1536 .bf16)
    (xo : Vec F S1920x1536 .i8) (fC fC' : scC.view.ty.Contents (Elt F)) (fO' : HbBuf0 (F := F) c hbC)
    (h5 : ∀ y, ∃ p ∈ (runC c i hc1 hc2 arg3 harg3 arg4 harg4 arg5 harg5 arg6 harg6 arg8 harg8 x3 x4 x8 xd xv fO' fC').1, y ∈ p.1.set)
    (h6 : ∀ y, ∃ p ∈ (runC c i hc1 hc2 arg3 harg3 arg4 harg4 arg5 harg5 arg6 harg6 arg8 harg8 x3 x4 x8 xd xv fO' fC').2.1, y ∈ p.1.set)
    (W : Waits sig Unit) (K : PUnit → sProp 𝕄) :
    iprop(owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ owns (c : Thread nD τ) arg8 fullShare x8 ∗ owns (c : Thread nD τ) scD fullShare xd ∗ owns (c : Thread nD τ) scV fullShare xv
        ∗ (∃ d, owns (c : Thread nD τ) scW fullShare d)
        ∗ Transfers.Flight (countersEmb (U := Pipeline.UD sig nD τ)) (c : Thread nD τ) (SemLoc.dma 13) () 92160
            iprop(ownsAt (c : Thread nD τ) hbC (hbC.view.rep xo) ∗ ownsAt (c : Thread nD τ) scC fC)
        ∗ owes (c : Thread nD τ) 0 W
        ∗ (iprop(owns (c : Thread nD τ) arg3 fullShare x3 ∗ owns (c : Thread nD τ) arg4 fullShare x4
            ∗ owns (c : Thread nD τ) arg5 fullShare (View.canon (runC c i hc1 hc2 arg3 harg3 arg4 harg4 arg5 harg5 arg6 harg6 arg8 harg8 x3 x4 x8 xd xv fO' fC').1)
            ∗ owns (c : Thread nD τ) arg6 fullShare (View.canon (runC c i hc1 hc2 arg3 harg3 arg4 harg4 arg5 harg5 arg6 harg6 arg8 harg8 x3 x4 x8 xd xv fO' fC').2.1)
            ∗ owns (c : Thread nD τ) arg8 fullShare x8 ∗ owns (c : Thread nD τ) scD fullShare xd ∗ owns (c : Thread nD τ) scV fullShare xv
            ∗ (∃ d, owns (c : Thread nD τ) scW fullShare d)
            ∗ semVal ((c : Thread nD τ), SemLoc.dma 13) 0
            ∗ owns (c : Thread nD τ) hbC fullShare xo ∗ (∃ d, owns (c : Thread nD τ) scC fullShare d)
            ∗ (∃ W', owes (c : Thread nD τ) 0 W')) -∗ K ⟨⟩))
      ⊢ wp frame (wpE (defs₀ (F := F)) Variants.none c none) Set.univ
          (cc0_qspec_linear i hbA (Memref.isWhole_whole _) hbB (Memref.isWhole_whole _) arg3 harg3 arg4 harg4 arg5 harg5 arg6 harg6
            hbC (Memref.isWhole_whole _) arg8 harg8 scX (Memref.isWhole_whole _) scD (Memref.isWhole_whole _) scV (Memref.isWhole_whole _)
            scC (Memref.isWhole_whole _) scW (Memref.isWhole_whole _) cc0_scratch5 cc0_scratch6) K := by
  iintro ⟨H0, H1, H2, H3, H4, HD, HV, HS, HF, HW, HK⟩
  iapply ((runC c i hc1 hc2 arg3 harg3 arg4 harg4 arg5 harg5 arg6 harg6 arg8 harg8 x3 x4 x8 xd xv (hbC.view.rep xo) fC).2.2 W K)
  isplitl [H0]; · iapply (own_in (c : Thread nD τ) arg3 x3) $$ H0
  isplitl [H1]; · iapply (own_in (c : Thread nD τ) arg4 x4) $$ H1
  isplitl [H2]; · iexact H2
  isplitl [H3]; · iexact H3
  isplitl [H4]; · iapply (own_in (c : Thread nD τ) arg8 x8) $$ H4
  isplitl [HD]; · iapply (own_in (c : Thread nD τ) scD xd) $$ HD
  isplitl [HV]; · iapply (own_in (c : Thread nD τ) scV xv) $$ HV
  isplitl [HS]; · iexact HS
  isplitl [HF]; · iapply (flight_raw c xo fC) $$ HF
  isplitl [HW]; · iexact HW
  iintro ⟨H0, H1, ⟨%e2, H2⟩, ⟨%e3, H3⟩, H4, HD, HV, HS, Hq13, HO, HC, HW'⟩
  iapply HK
  isplitl [H0]; · iapply (own_out (c : Thread nD τ) arg3 x3) $$ H0
  isplitl [H1]; · iapply (own_out (c : Thread nD τ) arg4 x4) $$ H1
  isplitl [H2]
  · rw [runC_L5_indep c i hc1 hc2 arg3 harg3 arg4 harg4 arg5 harg5 arg6 harg6 arg8 harg8 x3 x4 x8 xd xv (hbC.view.rep xo) fO' fC fC']
    iapply (owns_of_writes (c : Thread nD τ) arg5 e2 _ h5) $$ H2
  isplitl [H3]
  · rw [runC_L6 c i hc1 hc2 arg3 harg3 arg4 harg4 arg5 harg5 arg6 harg6 arg8 harg8 x3 x4 x8 xd xv (hbC.view.rep xo) fC, ← runC_L6 c i hc1 hc2 arg3 harg3 arg4 harg4 arg5 harg5 arg6 harg6 arg8 harg8 x3 x4 x8 xd xv fO' fC']
    iapply (owns_of_writes (c : Thread nD τ) arg6 e3 _ h6) $$ H3
  isplitl [H4]; · iapply (own_out (c : Thread nD τ) arg8 x8) $$ H4
  isplitl [HD]; · iapply (own_out (c : Thread nD τ) scD xd) $$ HD
  isplitl [HV]; · iapply (own_out (c : Thread nD τ) scV xv) $$ HV
  isplitl [HS]; · iexact HS
  isplitl [Hq13]; · iexact Hq13
  isplitl [HO]; · iapply (own_out (c : Thread nD τ) hbC xo) $$ HO
  isplitl [HC]
  · iexists _
    iapply (owns_of_ownsAt (c : Thread nD τ) scC fC) $$ HC
  iexact HW'

theorem out5_last (c : Dev nD) (t : Fin cfg0.N) (h0 : ¬ t.val = 0) (h6 : t.val = 6) :
    out5 m c t = View.canon (rC m c t h0 h6 hbC.view.junk scC.view.junk).1 := by unfold out5; rw [dif_neg h0, dif_pos h6]
theorem out6_last (c : Dev nD) (t : Fin cfg0.N) (h0 : ¬ t.val = 0) (h6 : t.val = 6) :
    out6 m c t = View.canon (rC m c t h0 h6 hbC.view.junk scC.view.junk).2.1 := by unfold out6; rw [dif_neg h0, dif_pos h6]

set_option maxHeartbeats 1600000 in
theorem sound_last (c : Dev nD) (t : Fin cfg0.N) (h0 : ¬ t.val = 0) (h6 : t.val = 6) :
    bodyPre m c t ⊢ wp frame (wpE (defs₀ (F := F)) Variants.none c none) Set.univ (bodyAt0 t) (fun _ => bodyPost m c t) := by
  unfold bodyPre bodyPost bodyAt0
  simp only [before0_0, before0_1, before0_4 m c t h0, after0_0, after0_1, after0_2, after0_3, after0_4]
  rw [Phi_eq, Phi_eq, show Inv m c t.castSucc.val = Mid m c from by unfold Inv; rw [if_neg (by simpa using h0), if_neg (by simp; omega)],
    show Inv m c t.succ.val = Pipeline.ΦDRG osem0 spec0 H0 R0 (V m) (G m) c from by unfold Inv; rw [if_neg (by simp), if_pos (by simp; omega)],
    PhiDR0_eq, G_v2_2]
  unfold Dat.owesAt Pipeline.owesWithin Mid
  rw [show (dats m 0 c).owed t.castSucc = 0 from rfl, show (dats m 0 c).owed t.succ = 0 from rfl]
  iintro ⟨⟨HX, HD, HV, HS, Hg, Hq9, Hq10, Hq11, Hq12, HA, HB, ⟨%fC, HF⟩⟩, ⟨%W, -, HW⟩, ⟨%d0, H0⟩, ⟨%d1, H1⟩, ⟨%d2, H2⟩, ⟨%d3, H3⟩, ⟨%d4, H4⟩⟩
  iapply (runC_owns c (grid0.coords t) (fun e => h0 ((cond1_iff t).1 e)) ((last_iff t).2 h6) (ms0_0 t) (hs0_0 t) (ms0_1 t) (hs0_1 t)
    (ms0_2 t) (hs0_2 t) (ms0_3 t) (hs0_3 t) (ms0_4 t) (hs0_4 t) (iblk m c 0 t) (iblk m c 1 t) (SC m c) (XD m c) (XV m c) (CO m c) fC
    scC.view.junk hbC.view.junk (cover_rC5 m c t h0 h6 _ _) (cover_rC6 m c t h0 h6 _ _) W _)
  isplitl [H0]; · iexact H0
  isplitl [H1]; · iexact H1
  isplitl [H2]; · iexists _; iexact H2
  isplitl [H3]; · iexists _; iexact H3
  isplitl [H4]; · iexact H4
  isplitl [HD]; · iexact HD
  isplitl [HV]; · iexact HV
  isplitl [HS]; · iexact HS
  isplitl [HF]; · iexact HF
  isplitl [HW]; · iexact HW
  iintro ⟨H0, H1, H2, H3, H4, HD, HV, HS, Hq13, HO, HC, ⟨%W', HW'⟩⟩
  isplitl [HX HD HV HC HS Hg Hq9 Hq10 Hq11 Hq12 Hq13 HA HB HO]
  · isplitl [HX HD HV HC HS]
    · isplitl [HX]; · iexact HX
      isplitl [HD]; · iexists _; iexact HD
      isplitl [HV]; · iexists _; iexact HV
      isplitl [HC]; · iexact HC
      iexact HS
    isplitl [Hg]; · iexact Hg
    isplitl [Hq9 Hq10 Hq11 Hq12 Hq13]
    · isplitl [Hq9]; · iexact Hq9
      isplitl [Hq10]; · iexact Hq10
      isplitl [Hq11]; · iexact Hq11
      isplitl [Hq12]; · iexact Hq12
      iexact Hq13
    isplitl [HA HB]
    · isplitl [HA]; · iexact HA
      iexact HB
    iexact HO
  isplitl [HW']
  · iexists W'; isplitr; · ipureintro; exact fun _ _ => Or.inl trivial
    iexact HW'
  isplitl [H0]; · iexact H0
  isplitl [H1]; · iexact H1
  isplitl [H2]
  · rw [out5_last m c t h0 h6]; iexact H2
  isplitl [H3]
  · rw [out6_last m c t h0 h6]; iexact H3
  · iexact H4

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h6 : t.val = 6
  · exact sound_last m c t h0 h6
  · exact sound_mid m c t h0 h6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by
    unfold bodyPost
    iintro ⟨HP, HW, H0, H1, H2, H3, H4⟩
    isplitl [HP]; · iexact HP
    isplitl [HW]; · iexact HW
    isplitl [H0]; · iexact H0
    isplitl [H1]; · iexact H1
    isplitl [H2]; · iexact H2
    isplitl [H3]; · iexact H3
    rw [after0_4]
    iapply (leaves4 m c t) $$ H4

/-! ## The run and the frame -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The program runs; the windows' arrays end at what the grid points leave in them, the codes' array at the codes, every other
    array as the kernel finds it, every semaphore at zero. -/
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := fun c => by rw [Phi_eq]; unfold Inv; rw [if_pos (by rfl)])
    (hout := fun c => by
      rw [Phi_eq]; unfold Inv; rw [if_neg (by rw [Fin.val_last]; show ¬ grid0.N = 0; rw [N_0]; decide), if_pos (by rw [Fin.val_last]; exact N_0)])

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
     ⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).1 0).trans (((dats m 0 c).arrAt_in 0 rfl _).trans ((A_eq m c 0).trans (V_main_arg2 m c))),
      ((h.1.1 c).1 1).trans (((dats m 0 c).arrAt_in 1 rfl _).trans ((A_eq m c 1).trans (V_main_arg3 m c)))⟩, h.2⟩) (run_main m ρ)

end Cert.Kernel.Hand

end
-- ==== Proof.KIRun.lean ====
/-
  The kernel body, run once at each of the three kinds of grid point: the first one (`runA`: fetch, rotate and quantize the
  activations, start the copy of the codes to HBM, then decode and multiply), a middle one (`runB`: decode and multiply), the
  last one (`runC`: decode and multiply, then wait for the copy of the codes).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The test the body makes for the last grid point. -/
abbrev lastCond (i : grid0.Coords) : Prop :=
  Scalar.cmpi .ne (Scalar.extui (Scalar.cmpi .eq (BitVec.ofNat 32 (i 0).val) 6#32) : BitVec 32) 0#32 = 1#1

abbrev hbA : Memref sig .tc .hbm S1920x1536 .bf16 := Memref.whole main_v0
abbrev hbB : Memref sig .tc .hbm S1920x1536 .bf16 := Memref.whole main_v1
abbrev hbC : Memref sig .tc .hbm S1920x1536 .i8 := Memref.whole main_v2_2
abbrev scX : Memref sig .tc .vmem S2x2x384x1536 .bf16 := Memref.whole cc0_scratch0
abbrev scD : Memref sig .tc .vmem S1920x1536 .bf16 := Memref.whole cc0_scratch1
abbrev scV : Memref sig .tc .vmem S1920x1536 .bf16 := Memref.whole cc0_scratch2
abbrev scC : Memref sig .tc .vmem S1920x1536 .i8 := Memref.whole cc0_scratch3
abbrev scW : Memref sig .tc .vmem S1536x1280 .bf16 := Memref.whole cc0_scratch4

/-- Core `c` holds the memref's elements, the whole buffer's contents being `f`. -/
def ownsAt (c : Thread nD τ) {sp : Space} {sh : Shape} {e : EltTy} (m : Memref sig c.2.kind sp sh e) (f : m.view.ty.Contents (Elt F)) : sProp 𝕄 :=
  iprop(m.view.loc c ↦[m.view.set]{fullShare} f)

theorem ownsAt_rep (c : Thread nD τ) {sp : Space} {sh : Shape} {e : EltTy} (m : Memref sig c.2.kind sp sh e) (x : sh.Idx → Elt F e) :
    ownsAt c m (m.view.rep x) = owns c m fullShare x := by
  rw [owns_eq_rep]; rfl

abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

set_option maxHeartbeats 0 in
noncomputable def runA (c : Dev nD) (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) (fA : HbBuf0 (F := F) c hbA) (fB : HbBuf0 (F := F) c hbB)
    (fX : scX.view.ty.Contents (Elt F)) :
    Σ' (L5 : List (View.Piece (Elt F) S1920x1280 .bf16)) (L6 : List (View.Piece (Elt F) S1920x1280 .bf16)) (L8 : List (View.Piece (Elt F) S5x384 .f32))
       (LD LV : List (View.Piece (Elt F) S1920x1536 .bf16)), { LC : List (View.Piece (Elt F) S1920x1536 .i8) //
      ∀ (W : Waits sig Unit) (K : PUnit → sProp 𝕄),
        iprop(ownsAt (c : Thread nD τ) arg3 (arg3.view.rep x3)
            ∗ ownsAt (c : Thread nD τ) arg4 (arg4.view.rep x4)
            ∗ (∃ d, owns (c : Thread nD τ) arg5 fullShare d)
            ∗ (∃ d, owns (c : Thread nD τ) arg6 fullShare d)
            ∗ (∃ d, owns (c : Thread nD τ) arg8 fullShare d)
            ∗ ownsAt (c : Thread nD τ) scX fX
            ∗ (∃ d, owns (c : Thread nD τ) scD fullShare d)
            ∗ (∃ d, owns (c : Thread nD τ) scV fullShare d)
            ∗ (∃ d, owns (c : Thread nD τ) scC fullShare d)
            ∗ (∃ d, owns (c : Thread nD τ) scW fullShare d)
            ∗ semVal ((c : Thread nD τ), SemLoc.dma 9) 0 ∗ semVal ((c : Thread nD τ), SemLoc.dma 10) 0
            ∗ semVal ((c : Thread nD τ), SemLoc.dma 11) 0 ∗ semVal ((c : Thread nD τ), SemLoc.dma 12) 0
            ∗ semVal ((c : Thread nD τ), SemLoc.dma 13) 0
            ∗ hbPt0 c hbA fA ∗ hbPt0 c hbB fB ∗ (∃ d, owns (c : Thread nD τ) hbC fullShare d)
            ∗ owes (c : Thread nD τ) 0 W
            ∗ (iprop(ownsAt (c : Thread nD τ) arg3 (arg3.view.rep x3)
            ∗ ownsAt (c : Thread nD τ) arg4 (arg4.view.rep x4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg8.view.loc (c : Thread nD τ) ↦[arg8.view.set]{fullShare} arg8.view.writes (Elt F) f L8)
                ∗ (∃ d, owns (c : Thread nD τ) scX fullShare d)
                ∗ (∃ f, scD.view.loc (c : Thread nD τ) ↦[scD.view.set]{fullShare} scD.view.writes (Elt F) f LD)
                ∗ (∃ f, scV.view.loc (c : Thread nD τ) ↦[scV.view.set]{fullShare} scV.view.writes (Elt F) f LV)
                ∗ (∃ d, owns (c : Thread nD τ) scW fullShare d)
                ∗ semVal ((c : Thread nD τ), SemLoc.dma 9) 0 ∗ semVal ((c : Thread nD τ), SemLoc.dma 10) 0
                ∗ semVal ((c : Thread nD τ), SemLoc.dma 11) 0 ∗ semVal ((c : Thread nD τ), SemLoc.dma 12) 0
                ∗ hbPt0 c hbA fA ∗ hbPt0 c hbB fB
                ∗ (∃ D fO fC, ⌜D = iprop((hbC.view.loc (c : Thread nD τ) ↦[hbC.view.set]{fullShare} hbC.view.writes (Elt F) fO [⟨Rect.whole S1920x1536, ReadAs.same.apply (scC.view.read (Elt F) (scC.view.writes (Elt F) fC LC))⟩])
                      ∗ (scC.view.loc (c : Thread nD τ) ↦[scC.view.set]{fullShare} scC.view.writes (Elt F) fC LC))⌝
                    ∗ Transfers.Flight (countersEmb (U := Pipeline.UD sig nD τ)) (c : Thread nD τ) (SemLoc.dma 13) default 92160 D)
                ∗ (∃ W', owes (c : Thread nD τ) 0 W')) -∗ K ⟨⟩))
          ⊢ wp frame (wpE (defs₀ (F := F)) Variants.none c none) Set.univ
              (cc0_qspec_linear i hbA (Memref.isWhole_whole _) hbB (Memref.isWhole_whole _) arg3 harg3 arg4 harg4 arg5 harg5 arg6 harg6
                hbC (Memref.isWhole_whole _) arg8 harg8 scX (Memref.isWhole_whole _) scD (Memref.isWhole_whole _) scV (Memref.isWhole_whole _)
                scC (Memref.isWhole_whole _) scW (Memref.isWhole_whole _) cc0_scratch5 cc0_scratch6) K } := by
  refine ⟨?_, ?_, ?_, ?_, ?_, ?LC, fun W K => ?run⟩
  case run =>
    simp only [cc0_qspec_linear_eq_skeleton]; unfold cc0_qspec_linear_skel
    unfold owns ownsAt
    iintro ⟨H3, H4, ⟨%d5, %f5, -, H5⟩, ⟨%d6, %f6, -, H6⟩, ⟨%d8, %f8, -, H8⟩, HX, ⟨%dD, %fD, -, HD⟩, ⟨%dV, %fV, -, HV⟩, ⟨%dC, %fC, -, HC⟩, ⟨%dW, %fW, -, HW⟩,
      Hq9, Hq10, Hq11, Hq12, Hq13, HA, HB, ⟨%dO, %fO, -, HO⟩, Hw, Hk⟩
    set_option sl_exec.squeezeSlice true in
    set_option sl_exec.dmaWindow true in
    set_option sl_exec.dmaWindowSet true in
    sl_exec_parts
    sl_step
    iapply Hk
    isplitl [H3]; · iexact H3
    isplitl [H4]; · iexact H4
    isplitl [H5]; · iexists _; iexact H5
    isplitl [H6]; · iexists _; iexact H6
    isplitl [H8]; · iexists _; iexact H8
    isplitl [HX]
    · iexists _, _; isplitr; swap; · iexact HX
      ipureintro; rfl
    isplitl [HD]; · iexists _; iexact HD
    isplitl [HV]; · iexists _; iexact HV
    isplitl [HW]
    · iexists _, _; isplitr; swap; · iexact HW
      ipureintro; rfl
    isplitl [Hq9]; · iexact Hq9
    isplitl [Hq10]; · iexact Hq10
    isplitl [Hq11]; · iexact Hq11
    isplitl [Hq12]; · iexact Hq12
    isplitl [HA]; · iexact HA
    isplitl [HB]; · iexact HB
    isplitl [Hq13]
    · iexists _, fO, fC; isplitr; swap; · iexact Hq13
      ipureintro
      refine congrArg₂ (fun a b => iprop((hbC.view.loc (c : Thread nD τ) ↦[hbC.view.set]{fullShare} a)
                      ∗ (scC.view.loc (c : Thread nD τ) ↦[scC.view.set]{fullShare} b))) ?h1 ?h2
      case LC => exact runA.sl.HC_5 c fA fB fX
      case h2 => rfl
      case h1 => delta runA.sl.dma50; rfl
    iexists _; iexact Hw

set_option maxHeartbeats 0 in
noncomputable def runB (c : Dev nD) (i : grid0.Coords) (hc1 : ¬ k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) (x8 : Vec F S5x384 .f32) (xd xv : Vec F S1920x1536 .bf16) :
    Σ' (L5 : List (View.Piece (Elt F) S1920x1280 .bf16)), { L6 : List (View.Piece (Elt F) S1920x1280 .bf16) //
      ∀ (K : PUnit → sProp 𝕄),
        iprop(ownsAt (c : Thread nD τ) arg3 (arg3.view.rep x3)
            ∗ ownsAt (c : Thread nD τ) arg4 (arg4.view.rep x4)
            ∗ (∃ d, owns (c : Thread nD τ) arg5 fullShare d)
            ∗ (∃ d, owns (c : Thread nD τ) arg6 fullShare d)
            ∗ ownsAt (c : Thread nD τ) arg8 (arg8.view.rep x8)
            ∗ ownsAt (c : Thread nD τ) scD (scD.view.rep xd)
            ∗ ownsAt (c : Thread nD τ) scV (scV.view.rep xv)
            ∗ (∃ d, owns (c : Thread nD τ) scW fullShare d)
            ∗ (iprop(ownsAt (c : Thread nD τ) arg3 (arg3.view.rep x3)
                ∗ ownsAt (c : Thread nD τ) arg4 (arg4.view.rep x4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ ownsAt (c : Thread nD τ) arg8 (arg8.view.rep x8)
                ∗ ownsAt (c : Thread nD τ) scD (scD.view.rep xd)
                ∗ ownsAt (c : Thread nD τ) scV (scV.view.rep xv)
                ∗ (∃ d, owns (c : Thread nD τ) scW fullShare d)) -∗ K ⟨⟩))
          ⊢ wp frame (wpE (defs₀ (F := F)) Variants.none c none) Set.univ
              (cc0_qspec_linear i hbA (Memref.isWhole_whole _) hbB (Memref.isWhole_whole _) arg3 harg3 arg4 harg4 arg5 harg5 arg6 harg6
                hbC (Memref.isWhole_whole _) arg8 harg8 scX (Memref.isWhole_whole _) scD (Memref.isWhole_whole _) scV (Memref.isWhole_whole _)
                scC (Memref.isWhole_whole _) scW (Memref.isWhole_whole _) cc0_scratch5 cc0_scratch6) K } := by
  refine ⟨?_, ?_, fun K => ?run⟩
  case run =>
    simp only [cc0_qspec_linear_eq_skeleton]; unfold cc0_qspec_linear_skel
    unfold owns ownsAt
    iintro ⟨H3, H4, ⟨%d5, %f5, -, H5⟩, ⟨%d6, %f6, -, H6⟩, H8, HD, HV, ⟨%dW, %fW, -, HW⟩, Hk⟩
    sl_exec_parts
    sl_step
    iapply Hk
    isplitl [H3]; · iexact H3
    isplitl [H4]; · iexact H4
    isplitl [H5]; · iexists _; iexact H5
    isplitl [H6]; · iexists _; iexact H6
    isplitl [H8]; · iexact H8
    isplitl [HD]; · iexact HD
    isplitl [HV]; · iexact HV
    iexists _, _; isplitr; swap; · iexact HW
    ipureintro; rfl

set_option maxHeartbeats 0 in
noncomputable def runC (c : Dev nD) (i : grid0.Coords) (hc1 : ¬ k0_cond1 i = 1#1) (hc2 : lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) (x8 : Vec F S5x384 .f32) (xd xv : Vec F S1920x1536 .bf16)
    (fO : HbBuf0 (F := F) c hbC) (fC : scC.view.ty.Contents (Elt F)) :
    Σ' (L5 : List (View.Piece (Elt F) S1920x1280 .bf16)), { L6 : List (View.Piece (Elt F) S1920x1280 .bf16) //
      ∀ (W : Waits sig Unit) (K : PUnit → sProp 𝕄),
        iprop(ownsAt (c : Thread nD τ) arg3 (arg3.view.rep x3)
            ∗ ownsAt (c : Thread nD τ) arg4 (arg4.view.rep x4)
            ∗ (∃ d, owns (c : Thread nD τ) arg5 fullShare d)
            ∗ (∃ d, owns (c : Thread nD τ) arg6 fullShare d)
            ∗ ownsAt (c : Thread nD τ) arg8 (arg8.view.rep x8)
            ∗ ownsAt (c : Thread nD τ) scD (scD.view.rep xd)
            ∗ ownsAt (c : Thread nD τ) scV (scV.view.rep xv)
            ∗ (∃ d, owns (c : Thread nD τ) scW fullShare d)
            ∗ Transfers.Flight (countersEmb (U := Pipeline.UD sig nD τ)) (c : Thread nD τ) (SemLoc.dma 13) () 92160
                    iprop((hbC.view.loc (c : Thread nD τ) ↦[hbC.view.set]{fullShare} fO)
                      ∗ (scC.view.loc (c : Thread nD τ) ↦[scC.view.set]{fullShare} fC))
            ∗ owes (c : Thread nD τ) 0 W
            ∗ (iprop(ownsAt (c : Thread nD τ) arg3 (arg3.view.rep x3)
                ∗ ownsAt (c : Thread nD τ) arg4 (arg4.view.rep x4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ ownsAt (c : Thread nD τ) arg8 (arg8.view.rep x8)
                ∗ ownsAt (c : Thread nD τ) scD (scD.view.rep xd)
                ∗ ownsAt (c : Thread nD τ) scV (scV.view.rep xv)
                ∗ (∃ d, owns (c : Thread nD τ) scW fullShare d)
                ∗ semVal ((c : Thread nD τ), SemLoc.dma 13) 0
                ∗ ownsAt (c : Thread nD τ) hbC fO ∗ ownsAt (c : Thread nD τ) scC fC
                ∗ (∃ W', owes (c : Thread nD τ) 0 W')) -∗ K ⟨⟩))
          ⊢ wp frame (wpE (defs₀ (F := F)) Variants.none c none) Set.univ
              (cc0_qspec_linear i hbA (Memref.isWhole_whole _) hbB (Memref.isWhole_whole _) arg3 harg3 arg4 harg4 arg5 harg5 arg6 harg6
                hbC (Memref.isWhole_whole _) arg8 harg8 scX (Memref.isWhole_whole _) scD (Memref.isWhole_whole _) scV (Memref.isWhole_whole _)
                scC (Memref.isWhole_whole _) scW (Memref.isWhole_whole _) cc0_scratch5 cc0_scratch6) K } := by
  refine ⟨?_, ?_, fun W K => ?run⟩
  case run =>
    simp only [cc0_qspec_linear_eq_skeleton]; unfold cc0_qspec_linear_skel
    unfold owns ownsAt
    iintro ⟨H3, H4, ⟨%d5, %f5, -, H5⟩, ⟨%d6, %f6, -, H6⟩, H8, HD, HV, ⟨%dW, %fW, -, HW⟩, Hq, Hw, Hk⟩
    sl_exec_parts
    sl_step
    iapply Hk
    isplitl [H3]; · iexact H3
    isplitl [H4]; · iexact H4
    isplitl [H5]; · iexists _; iexact H5
    isplitl [H6]; · iexists _; iexact H6
    isplitl [H8]; · iexact H8
    isplitl [HD]; · iexact HD
    isplitl [HV]; · iexact HV
    isplitl [HW]
    · iexists _, _; isplitr; swap; · iexact HW
      ipureintro; rfl
    isplitl [Hq]; · iexact Hq
    isplitl [Hq_dst]; · iexact Hq_dst
    isplitl [Hq_src]; · iexact Hq_src
    iexists _; iexact Hw

end Cert.KernelIdeal.Hand

end
-- ==== Proof.KISlot.lean ====
/-
  What each load of a chunk of the activations reads at the first grid point: the chunk, as the copy into the slot
  brought it, whatever the slots held before.
-/
module

public import proofs.«01_k».proof.Proof.KIRun
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Slot

variable {sg : RefSig} {κ : Kind} {sp : Space} {s s' : Shape} {e : EltTy} {Val : EltTy → Type}

/-- A load at a slot just written through its squeezed view reads the payload, with the unit axes put back. -/
theorem slot_hit (M : Memref sg κ sp s e) (r : Rect s) (hr : ∀ a, r.stride a = 1) (hq : r.shape.Squeezes s')
    (hc : s'.ShapeCasts r.shape) (f : M.view.ty.Contents Val) (w : s'.Idx → Val e) :
    M.view.readAt Val r.toLoadRect (((M.slice r hr).squeeze s' hq).view.write Val f w Finset.univ) = shapeCast r.shape w hc := by
  have h' : shapeCast s' (M.view.readAt Val r.toLoadRect (((M.slice r hr).squeeze s' hq).view.write Val f w Finset.univ)) hc.symm = w :=
    View.read_write_univ (v := ((M.slice r hr).squeeze s' hq).view) f w
  conv_rhs => rw [← h', shapeCast_shapeCast]

/-- A load at a slot does not see what was written to another. -/
theorem slot_miss (M : Memref sg κ sp s e) (r r' : Rect s) (hr : ∀ a, r'.stride a = 1) (hq : r'.shape.Squeezes s')
    (hd : Disjoint r.set r'.set) (f : M.view.ty.Contents Val) (w : s'.Idx → Val e) :
    M.view.readAt Val r.toLoadRect (((M.slice r' hr).squeeze s' hq).view.write Val f w Finset.univ) = M.view.readAt Val r.toLoadRect f := by
  rw [View.readAt_rect, View.readAt_rect]
  refine View.read_congr fun i hi => View.write_of_not_mem _ _ _ ?_
  have e1 : ((M.slice r' hr).squeeze s' hq).view.setOn Finset.univ = r'.set.map M.view.emb := by
    rw [View.setOn_univ, Memref.set_view_squeeze]; exact View.set_slice _ _
  rw [e1]
  rw [View.set_slice] at hi
  exact fun h => (Finset.disjoint_left.mp ((Finset.disjoint_map _).mpr hd)) hi h

end Slot

theorem up_hc : S384x1536.ShapeCasts S1x1x384x1536 := by decide

/-- The chunk the load `v1506` reads. -/
theorem v1506_eq (c : Dev nD) (fA : HbBuf0 (F := F) c hbA) (fB : HbBuf0 (F := F) c hbB) (fX : scX.view.ty.Contents (Elt F)) :
    runA.sl.v1506 c fA fB fX = shapeCast S1x1x384x1536 (runA.sl.dma0 c fA) up_hc := by
  unfold runA.sl.v1506
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1553` reads. -/
theorem v1553_eq (c : Dev nD) (fA : HbBuf0 (F := F) c hbA) (fB : HbBuf0 (F := F) c hbB) (fX : scX.view.ty.Contents (Elt F)) :
    runA.sl.v1553 c fA fB fX = shapeCast S1x1x384x1536 (runA.sl.dma0_1 c fB) up_hc := by
  unfold runA.sl.v1553
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1594` reads. -/
theorem v1594_eq (c : Dev nD) (fA : HbBuf0 (F := F) c hbA) (fB : HbBuf0 (F := F) c hbB) (fX : scX.view.ty.Contents (Elt F)) :
    runA.sl.v1594 c fA fB fX = shapeCast S1x1x384x1536 (runA.sl.dma0_2 c fA) up_hc := by
  unfold runA.sl.v1594
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1641` reads. -/
theorem v1641_eq (c : Dev nD) (fA : HbBuf0 (F := F) c hbA) (fB : HbBuf0 (F := F) c hbB) (fX : scX.view.ty.Contents (Elt F)) :
    runA.sl.v1641 c fA fB fX = shapeCast S1x1x384x1536 (runA.sl.dma0_3 c fB) up_hc := by
  unfold runA.sl.v1641
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1682` reads. -/
theorem v1682_eq (c : Dev nD) (fA : HbBuf0 (F := F) c hbA) (fB : HbBuf0 (F := F) c hbB) (fX : scX.view.ty.Contents (Elt F)) :
    runA.sl.v1682 c fA fB fX = shapeCast S1x1x384x1536 (runA.sl.dma10 c fA) up_hc := by
  unfold runA.sl.v1682
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1729` reads. -/
theorem v1729_eq (c : Dev nD) (fA : HbBuf0 (F := F) c hbA) (fB : HbBuf0 (F := F) c hbB) (fX : scX.view.ty.Contents (Elt F)) :
    runA.sl.v1729 c fA fB fX = shapeCast S1x1x384x1536 (runA.sl.dma10_1 c fB) up_hc := by
  unfold runA.sl.v1729
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1770` reads. -/
theorem v1770_eq (c : Dev nD) (fA : HbBuf0 (F := F) c hbA) (fB : HbBuf0 (F := F) c hbB) (fX : scX.view.ty.Contents (Elt F)) :
    runA.sl.v1770 c fA fB fX = shapeCast S1x1x384x1536 (runA.sl.dma20 c fA) up_hc := by
  unfold runA.sl.v1770
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1817` reads. -/
theorem v1817_eq (c : Dev nD) (fA : HbBuf0 (F := F) c hbA) (fB : HbBuf0 (F := F) c hbB) (fX : scX.view.ty.Contents (Elt F)) :
    runA.sl.v1817 c fA fB fX = shapeCast S1x1x384x1536 (runA.sl.dma20_1 c fB) up_hc := by
  unfold runA.sl.v1817
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1848` reads. -/
theorem v1848_eq (c : Dev nD) (fA : HbBuf0 (F := F) c hbA) (fB : HbBuf0 (F := F) c hbB) (fX : scX.view.ty.Contents (Elt F)) :
    runA.sl.v1848 c fA fB fX = shapeCast S1x1x384x1536 (runA.sl.dma30 c fA) up_hc := by
  unfold runA.sl.v1848
  repeat first
    | exact slot_hit (e := .bf16) scX _ _ _ up_hc _ _
    | rw [slot_miss scX _ _ _ _ (by first | exact Rect.unit_disjoint (0 : Fin 4) (by decide) | exact Rect.unit_disjoint (1 : Fin 4) (by decide))]

/-- The chunk the load `v1895` reads. -/
theorem v1895_eq (c : Dev nD) (fA : HbBuf0 (F := F) c hbA) (fB : HbBuf0 (F := F) c hbB) (fX : scX.view.ty.Contents (Elt F)) :
    runA.sl.v1895 c fA fB fX = shapeCast S1x1x384x1536 (runA.sl.dma30_1 c fB) up_hc := by
  unfold runA.sl.v1895
  repeat first
    | exact slot_hit (e := .bf16) scX _ _ _ up_hc _ _
    | rw [slot_miss scX _ _ _ _ (by first | exact Rect.unit_disjoint (0 : Fin 4) (by decide) | exact Rect.unit_disjoint (1 : Fin 4) (by decide))]

end Cert.KernelIdeal.Hand

end
-- ==== Proof.KIIndep.lean ====
/-
  What the first grid point leaves in its buffers does not depend on what the slots for the activations held before.
-/
module

public import proofs.«01_k».proof.Proof.KISlot

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (fA : HbBuf0 (F := F) c hbA) (fB : HbBuf0 (F := F) c hbB) (fX fX' : scX.view.ty.Contents (Elt F))

theorem HD_5_indep : runA.sl.HD_5 c fA fB fX = runA.sl.HD_5 c fA fB fX' := by
  simp only [runA.sl.HC_3, runA.sl.r_7, runA.sl.r_16, runA.sl.r_17, runA.sl.HD_1, runA.sl.HD_2, runA.sl.H8_5, runA.sl.r_10, runA.sl.r_2, runA.sl.HV_2, runA.sl.HV_5, runA.sl.r_23, runA.sl.r_5, runA.sl.r_76, runA.sl.r_72, runA.sl.r_22, runA.sl.r_3, runA.sl.r_1, runA.sl.r_4, runA.sl.r_18, runA.sl.r_20, runA.sl.r_19, runA.sl.HC_1, runA.sl.HC_2, runA.sl.r_24, runA.sl.r_6, runA.sl.r_74, runA.sl.r_21, runA.sl.H8_4, runA.sl.r_25, runA.sl.HC_5, runA.sl.H8_1, runA.sl.H8_2, runA.sl.r_75, runA.sl.HD_4, runA.sl.r_73, runA.sl.H8_3, runA.sl.r_11, runA.sl.r_13, runA.sl.HV_3, runA.sl.r_12, runA.sl.HV_4, runA.sl.r_15, runA.sl.HV_1, runA.sl.r_9, runA.sl.HC_4, runA.sl.r_14, runA.sl.r_77, runA.sl.HD_5, runA.sl.HD_3, runA.sl.r_8, v1506_eq, v1553_eq, v1594_eq, v1641_eq, v1682_eq, v1729_eq, v1770_eq, v1817_eq, v1848_eq, v1895_eq]

theorem HV_5_indep : runA.sl.HV_5 c fA fB fX = runA.sl.HV_5 c fA fB fX' := by
  simp only [runA.sl.HC_3, runA.sl.r_7, runA.sl.r_16, runA.sl.r_17, runA.sl.HD_1, runA.sl.HD_2, runA.sl.H8_5, runA.sl.r_10, runA.sl.r_2, runA.sl.HV_2, runA.sl.HV_5, runA.sl.r_23, runA.sl.r_5, runA.sl.r_76, runA.sl.r_72, runA.sl.r_22, runA.sl.r_3, runA.sl.r_1, runA.sl.r_4, runA.sl.r_18, runA.sl.r_20, runA.sl.r_19, runA.sl.HC_1, runA.sl.HC_2, runA.sl.r_24, runA.sl.r_6, runA.sl.r_74, runA.sl.r_21, runA.sl.H8_4, runA.sl.r_25, runA.sl.HC_5, runA.sl.H8_1, runA.sl.H8_2, runA.sl.r_75, runA.sl.HD_4, runA.sl.r_73, runA.sl.H8_3, runA.sl.r_11, runA.sl.r_13, runA.sl.HV_3, runA.sl.r_12, runA.sl.HV_4, runA.sl.r_15, runA.sl.HV_1, runA.sl.r_9, runA.sl.HC_4, runA.sl.r_14, runA.sl.r_77, runA.sl.HD_5, runA.sl.HD_3, runA.sl.r_8, v1506_eq, v1553_eq, v1594_eq, v1641_eq, v1682_eq, v1729_eq, v1770_eq, v1817_eq, v1848_eq, v1895_eq]

theorem HC_5_indep : runA.sl.HC_5 c fA fB fX = runA.sl.HC_5 c fA fB fX' := by
  simp only [runA.sl.HC_3, runA.sl.r_7, runA.sl.r_16, runA.sl.r_17, runA.sl.HD_1, runA.sl.HD_2, runA.sl.H8_5, runA.sl.r_10, runA.sl.r_2, runA.sl.HV_2, runA.sl.HV_5, runA.sl.r_23, runA.sl.r_5, runA.sl.r_76, runA.sl.r_72, runA.sl.r_22, runA.sl.r_3, runA.sl.r_1, runA.sl.r_4, runA.sl.r_18, runA.sl.r_20, runA.sl.r_19, runA.sl.HC_1, runA.sl.HC_2, runA.sl.r_24, runA.sl.r_6, runA.sl.r_74, runA.sl.r_21, runA.sl.H8_4, runA.sl.r_25, runA.sl.HC_5, runA.sl.H8_1, runA.sl.H8_2, runA.sl.r_75, runA.sl.HD_4, runA.sl.r_73, runA.sl.H8_3, runA.sl.r_11, runA.sl.r_13, runA.sl.HV_3, runA.sl.r_12, runA.sl.HV_4, runA.sl.r_15, runA.sl.HV_1, runA.sl.r_9, runA.sl.HC_4, runA.sl.r_14, runA.sl.r_77, runA.sl.HD_5, runA.sl.HD_3, runA.sl.r_8, v1506_eq, v1553_eq, v1594_eq, v1641_eq, v1682_eq, v1729_eq, v1770_eq, v1817_eq, v1848_eq, v1895_eq]

theorem H8_5_indep : runA.sl.H8_5 c fA fB fX = runA.sl.H8_5 c fA fB fX' := by
  simp only [runA.sl.HC_3, runA.sl.r_7, runA.sl.r_16, runA.sl.r_17, runA.sl.HD_1, runA.sl.HD_2, runA.sl.H8_5, runA.sl.r_10, runA.sl.r_2, runA.sl.HV_2, runA.sl.HV_5, runA.sl.r_23, runA.sl.r_5, runA.sl.r_76, runA.sl.r_72, runA.sl.r_22, runA.sl.r_3, runA.sl.r_1, runA.sl.r_4, runA.sl.r_18, runA.sl.r_20, runA.sl.r_19, runA.sl.HC_1, runA.sl.HC_2, runA.sl.r_24, runA.sl.r_6, runA.sl.r_74, runA.sl.r_21, runA.sl.H8_4, runA.sl.r_25, runA.sl.HC_5, runA.sl.H8_1, runA.sl.H8_2, runA.sl.r_75, runA.sl.HD_4, runA.sl.r_73, runA.sl.H8_3, runA.sl.r_11, runA.sl.r_13, runA.sl.HV_3, runA.sl.r_12, runA.sl.HV_4, runA.sl.r_15, runA.sl.HV_1, runA.sl.r_9, runA.sl.HC_4, runA.sl.r_14, runA.sl.r_77, runA.sl.HD_5, runA.sl.HD_3, runA.sl.r_8, v1506_eq, v1553_eq, v1594_eq, v1641_eq, v1682_eq, v1729_eq, v1770_eq, v1817_eq, v1848_eq, v1895_eq]

theorem runA_L8 (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) :
    (runA c i hc1 hc2 arg3 harg3 arg4 harg4 arg5 harg5 arg6 harg6 arg8 harg8 x3 x4 fA fB fX).2.2.1 = runA.sl.H8_5 c fA fB fX := rfl

theorem runA_LD (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) :
    (runA c i hc1 hc2 arg3 harg3 arg4 harg4 arg5 harg5 arg6 harg6 arg8 harg8 x3 x4 fA fB fX).2.2.2.1 = runA.sl.HD_5 c fA fB fX := rfl

theorem runA_LV (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) :
    (runA c i hc1 hc2 arg3 harg3 arg4 harg4 arg5 harg5 arg6 harg6 arg8 harg8 x3 x4 fA fB fX).2.2.2.2.1 = runA.sl.HV_5 c fA fB fX := rfl

theorem runA_LC (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) :
    (runA c i hc1 hc2 arg3 harg3 arg4 harg4 arg5 harg5 arg6 harg6 arg8 harg8 x3 x4 fA fB fX).2.2.2.2.2.1 = runA.sl.HC_5 c fA fB fX := rfl

theorem runA_L5_indep (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) :
    (runA c i hc1 hc2 arg3 harg3 arg4 harg4 arg5 harg5 arg6 harg6 arg8 harg8 x3 x4 fA fB fX).1 = (runA c i hc1 hc2 arg3 harg3 arg4 harg4 arg5 harg5 arg6 harg6 arg8 harg8 x3 x4 fA fB fX').1 := by
  unfold runA; dsimp only
  simp only [runA.sl.dma50, runA.sl.H6_5, runA.sl.H6_3, runA.sl.H5_15, runA.sl.v1166, runA.sl.H5_17, runA.sl.H6_2, runA.sl.H5_20, runA.sl.H5_8, runA.sl.v1157, runA.sl.H5_2, runA.sl.v1193, runA.sl.v1155, runA.sl.H5_5, runA.sl.v1164, runA.sl.v1184, runA.sl.v1175, runA.sl.v1151, runA.sl.H5_11, runA.sl.H6_1, runA.sl.v1173, runA.sl.H6_4, runA.sl.v1182, runA.sl.v1191, runA.sl.r_72, runA.sl.r_73, runA.sl.r_74, runA.sl.r_75, runA.sl.r_76, runA.sl.r_77]
  simp only [HD_5_indep c fA fB fX fX', HV_5_indep c fA fB fX fX', H8_5_indep c fA fB fX fX']

theorem runA_L6_indep (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) :
    (runA c i hc1 hc2 arg3 harg3 arg4 harg4 arg5 harg5 arg6 harg6 arg8 harg8 x3 x4 fA fB fX).2.1 = (runA c i hc1 hc2 arg3 harg3 arg4 harg4 arg5 harg5 arg6 harg6 arg8 harg8 x3 x4 fA fB fX').2.1 := by
  unfold runA; dsimp only
  simp only [runA.sl.dma50, runA.sl.H6_5, runA.sl.H6_3, runA.sl.H5_15, runA.sl.v1166, runA.sl.H5_17, runA.sl.H6_2, runA.sl.H5_20, runA.sl.H5_8, runA.sl.v1157, runA.sl.H5_2, runA.sl.v1193, runA.sl.v1155, runA.sl.H5_5, runA.sl.v1164, runA.sl.v1184, runA.sl.v1175, runA.sl.v1151, runA.sl.H5_11, runA.sl.H6_1, runA.sl.v1173, runA.sl.H6_4, runA.sl.v1182, runA.sl.v1191, runA.sl.r_72, runA.sl.r_73, runA.sl.r_74, runA.sl.r_75, runA.sl.r_76, runA.sl.r_77]
  simp only [HD_5_indep c fA fB fX fX', HV_5_indep c fA fB fX fX', H8_5_indep c fA fB fX fX']

end Cert.KernelIdeal.Hand

end
-- ==== Proof.KIPoints.lean ====
/-
  The kernel at its grid points: what its buffers hold before and after each,
  and that its argument arrays end as they began.
-/
module

public import proofs.«01_k».proof.Proof.KIIndep
public import proofs.«01_k».proof.Proof.Gen.KernelIdeal.Frame
public import Idealize.ShloMosaic.Lib.Pipeline.FrameValue
public import Idealize.ShloMosaic.Lib.Pipeline.Frame
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The grid points -/

theorem cond1_iff (t : Fin cfg0.N) : k0_cond1 (grid0.coords t) = 1#1 ↔ t.val = 0 := by
  rcases fin_N0 t with rfl | rfl | rfl | rfl | rfl | rfl | rfl <;> decide
theorem last_iff (t : Fin cfg0.N) : lastCond (grid0.coords t) ↔ t.val = 6 := by
  rcases fin_N0 t with rfl | rfl | rfl | rfl | rfl | rfl | rfl <;> decide

/-! ## The buffers the body moves itself -/

abbrev osem0 : Fin 5 → SemLoc sig := fun j => (![SemLoc.dma 9, SemLoc.dma 10, SemLoc.dma 11, SemLoc.dma 12, SemLoc.dma 13] : Fin 5 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0
          ∗ semVal ((c : Thread nD τ), SemLoc.dma 11) 0 ∗ semVal ((c : Thread nD τ), SemLoc.dma 12) 0
          ∗ semVal ((c : Thread nD τ), SemLoc.dma 13) 0) := by
  rw [Pipeline.ownSems0_eq_of_list c osem0 [0, 1, 2, 3, 4] (by decide) (by decide)]; rfl

/-- The arrays the body copies from. -/
def H0 : Finset (Ref sig .tc) := {main_v0, main_v1}
/-- The array the body copies to. -/
def R0 : Finset (Ref sig .tc) := {main_v2_2}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄)
      = iprop(hbPt0 c hbA (V m c main_v0) ∗ hbPt0 c hbB (V m c main_v1)) := by
  rw [BI.bigSep_eq_bigSepL_of_eq [main_v0, main_v1] (by decide) (by decide)]; rfl
theorem routed0_eq (c : Dev nD) (G : (b : Ref sig .tc) → Buf (Elt F) ((c : Thread nD τ).loc b)) :
    (Pipeline.routed R0 c G : sProp 𝕄) = owns (c : Thread nD τ) hbC fullShare (G main_v2_2) := by
  unfold Pipeline.routed
  rw [BI.bigSep_eq_bigSepL_of_eq [main_v2_2] (by decide) (by decide), owns_whole]; rfl

theorem PhiDR0_eq (c : Dev nD) (G : (c : Dev nD) → (b : Ref sig .tc) → Buf (Elt F) ((c : Thread nD τ).loc b)) :
    (Pipeline.ΦDRG osem0 spec0 H0 R0 (V m) G c : sProp 𝕄)
      = iprop(iprop((∃ d, owns (c : Thread nD τ) scX fullShare d) ∗ (∃ d, owns (c : Thread nD τ) scD fullShare d)
                ∗ (∃ d, owns (c : Thread nD τ) scV fullShare d) ∗ (∃ d, owns (c : Thread nD τ) scC fullShare d)
                ∗ (∃ d, owns (c : Thread nD τ) scW fullShare d))
          ∗ (∃ r, prngReg c r)
          ∗ iprop(semVal ((c : Thread nD τ), SemLoc.dma 9) 0 ∗ semVal ((c : Thread nD τ), SemLoc.dma 10) 0
              ∗ semVal ((c : Thread nD τ), SemLoc.dma 11) 0 ∗ semVal ((c : Thread nD τ), SemLoc.dma 12) 0
              ∗ semVal ((c : Thread nD τ), SemLoc.dma 13) 0)
          ∗ iprop(hbPt0 c hbA (V m c main_v0) ∗ hbPt0 c hbB (V m c main_v1))
          ∗ owns (c : Thread nD τ) hbC fullShare (G c main_v2_2)) := by
  rw [Pipeline.ΦDRG_eq, scopedRest0_eq, ownSems00_eq, hbmPts0_eq, routed0_eq]
  simp only [scX, scD, scV, scC, scW, hbC, owns_whole]; try rfl

/-- A buffer written with pieces that cover it is held at what the pieces say. -/
theorem owns_of_writes (c : Thread nD τ) {sp : Space} {sh : Shape} {e : EltTy} (M : Memref sig c.2.kind sp sh e)
    (f : M.view.ty.Contents (Elt F)) (L : List (View.Piece (Elt F) sh e)) (h : ∀ y, ∃ p ∈ L, y ∈ p.1.set) :
    (M.view.loc c ↦[M.view.set]{fullShare} M.view.writes (Elt F) f L : sProp 𝕄) ⊢ owns c M fullShare (View.canon L) := by
  unfold owns; iintro H; iexists _; isplitr
  swap; · iexact H
  ipureintro; exact View.read_writes_eq_canon _ _ _ h

theorem owns_of_ownsAt (c : Thread nD τ) {sp : Space} {sh : Shape} {e : EltTy} (M : Memref sig c.2.kind sp sh e)
    (f : M.view.ty.Contents (Elt F)) : (ownsAt c M f : sProp 𝕄) ⊢ owns c M fullShare (M.view.read (Elt F) f) := by
  unfold owns ownsAt; iintro H; iexists _; isplitr
  swap; · iexact H
  ipureintro; rfl

/-! ## What the first grid point leaves -/

/-- The rotated activations for the data product. -/
def XD (c : Dev nD) : Vec F S1920x1536 .bf16 := View.canon (runA.sl.HD_5 c (V m c main_v0) (V m c main_v1) scX.view.junk)
/-- The rotated activations for the other product. -/
def XV (c : Dev nD) : Vec F S1920x1536 .bf16 := View.canon (runA.sl.HV_5 c (V m c main_v0) (V m c main_v1) scX.view.junk)
/-- The codes. -/
def CO (c : Dev nD) : Vec F S1920x1536 .i8 := View.canon (runA.sl.HC_5 c (V m c main_v0) (V m c main_v1) scX.view.junk)
/-- The scales. -/
def SC (c : Dev nD) : Vec F S5x384 .f32 := View.canon (runA.sl.H8_5 c (V m c main_v0) (V m c main_v1) scX.view.junk)

theorem cover_HD (c : Dev nD) (fA : HbBuf0 (F := F) c hbA) (fB : HbBuf0 (F := F) c hbB) (fX : scX.view.ty.Contents (Elt F)) (y : S1920x1536.Idx) :
    ∃ p ∈ runA.sl.HD_5 c fA fB fX, y ∈ p.1.set :=
  View.cover_of_tiledL (runA.sl.HD_5 c fA fB fX) S384x1536.size (by sl_kernel_rfl) y
theorem cover_HV (c : Dev nD) (fA : HbBuf0 (F := F) c hbA) (fB : HbBuf0 (F := F) c hbB) (fX : scX.view.ty.Contents (Elt F)) (y : S1920x1536.Idx) :
    ∃ p ∈ runA.sl.HV_5 c fA fB fX, y ∈ p.1.set :=
  View.cover_of_tiledL (runA.sl.HV_5 c fA fB fX) S384x1536.size (by sl_kernel_rfl) y
theorem cover_HC (c : Dev nD) (fA : HbBuf0 (F := F) c hbA) (fB : HbBuf0 (F := F) c hbB) (fX : scX.view.ty.Contents (Elt F)) (y : S1920x1536.Idx) :
    ∃ p ∈ runA.sl.HC_5 c fA fB fX, y ∈ p.1.set :=
  View.cover_of_tiledL (runA.sl.HC_5 c fA fB fX) S384x1536.size (by sl_kernel_rfl) y
theorem cover_H8 (c : Dev nD) (fA : HbBuf0 (F := F) c hbA) (fB : HbBuf0 (F := F) c hbB) (fX : scX.view.ty.Contents (Elt F)) (y : S5x384.Idx) :
    ∃ p ∈ runA.sl.H8_5 c fA fB fX, y ∈ p.1.set :=
  View.cover_of_tiledL (runA.sl.H8_5 c fA fB fX) ![1, 384] (by sl_kernel_rfl) y

/-! ## What each grid point leaves in the two products' blocks -/

abbrev ms0_0 (t : Fin cfg0.N) : Memref sig .tc .vmem S1536x640 .i8 := win0_0.stage (cfg0.slots t 0)
abbrev ms0_1 (t : Fin cfg0.N) : Memref sig .tc .vmem S12x1280 .f32 := win0_1.stage (cfg0.slots t 1)
abbrev ms0_2 (t : Fin cfg0.N) : Memref sig .tc .vmem S1920x1280 .bf16 := win0_2.stage (cfg0.slots t 2)
abbrev ms0_3 (t : Fin cfg0.N) : Memref sig .tc .vmem S1920x1280 .bf16 := win0_3.stage (cfg0.slots t 3)
abbrev ms0_4 (t : Fin cfg0.N) : Memref sig .tc .vmem S5x384 .f32 := win0_4.stage (cfg0.slots t 4)
theorem hs0_0 (t : Fin cfg0.N) : (ms0_0 t).IsWhole := hstage0_0 ((cfg0.slots t 0).cast nbuf0_0)
theorem hs0_1 (t : Fin cfg0.N) : (ms0_1 t).IsWhole := hstage0_1 ((cfg0.slots t 1).cast nbuf0_1)
theorem hs0_2 (t : Fin cfg0.N) : (ms0_2 t).IsWhole := hstage0_2 ((cfg0.slots t 2).cast nbuf0_2)
theorem hs0_3 (t : Fin cfg0.N) : (ms0_3 t).IsWhole := hstage0_3 ((cfg0.slots t 3).cast nbuf0_3)
theorem hs0_4 (t : Fin cfg0.N) : (ms0_4 t).IsWhole := hstage0_4 ((cfg0.slots t 4).cast nbuf0_4)

/-- The run at the first grid point, at any earlier contents of the activations' slots. -/
abbrev rA (c : Dev nD) (t : Fin cfg0.N) (h : t.val = 0) (fX : scX.view.ty.Contents (Elt F)) :=
  runA c (grid0.coords t) ((cond1_iff t).2 h) (fun h' => by have := (last_iff t).1 h'; omega) (ms0_0 t) (hs0_0 t) (ms0_1 t) (hs0_1 t)
    (ms0_2 t) (hs0_2 t) (ms0_3 t) (hs0_3 t) (ms0_4 t) (hs0_4 t) (iblk m c 0 t) (iblk m c 1 t) (V m c main_v0) (V m c main_v1) fX
abbrev rB (c : Dev nD) (t : Fin cfg0.N) (h : ¬ t.val = 0) (h' : ¬ t.val = 6) :=
  runB c (grid0.coords t) (fun e => h ((cond1_iff t).1 e)) (fun e => h' ((last_iff t).1 e)) (ms0_0 t) (hs0_0 t) (ms0_1 t) (hs0_1 t)
    (ms0_2 t) (hs0_2 t) (ms0_3 t) (hs0_3 t) (ms0_4 t) (hs0_4 t) (iblk m c 0 t) (iblk m c 1 t) (SC m c) (XD m c) (XV m c)
abbrev rC (c : Dev nD) (t : Fin cfg0.N) (h : ¬ t.val = 0) (h' : t.val = 6) (fO : HbBuf0 (F := F) c hbC) (fC : scC.view.ty.Contents (Elt F)) :=
  runC c (grid0.coords t) (fun e => h ((cond1_iff t).1 e)) ((last_iff t).2 h') (ms0_0 t) (hs0_0 t) (ms0_1 t) (hs0_1 t)
    (ms0_2 t) (hs0_2 t) (ms0_3 t) (hs0_3 t) (ms0_4 t) (hs0_4 t) (iblk m c 0 t) (iblk m c 1 t) (SC m c) (XD m c) (XV m c) fO fC

/-- The data product's block after point `t`. -/
def out5 (c : Dev nD) (t : Fin cfg0.N) : Vec F S1920x1280 .bf16 :=
  if h : t.val = 0 then View.canon (rA m c t h scX.view.junk).1
  else if h' : t.val = 6 then View.canon (rC m c t h h' hbC.view.junk scC.view.junk).1
  else View.canon (rB m c t h h').1
/-- The other product's block after point `t`. -/
def out6 (c : Dev nD) (t : Fin cfg0.N) : Vec F S1920x1280 .bf16 :=
  if h : t.val = 0 then View.canon (rA m c t h scX.view.junk).2.1
  else if h' : t.val = 6 then View.canon (rC m c t h h' hbC.view.junk scC.view.junk).2.1
  else View.canon (rB m c t h h').2.1

theorem runC_L5_indep (c : Dev nD) (i : grid0.Coords) (hc1 : ¬ k0_cond1 i = 1#1) (hc2 : lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) (x8 : Vec F S5x384 .f32) (xd xv : Vec F S1920x1536 .bf16)
    (fO fO' : HbBuf0 (F := F) c hbC) (fC fC' : scC.view.ty.Contents (Elt F)) :
    (runC c i hc1 hc2 arg3 harg3 arg4 harg4 arg5 harg5 arg6 harg6 arg8 harg8 x3 x4 x8 xd xv fO fC).1 = (runC c i hc1 hc2 arg3 harg3 arg4 harg4 arg5 harg5 arg6 harg6 arg8 harg8 x3 x4 x8 xd xv fO' fC').1 := by
  unfold runC; dsimp only
theorem runC_L6 (c : Dev nD) (i : grid0.Coords) (hc1 : ¬ k0_cond1 i = 1#1) (hc2 : lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) (x8 : Vec F S5x384 .f32) (xd xv : Vec F S1920x1536 .bf16)
    (fO : HbBuf0 (F := F) c hbC) (fC : scC.view.ty.Contents (Elt F)) :
    (runC c i hc1 hc2 arg3 harg3 arg4 harg4 arg5 harg5 arg6 harg6 arg8 harg8 x3 x4 x8 xd xv fO fC).2.1 = runC.sl.H6_5 c arg3 arg4 x3 x4 xv := rfl

theorem cover_rA5 (c : Dev nD) (t : Fin cfg0.N) (h : t.val = 0) (fX : scX.view.ty.Contents (Elt F)) (y : S1920x1280.Idx) :
    ∃ p ∈ (rA m c t h fX).1, y ∈ p.1.set :=
  View.cover_of_tiledL (rA m c t h fX).1 ![384, 256] (by sl_kernel_rfl) y
theorem cover_rA6 (c : Dev nD) (t : Fin cfg0.N) (h : t.val = 0) (fX : scX.view.ty.Contents (Elt F)) (y : S1920x1280.Idx) :
    ∃ p ∈ (rA m c t h fX).2.1, y ∈ p.1.set :=
  View.cover_of_tiledL (rA m c t h fX).2.1 ![1920, 256] (by sl_kernel_rfl) y
theorem cover_rB5 (c : Dev nD) (t : Fin cfg0.N) (h : ¬ t.val = 0) (h' : ¬ t.val = 6) (y : S1920x1280.Idx) :
    ∃ p ∈ (rB m c t h h').1, y ∈ p.1.set :=
  View.cover_of_tiledL (rB m c t h h').1 ![384, 256] (by sl_kernel_rfl) y
theorem cover_rB6 (c : Dev nD) (t : Fin cfg0.N) (h : ¬ t.val = 0) (h' : ¬ t.val = 6) (y : S1920x1280.Idx) :
    ∃ p ∈ (rB m c t h h').2.1, y ∈ p.1.set :=
  View.cover_of_tiledL (rB m c t h h').2.1 ![1920, 256] (by sl_kernel_rfl) y
theorem cover_rC5 (c : Dev nD) (t : Fin cfg0.N) (h : ¬ t.val = 0) (h' : t.val = 6) (fO : HbBuf0 (F := F) c hbC) (fC : scC.view.ty.Contents (Elt F)) (y : S1920x1280.Idx) :
    ∃ p ∈ (rC m c t h h' fO fC).1, y ∈ p.1.set :=
  View.cover_of_tiledL (rC m c t h h' fO fC).1 ![384, 256] (by sl_kernel_rfl) y
theorem cover_rC6 (c : Dev nD) (t : Fin cfg0.N) (h : ¬ t.val = 0) (h' : t.val = 6) (fO : HbBuf0 (F := F) c hbC) (fC : scC.view.ty.Contents (Elt F)) (y : S1920x1280.Idx) :
    ∃ p ∈ (rC m c t h h' fO fC).2.1, y ∈ p.1.set :=
  View.cover_of_tiledL (rC m c t h h' fO fC).2.1 ![1920, 256] (by sl_kernel_rfl) y

/-! ## The invariant and the pipeline's data -/

/-- Between the first and the last grid point: the rotated activations are in place and the codes are on their way. -/
def Mid (c : Dev nD) : sProp 𝕄 :=
  iprop((∃ d, owns (c : Thread nD τ) scX fullShare d) ∗ owns (c : Thread nD τ) scD fullShare (XD m c)
    ∗ owns (c : Thread nD τ) scV fullShare (XV m c) ∗ (∃ d, owns (c : Thread nD τ) scW fullShare d)
    ∗ (∃ r, prngReg c r)
    ∗ semVal ((c : Thread nD τ), SemLoc.dma 9) 0 ∗ semVal ((c : Thread nD τ), SemLoc.dma 10) 0
    ∗ semVal ((c : Thread nD τ), SemLoc.dma 11) 0 ∗ semVal ((c : Thread nD τ), SemLoc.dma 12) 0
    ∗ hbPt0 c hbA (V m c main_v0) ∗ hbPt0 c hbB (V m c main_v1)
    ∗ (∃ fC, Transfers.Flight (countersEmb (U := Pipeline.UD sig nD τ)) (c : Thread nD τ) (SemLoc.dma 13) () 92160
        iprop(ownsAt (c : Thread nD τ) hbC (hbC.view.rep (CO m c)) ∗ ownsAt (c : Thread nD τ) scC fC)))

/-- The kernel's buffers at the end: the codes' array at the codes. -/
def G (c : Dev nD) : (b : Ref sig .tc) → Buf (Elt F) ((c : Thread nD τ).loc b) := Function.update (V m c) main_v2_2 (CO m c)
theorem G_v2_2 (c : Dev nD) : G m c main_v2_2 = CO m c := by unfold G; exact Function.update_self ..

def Inv (c : Dev nD) (k : ℕ) : sProp 𝕄 :=
  if k = 0 then Pipeline.ΦDRG osem0 spec0 H0 R0 (V m) (V m) c
  else if k = 7 then Pipeline.ΦDRG osem0 spec0 H0 R0 (V m) (G m) c
  else Mid m c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => out5 m c t
    | ⟨3, _⟩ => out6 m c t
    | ⟨4, _⟩ => SC m c
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out5 m c t := by dsimp only [dats]
theorem after0_3 (c : Dev nD) (t : Fin cfg0.N) : (dats m 0 c).after 3 t = out6 m c t := by dsimp only [dats]
theorem after0_4 (c : Dev nD) (t : Fin cfg0.N) : (dats m 0 c).after 4 t = SC m c := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem idle4_first (t : Fin cfg0.N) (h : t.val = 0) : cfg0.idle 4 (cfg0.grid.coords t) = false := by
  show (!(k0_cond1 (grid0.coords t) == 1#1)) = false
  rw [(cond1_iff t).2 h]; rfl
theorem idle4_later (t : Fin cfg0.N) (h : ¬ t.val = 0) : cfg0.idle 4 (cfg0.grid.coords t) = true := by
  show (!(k0_cond1 (grid0.coords t) == 1#1)) = true
  have := mt (cond1_iff t).1 h
  rw [Bool.not_eq_true', beq_eq_false_iff_ne]; exact this
theorem flush4_early (t : Fin cfg0.N) (h : t.val < 6) : (cfg0.win 4).flush t = false := by
  rw [← Bool.not_eq_true, flush0_4]; have := t.isLt; have : cfg0.N = 7 := N_0; omega
/-- After the first grid point the scales' buffer holds the scales: later points leave it alone. -/
theorem before0_4_aux (c : Dev nD) : ∀ (n : ℕ) (t : Fin cfg0.N) (_ : t.val = n + 1) (d), (dats m 0 c).before 4 t d = SC m c
  | 0, t, hn, d => by
    have hlt : t.val < 7 := lt_of_lt_of_eq t.isLt N_0
    rw [(dats m 0 c).before_of_pos 4 t (by omega) ((cfg0.win 4).fetch_out rfl t) d, flush4_early _ (by simp only; omega), if_neg Bool.false_ne_true]
    unfold Dat.left
    rw [idle4_first _ (by simp only; omega)]
    unfold Dat.kept
    rw [Pipeline.fill_of_clip_none 4 _ (fun _ => rfl) d ((dats m 0 c).after 4 _), Window.fill_cut, after0_4]
  | n + 1, t, hn, d => by
    have hlt : t.val < 7 := lt_of_lt_of_eq t.isLt N_0
    rw [(dats m 0 c).before_of_pos 4 t (by omega) ((cfg0.win 4).fetch_out rfl t) d, flush4_early _ (by simp only; omega), if_neg Bool.false_ne_true]
    unfold Dat.left
    rw [idle4_later _ (by simp only; omega)]
    exact before0_4_aux c n _ (by simp only; omega) d
theorem before0_4 (c : Dev nD) (t : Fin cfg0.N) (ht : ¬ t.val = 0) (d) : (dats m 0 c).before 4 t d = SC m c :=
  before0_4_aux m c (t.val - 1) t (by omega) d
/-- The scales' buffer at the scales is what a grid point must leave there. -/
theorem leaves4 (c : Dev nD) (t : Fin cfg0.N) : owns (c : Thread nD τ) (ms0_4 t) fullShare (SC m c) ⊢ (dats m 0 c).leavesExact 4 t := by
  have hlt : t.val < 7 := lt_of_lt_of_eq t.isLt N_0
  unfold Dat.leavesExact
  by_cases h0 : t.val = 0
  · rw [idle4_first t h0]; dsimp only; rw [after0_4]
  · rw [idle4_later t h0]; dsimp only
    by_cases h6 : t.val = 6
    · rw [(flush0_4 t).2 (by have : cfg0.N = 7 := N_0; omega)]; dsimp only; rw [after0_4]
    · rw [flush4_early t (by omega)]; dsimp only
      iintro H
      iexists (SC m c)
      rw [before0_4 m c t h0]
      iexact H

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

theorem own_in (c : Thread nD τ) {sp : Space} {sh : Shape} {e : EltTy} (a : Memref sig c.2.kind sp sh e) (x : Vec F sh e) :
    (owns c a fullShare x : sProp 𝕄) ⊢ ownsAt c a (a.view.rep x) := by rw [ownsAt_rep]
theorem own_out (c : Thread nD τ) {sp : Space} {sh : Shape} {e : EltTy} (a : Memref sig c.2.kind sp sh e) (x : Vec F sh e) :
    (ownsAt c a (a.view.rep x) : sProp 𝕄) ⊢ owns c a fullShare x := by rw [ownsAt_rep]

theorem Phi_eq (c : Dev nD) (k : Fin (cfg0.N + 1)) : (dats m 0 c).Φ k = Inv m c k.val := by dsimp only [dats]

end Cert.KernelIdeal.Hand

end
-- ==== Proof.KIFrame.lean ====
/-
  The kernel's run over its whole grid: what its buffers hold before each grid point, what it leaves in its four results,
  and that its argument arrays end as they began.
-/
module

public import proofs.«01_k».proof.Proof.KIPoints
public import proofs.«01_k».proof.Proof.Gen.KernelIdeal.Frame
public import Idealize.ShloMosaic.Lib.Pipeline.FrameValue
public import Idealize.ShloMosaic.Lib.Pipeline.Frame
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- `owns_of_writes` at an equal list of pieces. -/
theorem owns_of_writes_eq (c : Thread nD τ) {sp : Space} {sh : Shape} {e : EltTy} (a : Memref sig c.2.kind sp sh e) (f : a.view.ty.Contents (Elt F))
    {L L' : List (View.Piece (Elt F) sh e)} (h : L = L') (hc : ∀ y, ∃ p ∈ L', y ∈ p.1.set) :
    (iprop(a.view.loc c ↦[a.view.set]{fullShare} a.view.writes (Elt F) f L) : sProp 𝕄) ⊢ owns c a fullShare (View.canon L') := by
  subst h; exact owns_of_writes c a f L hc

/-- What the copy of the codes delivers. -/
theorem deliver (c : Dev nD) (fO : HbBuf0 (F := F) c hbC) (fX : scX.view.ty.Contents (Elt F)) (fC : scC.view.ty.Contents (Elt F))
    (L : List (View.Piece (Elt F) S1920x1536 .i8)) (hL : L = runA.sl.HC_5 c (V m c main_v0) (V m c main_v1) fX) :
    (iprop((hbC.view.loc (c : Thread nD τ) ↦[hbC.view.set]{fullShare} hbC.view.writes (Elt F) fO [⟨Rect.whole S1920x1536, ReadAs.same.apply (scC.view.read (Elt F) (scC.view.writes (Elt F) fC L))⟩])
                      ∗ (scC.view.loc (c : Thread nD τ) ↦[scC.view.set]{fullShare} scC.view.writes (Elt F) fC L)) : sProp 𝕄)
    ⊢ iprop(ownsAt (c : Thread nD τ) hbC (hbC.view.rep (CO m c)) ∗ ownsAt (c : Thread nD τ) scC (scC.view.writes (Elt F) fC L)) := by
  subst hL
  rw [ownsAt_rep]
  unfold owns ownsAt
  iintro ⟨H, H'⟩
  isplitl [H]
  · iexists _; isplitr
    swap; · iexact H
    ipureintro
    rw [View.read_writes_whole, View.read_writes_eq_canon _ _ _ (cover_HC c _ _ _), HC_5_indep c _ _ fX scX.view.junk]
    rfl
  · iexact H'

/-- The copy on its way, with what it delivers spelled out. -/
theorem flight_raw (c : Dev nD) (xo : Vec F S1920x1536 .i8) (fC : scC.view.ty.Contents (Elt F)) :
    (Transfers.Flight (countersEmb (U := Pipeline.UD sig nD τ)) (c : Thread nD τ) (SemLoc.dma 13) () 92160
        iprop(ownsAt (c : Thread nD τ) hbC (hbC.view.rep xo) ∗ ownsAt (c : Thread nD τ) scC fC) : sProp 𝕄)
    ⊢ Transfers.Flight (countersEmb (U := Pipeline.UD sig nD τ)) (c : Thread nD τ) (SemLoc.dma 13) () 92160
        iprop((hbC.view.loc (c : Thread nD τ) ↦[hbC.view.set]{fullShare} (hbC.view.rep xo : HbBuf0 (F := F) c hbC))
          ∗ (scC.view.loc (c : Thread nD τ) ↦[scC.view.set]{fullShare} fC)) := by
  unfold ownsAt; exact .rfl

set_option maxHeartbeats 1600000 in
theorem sound_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, after0_0, after0_1, after0_2, after0_3, after0_4]
  rw [Phi_eq, Phi_eq, show Inv m c t.castSucc.val = Pipeline.ΦDRG osem0 spec0 H0 R0 (V m) (V m) c from if_pos h0,
    show Inv m c t.succ.val = Mid m c from by unfold Inv; rw [if_neg (by simp), if_neg (by simp [h0])], PhiDR0_eq]
  unfold Dat.owesAt Pipeline.owesWithin Mid
  rw [show (dats m 0 c).owed t.castSucc = 0 from rfl, show (dats m 0 c).owed t.succ = 0 from rfl]
  iintro ⟨⟨⟨⟨%dX, HX⟩, HD, HV, HC, HS⟩, Hg, ⟨Hq9, Hq10, Hq11, Hq12, Hq13⟩, ⟨HA, HB⟩, HO⟩, ⟨%W, -, HW⟩, ⟨%d0, H0⟩, ⟨%d1, H1⟩, ⟨%d2, H2⟩, ⟨%d3, H3⟩, ⟨%d4, H4⟩⟩
  iapply ((rA m c t h0 (scX.view.rep dX)).2.2.2.2.2.2 W _)
  isplitl [H0]; · iapply (own_in (c : Thread nD τ) (ms0_0 t) _) $$ H0
  isplitl [H1]; · iapply (own_in (c : Thread nD τ) (ms0_1 t) _) $$ H1
  isplitl [H2]; · iexists _; iexact H2
  isplitl [H3]; · iexists _; iexact H3
  isplitl [H4]; · iexists _; iexact H4
  isplitl [HX]; · iapply (own_in (c : Thread nD τ) scX dX) $$ HX
  isplitl [HD]; · iexact HD
  isplitl [HV]; · iexact HV
  isplitl [HC]; · iexact HC
  isplitl [HS]; · iexact HS
  isplitl [Hq9]; · iexact Hq9
  isplitl [Hq10]; · iexact Hq10
  isplitl [Hq11]; · iexact Hq11
  isplitl [Hq12]; · iexact Hq12
  isplitl [Hq13]; · iexact Hq13
  isplitl [HA]; · iexact HA
  isplitl [HB]; · iexact HB
  isplitl [HO]; · iexists _; iexact HO
  isplitl [HW]; · iexact HW
  iintro ⟨H0, H1, ⟨%e2, H2⟩, ⟨%e3, H3⟩, ⟨%e4, H4⟩, HX, ⟨%eD, HD⟩, ⟨%eV, HV⟩, HS, Hq9, Hq10, Hq11, Hq12, HA, HB, ⟨%D, %fO, %fC, %hD, HF⟩, ⟨%W', HW'⟩⟩
  subst hD
  isplitl [HX HD HV HS Hg Hq9 Hq10 Hq11 Hq12 HA HB HF]
  · isplitl [HX]; · iexact HX
    isplitl [HD]
    · unfold XD; rw [HD_5_indep c _ _ scX.view.junk (scX.view.rep dX)]
      iapply (owns_of_writes_eq (c : Thread nD τ) scD eD (runA_LD ..) (cover_HD c _ _ _)) $$ HD
    isplitl [HV]
    · unfold XV; rw [HV_5_indep c _ _ scX.view.junk (scX.view.rep dX)]
      iapply (owns_of_writes_eq (c : Thread nD τ) scV eV (runA_LV ..) (cover_HV c _ _ _)) $$ HV
    isplitl [HS]; · iexact HS
    isplitl [Hg]; · iexact Hg
    isplitl [Hq9]; · iexact Hq9
    isplitl [Hq10]; · iexact Hq10
    isplitl [Hq11]; · iexact Hq11
    isplitl [Hq12]; · iexact Hq12
    isplitl [HA]; · iexact HA
    isplitl [HB]; · iexact HB
    iexists _
    iapply (Transfers.Flight_mono (countersEmb (U := Pipeline.UD sig nD τ)) (c : Thread nD τ) (deliver m c fO (scX.view.rep dX) fC _ (runA_LC ..))) $$ HF
  isplitl [HW']
  · iexists W'; isplitr; · ipureintro; exact fun _ _ => Or.inl trivial
    iexact HW'
  isplitl [H0]; · iapply (own_out (c : Thread nD τ) (ms0_0 t) _) $$ H0
  isplitl [H1]; · iapply (own_out (c : Thread nD τ) (ms0_1 t) _) $$ H1
  isplitl [H2]
  · unfold out5; rw [dif_pos h0, runA_L5_indep c _ _ scX.view.junk (scX.view.rep dX)]
    iapply (owns_of_writes (c : Thread nD τ) (ms0_2 t) e2 _ (cover_rA5 m c t h0 _)) $$ H2
  isplitl [H3]
  · unfold out6; rw [dif_pos h0, runA_L6_indep c _ _ scX.view.junk (scX.view.rep dX)]
    iapply (owns_of_writes (c : Thread nD τ) (ms0_3 t) e3 _ (cover_rA6 m c t h0 _)) $$ H3
  · unfold SC; rw [H8_5_indep c _ _ scX.view.junk (scX.view.rep dX)]
    iapply (owns_of_writes_eq (c : Thread nD τ) (ms0_4 t) e4 (runA_L8 ..) (cover_H8 c _ _ _)) $$ H4

set_option maxHeartbeats 1600000 in
theorem sound_mid (c : Dev nD) (t : Fin cfg0.N) (h0 : ¬ t.val = 0) (h6 : ¬ t.val = 6) :
    bodyPre m c t ⊢ wp frame (wpE (defs₀ (F := F)) Variants.none c none) Set.univ (bodyAt0 t) (fun _ => bodyPost m c t) := by
  unfold bodyPre bodyPost bodyAt0
  simp only [before0_0, before0_1, before0_4 m c t h0, after0_0, after0_1, after0_2, after0_3, after0_4]
  have hlt : t.val < 7 := lt_of_lt_of_eq t.isLt N_0
  rw [Phi_eq, Phi_eq, show Inv m c t.castSucc.val = Mid m c from by unfold Inv; rw [if_neg (by simpa using h0), if_neg (by simp; omega)],
    show Inv m c t.succ.val = Mid m c from by unfold Inv; rw [if_neg (by simp), if_neg (by simp; omega)]]
  unfold Dat.owesAt Pipeline.owesWithin Mid
  rw [show (dats m 0 c).owed t.castSucc = 0 from rfl, show (dats m 0 c).owed t.succ = 0 from rfl]
  iintro ⟨⟨HX, HD, HV, HS, Hrest⟩, ⟨%W, -, HW⟩, ⟨%d0, H0⟩, ⟨%d1, H1⟩, ⟨%d2, H2⟩, ⟨%d3, H3⟩, ⟨%d4, H4⟩⟩
  iapply ((rB m c t h0 h6).2.2 _)
  isplitl [H0]; · iapply (own_in (c : Thread nD τ) (ms0_0 t) _) $$ H0
  isplitl [H1]; · iapply (own_in (c : Thread nD τ) (ms0_1 t) _) $$ H1
  isplitl [H2]; · iexists _; iexact H2
  isplitl [H3]; · iexists _; iexact H3
  isplitl [H4]; · iapply (own_in (c : Thread nD τ) (ms0_4 t) _) $$ H4
  isplitl [HD]; · iapply (own_in (c : Thread nD τ) scD _) $$ HD
  isplitl [HV]; · iapply (own_in (c : Thread nD τ) scV _) $$ HV
  isplitl [HS]; · iexact HS
  iintro ⟨H0, H1, ⟨%e2, H2⟩, ⟨%e3, H3⟩, H4, HD, HV, HS⟩
  isplitl [HX HD HV HS Hrest]
  · isplitl [HX]; · iexact HX
    isplitl [HD]; · iapply (own_out (c : Thread nD τ) scD _) $$ HD
    isplitl [HV]; · iapply (own_out (c : Thread nD τ) scV _) $$ HV
    isplitl [HS]; · iexact HS
    iexact Hrest
  isplitl [HW]
  · iexists W; isplitr; · ipureintro; exact fun _ _ => Or.inl trivial
    iexact HW
  isplitl [H0]; · iapply (own_out (c : Thread nD τ) (ms0_0 t) _) $$ H0
  isplitl [H1]; · iapply (own_out (c : Thread nD τ) (ms0_1 t) _) $$ H1
  isplitl [H2]
  · unfold out5; rw [dif_neg h0, dif_neg h6]
    iapply (owns_of_writes (c : Thread nD τ) (ms0_2 t) e2 _ (cover_rB5 m c t h0 h6)) $$ H2
  isplitl [H3]
  · unfold out6; rw [dif_neg h0, dif_neg h6]
    iapply (owns_of_writes (c : Thread nD τ) (ms0_3 t) e3 _ (cover_rB6 m c t h0 h6)) $$ H3
  · iapply (own_out (c : Thread nD τ) (ms0_4 t) _) $$ H4

set_option maxHeartbeats 1600000 in
/-- The run at the last grid point, from and to whole buffers. -/
theorem runC_owns (c : Dev nD) (i : grid0.Coords) (hc1 : ¬ k0_cond1 i = 1#1) (hc2 : lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec F S1536x640 .i8) (x4 : Vec F S12x1280 .f32) (x8 : Vec F S5x384 .f32) (xd xv : Vec F S1920x1536 .bf16)
    (xo : Vec F S1920x1536 .i8) (fC fC' : scC.view.ty.Contents (Elt F)) (fO' : HbBuf0 (F := F) c hbC)
    (h5 : ∀ y, ∃ p ∈ (runC c i hc1 hc2 arg3 harg3 arg4 harg4 arg5 harg5 arg6 harg6 arg8 harg8 x3 x4 x8 xd xv fO' fC').1, y ∈ p.1.set)
    (h6 : ∀ y, ∃ p ∈ (runC c i hc1 hc2 arg3 harg3 arg4 harg4 arg5 harg5 arg6 harg6 arg8 harg8 x3 x4 x8 xd xv fO' fC').2.1, y ∈ p.1.set)
    (W : Waits sig Unit) (K : PUnit → sProp 𝕄) :
    iprop(owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ owns (c : Thread nD τ) arg8 fullShare x8 ∗ owns (c : Thread nD τ) scD fullShare xd ∗ owns (c : Thread nD τ) scV fullShare xv
        ∗ (∃ d, owns (c : Thread nD τ) scW fullShare d)
        ∗ Transfers.Flight (countersEmb (U := Pipeline.UD sig nD τ)) (c : Thread nD τ) (SemLoc.dma 13) () 92160
            iprop(ownsAt (c : Thread nD τ) hbC (hbC.view.rep xo) ∗ ownsAt (c : Thread nD τ) scC fC)
        ∗ owes (c : Thread nD τ) 0 W
        ∗ (iprop(owns (c : Thread nD τ) arg3 fullShare x3 ∗ owns (c : Thread nD τ) arg4 fullShare x4
            ∗ owns (c : Thread nD τ) arg5 fullShare (View.canon (runC c i hc1 hc2 arg3 harg3 arg4 harg4 arg5 harg5 arg6 harg6 arg8 harg8 x3 x4 x8 xd xv fO' fC').1)
            ∗ owns (c : Thread nD τ) arg6 fullShare (View.canon (runC c i hc1 hc2 arg3 harg3 arg4 harg4 arg5 harg5 arg6 harg6 arg8 harg8 x3 x4 x8 xd xv fO' fC').2.1)
            ∗ owns (c : Thread nD τ) arg8 fullShare x8 ∗ owns (c : Thread nD τ) scD fullShare xd ∗ owns (c : Thread nD τ) scV fullShare xv
            ∗ (∃ d, owns (c : Thread nD τ) scW fullShare d)
            ∗ semVal ((c : Thread nD τ), SemLoc.dma 13) 0
            ∗ owns (c : Thread nD τ) hbC fullShare xo ∗ (∃ d, owns (c : Thread nD τ) scC fullShare d)
            ∗ (∃ W', owes (c : Thread nD τ) 0 W')) -∗ K ⟨⟩))
      ⊢ wp frame (wpE (defs₀ (F := F)) Variants.none c none) Set.univ
          (cc0_qspec_linear i hbA (Memref.isWhole_whole _) hbB (Memref.isWhole_whole _) arg3 harg3 arg4 harg4 arg5 harg5 arg6 harg6
            hbC (Memref.isWhole_whole _) arg8 harg8 scX (Memref.isWhole_whole _) scD (Memref.isWhole_whole _) scV (Memref.isWhole_whole _)
            scC (Memref.isWhole_whole _) scW (Memref.isWhole_whole _) cc0_scratch5 cc0_scratch6) K := by
  iintro ⟨H0, H1, H2, H3, H4, HD, HV, HS, HF, HW, HK⟩
  iapply ((runC c i hc1 hc2 arg3 harg3 arg4 harg4 arg5 harg5 arg6 harg6 arg8 harg8 x3 x4 x8 xd xv (hbC.view.rep xo) fC).2.2 W K)
  isplitl [H0]; · iapply (own_in (c : Thread nD τ) arg3 x3) $$ H0
  isplitl [H1]; · iapply (own_in (c : Thread nD τ) arg4 x4) $$ H1
  isplitl [H2]; · iexact H2
  isplitl [H3]; · iexact H3
  isplitl [H4]; · iapply (own_in (c : Thread nD τ) arg8 x8) $$ H4
  isplitl [HD]; · iapply (own_in (c : Thread nD τ) scD xd) $$ HD
  isplitl [HV]; · iapply (own_in (c : Thread nD τ) scV xv) $$ HV
  isplitl [HS]; · iexact HS
  isplitl [HF]; · iapply (flight_raw c xo fC) $$ HF
  isplitl [HW]; · iexact HW
  iintro ⟨H0, H1, ⟨%e2, H2⟩, ⟨%e3, H3⟩, H4, HD, HV, HS, Hq13, HO, HC, HW'⟩
  iapply HK
  isplitl [H0]; · iapply (own_out (c : Thread nD τ) arg3 x3) $$ H0
  isplitl [H1]; · iapply (own_out (c : Thread nD τ) arg4 x4) $$ H1
  isplitl [H2]
  · rw [runC_L5_indep c i hc1 hc2 arg3 harg3 arg4 harg4 arg5 harg5 arg6 harg6 arg8 harg8 x3 x4 x8 xd xv (hbC.view.rep xo) fO' fC fC']
    iapply (owns_of_writes (c : Thread nD τ) arg5 e2 _ h5) $$ H2
  isplitl [H3]
  · rw [runC_L6 c i hc1 hc2 arg3 harg3 arg4 harg4 arg5 harg5 arg6 harg6 arg8 harg8 x3 x4 x8 xd xv (hbC.view.rep xo) fC, ← runC_L6 c i hc1 hc2 arg3 harg3 arg4 harg4 arg5 harg5 arg6 harg6 arg8 harg8 x3 x4 x8 xd xv fO' fC']
    iapply (owns_of_writes (c : Thread nD τ) arg6 e3 _ h6) $$ H3
  isplitl [H4]; · iapply (own_out (c : Thread nD τ) arg8 x8) $$ H4
  isplitl [HD]; · iapply (own_out (c : Thread nD τ) scD xd) $$ HD
  isplitl [HV]; · iapply (own_out (c : Thread nD τ) scV xv) $$ HV
  isplitl [HS]; · iexact HS
  isplitl [Hq13]; · iexact Hq13
  isplitl [HO]; · iapply (own_out (c : Thread nD τ) hbC xo) $$ HO
  isplitl [HC]
  · iexists _
    iapply (owns_of_ownsAt (c : Thread nD τ) scC fC) $$ HC
  iexact HW'

theorem out5_last (c : Dev nD) (t : Fin cfg0.N) (h0 : ¬ t.val = 0) (h6 : t.val = 6) :
    out5 m c t = View.canon (rC m c t h0 h6 hbC.view.junk scC.view.junk).1 := by unfold out5; rw [dif_neg h0, dif_pos h6]
theorem out6_last (c : Dev nD) (t : Fin cfg0.N) (h0 : ¬ t.val = 0) (h6 : t.val = 6) :
    out6 m c t = View.canon (rC m c t h0 h6 hbC.view.junk scC.view.junk).2.1 := by unfold out6; rw [dif_neg h0, dif_pos h6]

set_option maxHeartbeats 1600000 in
theorem sound_last (c : Dev nD) (t : Fin cfg0.N) (h0 : ¬ t.val = 0) (h6 : t.val = 6) :
    bodyPre m c t ⊢ wp frame (wpE (defs₀ (F := F)) Variants.none c none) Set.univ (bodyAt0 t) (fun _ => bodyPost m c t) := by
  unfold bodyPre bodyPost bodyAt0
  simp only [before0_0, before0_1, before0_4 m c t h0, after0_0, after0_1, after0_2, after0_3, after0_4]
  rw [Phi_eq, Phi_eq, show Inv m c t.castSucc.val = Mid m c from by unfold Inv; rw [if_neg (by simpa using h0), if_neg (by simp; omega)],
    show Inv m c t.succ.val = Pipeline.ΦDRG osem0 spec0 H0 R0 (V m) (G m) c from by unfold Inv; rw [if_neg (by simp), if_pos (by simp; omega)],
    PhiDR0_eq, G_v2_2]
  unfold Dat.owesAt Pipeline.owesWithin Mid
  rw [show (dats m 0 c).owed t.castSucc = 0 from rfl, show (dats m 0 c).owed t.succ = 0 from rfl]
  iintro ⟨⟨HX, HD, HV, HS, Hg, Hq9, Hq10, Hq11, Hq12, HA, HB, ⟨%fC, HF⟩⟩, ⟨%W, -, HW⟩, ⟨%d0, H0⟩, ⟨%d1, H1⟩, ⟨%d2, H2⟩, ⟨%d3, H3⟩, ⟨%d4, H4⟩⟩
  iapply (runC_owns c (grid0.coords t) (fun e => h0 ((cond1_iff t).1 e)) ((last_iff t).2 h6) (ms0_0 t) (hs0_0 t) (ms0_1 t) (hs0_1 t)
    (ms0_2 t) (hs0_2 t) (ms0_3 t) (hs0_3 t) (ms0_4 t) (hs0_4 t) (iblk m c 0 t) (iblk m c 1 t) (SC m c) (XD m c) (XV m c) (CO m c) fC
    scC.view.junk hbC.view.junk (cover_rC5 m c t h0 h6 _ _) (cover_rC6 m c t h0 h6 _ _) W _)
  isplitl [H0]; · iexact H0
  isplitl [H1]; · iexact H1
  isplitl [H2]; · iexists _; iexact H2
  isplitl [H3]; · iexists _; iexact H3
  isplitl [H4]; · iexact H4
  isplitl [HD]; · iexact HD
  isplitl [HV]; · iexact HV
  isplitl [HS]; · iexact HS
  isplitl [HF]; · iexact HF
  isplitl [HW]; · iexact HW
  iintro ⟨H0, H1, H2, H3, H4, HD, HV, HS, Hq13, HO, HC, ⟨%W', HW'⟩⟩
  isplitl [HX HD HV HC HS Hg Hq9 Hq10 Hq11 Hq12 Hq13 HA HB HO]
  · isplitl [HX HD HV HC HS]
    · isplitl [HX]; · iexact HX
      isplitl [HD]; · iexists _; iexact HD
      isplitl [HV]; · iexists _; iexact HV
      isplitl [HC]; · iexact HC
      iexact HS
    isplitl [Hg]; · iexact Hg
    isplitl [Hq9 Hq10 Hq11 Hq12 Hq13]
    · isplitl [Hq9]; · iexact Hq9
      isplitl [Hq10]; · iexact Hq10
      isplitl [Hq11]; · iexact Hq11
      isplitl [Hq12]; · iexact Hq12
      iexact Hq13
    isplitl [HA HB]
    · isplitl [HA]; · iexact HA
      iexact HB
    iexact HO
  isplitl [HW']
  · iexists W'; isplitr; · ipureintro; exact fun _ _ => Or.inl trivial
    iexact HW'
  isplitl [H0]; · iexact H0
  isplitl [H1]; · iexact H1
  isplitl [H2]
  · rw [out5_last m c t h0 h6]; iexact H2
  isplitl [H3]
  · rw [out6_last m c t h0 h6]; iexact H3
  · iexact H4

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h6 : t.val = 6
  · exact sound_last m c t h0 h6
  · exact sound_mid m c t h0 h6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by
    unfold bodyPost
    iintro ⟨HP, HW, H0, H1, H2, H3, H4⟩
    isplitl [HP]; · iexact HP
    isplitl [HW]; · iexact HW
    isplitl [H0]; · iexact H0
    isplitl [H1]; · iexact H1
    isplitl [H2]; · iexact H2
    isplitl [H3]; · iexact H3
    rw [after0_4]
    iapply (leaves4 m c t) $$ H4

/-! ## The run and the frame -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The program runs; the windows' arrays end at what the grid points leave in them, the codes' array at the codes, every other
    array as the kernel finds it, every semaphore at zero. -/
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := fun c => by rw [Phi_eq]; unfold Inv; rw [if_pos (by rfl)])
    (hout := fun c => by
      rw [Phi_eq]; unfold Inv; rw [if_neg (by rw [Fin.val_last]; show ¬ grid0.N = 0; rw [N_0]; decide), if_pos (by rw [Fin.val_last]; exact N_0)])

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
     ⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).1 0).trans (((dats m 0 c).arrAt_in 0 rfl _).trans ((A_eq m c 0).trans (V_main_arg2 m c))),
      ((h.1.1 c).1 1).trans (((dats m 0 c).arrAt_in 1 rfl _).trans ((A_eq m c 1).trans (V_main_arg3 m c)))⟩, h.2⟩) (run_main m ρ)

end Cert.KernelIdeal.Hand

end
-- ==== Proof.Math.lean ====
module

public import proofs.«01_k».proof.Proof.Gen.KernelIdeal.Skeleton
public import Idealize.ShloMosaic.Lib.Pointwise
public import Idealize.ShloMosaic.Lib.MatmulPlain
public import Idealize.ShloMosaic.Lib.BitcastFour
public import Idealize.ShloMosaic.Lib.Pipeline.Value
public import Idealize.ShloMosaic.PureOps.Ideal.Laws

@[expose] public section

noncomputable section

namespace Cert.Spec

open Idealize.ShloMosaic Idealize.SL.Sem
open Cert.KernelIdeal

/-! ## The rotation -/

/-- Multiplication by a nonnegative real distributes over a finite sum of extended reals. -/
theorem mul_sum_of_nonneg {ι : Type} (s : Finset ι) (f : ι → EReal) (c : EReal) (h0 : 0 ≤ c) (h1 : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- One level of the rotation's sign: minus one where both bits are set. -/
def sgB (a b : ℕ) : ℤ := if a = 1 ∧ b = 1 then -1 else 1

/-- The rotation's sign at seven bits, level by level from the top bit. -/
def sgZ (i j : ℕ) : ℤ :=
  sgB (i / 64 % 2) (j / 64 % 2) * sgB (i / 32 % 2) (j / 32 % 2) * sgB (i / 16 % 2) (j / 16 % 2) * sgB (i / 8 % 2) (j / 8 % 2)
    * sgB (i / 4 % 2) (j / 4 % 2) * sgB (i / 2 % 2) (j / 2 % 2) * sgB (i % 2) (j % 2)

/-- The parity of the low seven bits. -/
def par (z : ℕ) : ℕ := (z % 2 + z / 2 % 2 + z / 4 % 2 + z / 8 % 2 + z / 16 % 2 + z / 32 % 2 + z / 64 % 2) % 2

theorem sgZ_eq : ∀ i < 128, ∀ j < 128, sgZ i j = if par (i &&& j) = 0 then 1 else -1 := by decide +kernel

/-- The sign as an extended real. -/
def sg (i j : ℕ) : EReal := ((sgZ i j : ℝ) : EReal)

/-- The factor of the rotation. -/
def cst : EReal := Ideal.ofBits .f32 0x3DB504F3#32

theorem cst_eq : ∃ r : ℝ, 0 ≤ r ∧ cst = (r : EReal) := by
  unfold cst
  refine ⟨11863283 / 134217728, by norm_num, ?_⟩
  simp [Ideal.ofBits, Ideal.ieee, -EReal.coe_mul]; norm_num

theorem cst_nonneg : 0 ≤ cst := by
  obtain ⟨r, h, e⟩ := cst_eq; rw [e]; exact_mod_cast h
theorem cst_ne_top : cst ≠ ⊤ := by
  obtain ⟨r, h, e⟩ := cst_eq; rw [e]; exact EReal.coe_ne_top r

theorem negOne_eq : Ideal.ofBits .f32 0xBF800000#32 = -1 := by
  simp [Ideal.ofBits, Ideal.ieee, -EReal.coe_mul, -EReal.coe_neg]; norm_num

/-- The kernel's word for an index's block of 128. -/
def blkW (i : BitVec 32) : BitVec 32 :=
  Scalar.select
    (IntOp.andi
      (IntOp.cmpi CmpIPredicate.ne
        (IntOp.subi (BitVec.setWidth 32 (IntOp.cmpi CmpIPredicate.sgt i 0#32)) (BitVec.setWidth 32 (IntOp.cmpi CmpIPredicate.slt i 0#32)))
        (Scalar.subi (Scalar.extui (Scalar.cmpi CmpIPredicate.sgt 128#32 0#32)) (Scalar.extui (Scalar.cmpi CmpIPredicate.slt 128#32 0#32))))
      (IntOp.cmpi CmpIPredicate.ne (IntOp.remsi ArithUnit.vector i 128#32) 0#32))
    (IntOp.subi (IntOp.divsi ArithUnit.vector i 128#32) 1#32)
    (IntOp.divsi ArithUnit.vector i 128#32)

theorem blkW_eq : ∀ i < 256, blkW (BitVec.ofNat 32 i) = BitVec.ofNat 32 (i / 128) := by decide +kernel

/-- The kernel's parity word of seven bits. -/
def parW (z : BitVec 32) : BitVec 32 :=
  let a := IntOp.xori z (IntOp.shrsi ArithUnit.vector z 4#32)
  let b := IntOp.xori a (IntOp.shrsi ArithUnit.vector a 2#32)
  IntOp.andi (IntOp.xori b (IntOp.shrsi ArithUnit.vector b 1#32)) 1#32

theorem parW_eq : ∀ z < 128, parW (BitVec.ofNat 32 z) = BitVec.ofNat 32 (par z) := by decide +kernel

theorem and_word (i j : ℕ) (hi : i < 256) (hj : j < 256) :
    IntOp.andi (IntOp.andi (BitVec.ofNat 32 i) (BitVec.ofNat 32 j)) 127#32 = BitVec.ofNat 32 ((i % 128) &&& (j % 128)) := by
  apply BitVec.eq_of_toNat_eq
  have h1 : (i &&& j) &&& 127 = (i % 128) &&& (j % 128) := by
    rw [show (127 : ℕ) = 2 ^ 7 - 1 from rfl, Nat.and_two_pow_sub_one_eq_mod, Nat.and_mod_two_pow]
  have h2 : (i % 128) &&& (j % 128) < 128 := lt_of_le_of_lt Nat.and_le_left (Nat.mod_lt _ (by norm_num))
  show ((BitVec.ofNat 32 i &&& BitVec.ofNat 32 j) &&& 127#32).toNat = _
  rw [BitVec.toNat_and, BitVec.toNat_and, BitVec.toNat_ofNat, BitVec.toNat_ofNat, BitVec.toNat_ofNat, BitVec.toNat_ofNat]
  rw [Nat.mod_eq_of_lt (by omega : i < 2 ^ 32), Nat.mod_eq_of_lt (by omega : j < 2 ^ 32), Nat.mod_eq_of_lt (by omega : 127 < 2 ^ 32),
    Nat.mod_eq_of_lt (by omega : (i % 128) &&& (j % 128) < 2 ^ 32), h1]

/-- The kernel's block-diagonal matrix of signs. -/
def hadK : FVec Ideal S256x256 .bf16 :=
  Gen.k0_pay5 (F := Ideal) Gen.k0_pay2 (Gen.k0_pay4 (iota .tc S256x256 32 [0] Gen.iota_S256x256_d0_w32)
    (iota .tc S256x256 32 [1] Gen.iota_S256x256_d1_w32) 128#32 Gen.k0_pay3)

theorem cmpi_eq_ite (a b : BitVec 32) {α : Type} (x y : α) : Scalar.select (IntOp.cmpi CmpIPredicate.eq a b) x y = if a = b then x else y := by
  by_cases h : a = b
  · simp [Scalar.select, IntOp.cmpi, h]
  · simp [Scalar.select, IntOp.cmpi, h, beq_eq_false_iff_ne.mpr h]

theorem hadK_apply (i j : Fin 256) :
    hadK (ix2 i j) = if i.val / 128 = j.val / 128 then sg (i.val % 128) (j.val % 128) else 0 := by
  have e : hadK (ix2 i j) = Scalar.select (IntOp.cmpi .eq (blkW (BitVec.ofNat 32 i.val)) (blkW (BitVec.ofNat 32 j.val)))
      (Scalar.select (IntOp.cmpi .eq (parW (IntOp.andi (IntOp.andi (BitVec.ofNat 32 i.val) (BitVec.ofNat 32 j.val)) 127#32)) 0#32)
        1 (Ideal.ofBits .f32 0xBF800000#32)) 0 := by
    unfold hadK
    unfold_payloads
    pointwise
    rfl
  rw [e, blkW_eq _ i.isLt, blkW_eq _ j.isLt, and_word _ _ i.isLt j.isLt, parW_eq _ (lt_of_le_of_lt Nat.and_le_left (Nat.mod_lt _ (by norm_num))),
    cmpi_eq_ite, cmpi_eq_ite, negOne_eq]
  have hb : (BitVec.ofNat 32 (i.val / 128) = BitVec.ofNat 32 (j.val / 128)) ↔ i.val / 128 = j.val / 128 := by
    rw [← BitVec.toNat_inj, BitVec.toNat_ofNat, BitVec.toNat_ofNat]; omega
  have hp : (BitVec.ofNat 32 (par (i.val % 128 &&& j.val % 128)) = 0#32) ↔ par (i.val % 128 &&& j.val % 128) = 0 := by
    rw [← BitVec.toNat_inj, BitVec.toNat_ofNat]
    have : par (i.val % 128 &&& j.val % 128) < 2 := Nat.mod_lt _ (by norm_num)
    simp; omega
  simp only [hb, hp, sg, sgZ_eq _ (Nat.mod_lt _ (by norm_num : 0 < 128)) _ (Nat.mod_lt _ (by norm_num : 0 < 128))]
  split
  · split <;> simp
  · rfl

/-- A rotated row: in each block of 128 columns, the row against the signs times the factor. -/
def rotS (f : Fin 1536 → EReal) (j : Fin 1536) : EReal :=
  ∑ i : Fin 128, f ⟨128 * (j.val / 128) + i.val, by omega⟩ * (sg i.val (j.val % 128) * cst)

theorem sum_256 (h : Fin 256 → EReal) : ∑ x, h x = (∑ k : Fin 128, h ⟨128 * 0 + k.val, by omega⟩) + ∑ k : Fin 128, h ⟨128 * 1 + k.val, by omega⟩ := by
  have e : ∀ k : Fin 128, h ⟨128 * 0 + k.val, by omega⟩ = h (Fin.castAdd 128 k) := fun k => congrArg h (Fin.ext (by simp))
  simp only [e]
  exact Fin.sum_univ_add (M := EReal) (a := 128) (b := 128) h

/-- Two blocks against the block-diagonal matrix, scaled afterwards, is the rotation of the one the column lies in. -/
theorem rot_block (f : Fin 1536 → EReal) (g : ℕ) (j : Fin 1536) (h0 : 256 * g ≤ j.val) (h1 : j.val < 256 * g + 256) (hg : g < 6) :
    (∑ x : Fin 256, f ⟨256 * g + x.val, by omega⟩ * hadK (ix2 x ⟨j.val - 256 * g, by omega⟩)) * cst = rotS f j := by
  have key : ∀ k : Fin 128, ∀ b : ℕ, (hb : b < 2) → hadK (ix2 (⟨128 * b + k.val, by omega⟩ : Fin 256) ⟨j.val - 256 * g, by omega⟩)
      = if b = (j.val - 256 * g) / 128 then sg k.val (j.val % 128) else 0 := fun k b hb => by
    rw [hadK_apply]
    have e1 : (128 * b + k.val) / 128 = b := by omega
    have e2 : (128 * b + k.val) % 128 = k.val := by omega
    have e3 : (j.val - 256 * g) % 128 = j.val % 128 := by omega
    simp only [e1, e2, e3]
  have split := sum_256 fun x : Fin 256 => f ⟨256 * g + x.val, by omega⟩ * hadK (ix2 x ⟨j.val - 256 * g, by omega⟩)
  rw [split]
  simp only [fun k : Fin 128 => key k 0 (by norm_num), fun k : Fin 128 => key k 1 (by norm_num)]
  have fin : ∀ b : ℕ, (hb : b < 2) → b = (j.val - 256 * g) / 128 →
      (∑ k : Fin 128, f ⟨256 * g + (128 * b + k.val), by omega⟩ * sg k.val (j.val % 128)) * cst = rotS f j := fun b hb hj => by
    rw [mul_comm, mul_sum_of_nonneg _ _ _ cst_nonneg cst_ne_top]
    unfold rotS
    refine Finset.sum_congr rfl fun k _ => ?_
    have e : (⟨256 * g + (128 * b + k.val), by omega⟩ : Fin 1536) = ⟨128 * (j.val / 128) + k.val, by omega⟩ := Fin.ext (by
      show 256 * g + (128 * b + k.val) = 128 * (j.val / 128) + k.val; omega)
    rw [e, mul_comm, mul_assoc]
  have hc : (j.val - 256 * g) / 128 = 0 ∨ (j.val - 256 * g) / 128 = 1 := by omega
  rcases hc with h | h
  · rw [← fin 0 (by norm_num) h.symm]; simp [h]
  · rw [← fin 1 (by norm_num) h.symm]; simp [h]

/-- The kernel's rotation of a chunk is the rotation of each of its rows. -/
theorem pay6_apply (v : Vec Ideal S1x1x384x1536 .bf16) (r : Fin 384) (j : Fin 1536) :
    Gen.k0_pay6 (F := Ideal) hadK v (ix2 r j) = rotS (fun k => v (ix4 0 0 r k)) j := by
  have key := rot_block (fun k => v (ix4 0 0 r k))
  unfold Gen.k0_pay6
  pointwise [dot_S384x256_S256x256_S384x256_1_0_0_1_n_n]
  show _ * cst = _
  simp only [Nat.sub_sub]
  have hj := j.isLt
  by_cases h0 : j.val < 256
  · rw [dif_pos h0, ← key 0 j (by omega) (by omega) (by omega)]; simp only [Nat.mul_zero, Nat.zero_add, Nat.sub_zero]
  rw [dif_neg h0]
  by_cases h1 : j.val - 256 < 256
  · rw [dif_pos h1, ← key 1 j (by omega) (by omega) (by omega)]
  rw [dif_neg h1]
  by_cases h2 : j.val - 512 < 256
  · rw [dif_pos h2, ← key 2 j (by omega) (by omega) (by omega)]
  rw [dif_neg h2]
  by_cases h3 : j.val - 768 < 256
  · rw [dif_pos h3, ← key 3 j (by omega) (by omega) (by omega)]
  rw [dif_neg h3]
  by_cases h4 : j.val - 1024 < 256
  · rw [dif_pos h4, ← key 4 j (by omega) (by omega) (by omega)]
  rw [dif_neg h4]
  rw [← key 5 j (by omega) (by omega) (by omega)]

/-- The kernel's rotation for the other product is the same, in the narrow format. -/
theorem pay13_apply (v : Vec Ideal S1x1x384x1536 .bf16) (r : Fin 384) (j : Fin 1536) :
    Gen.k0_pay13 (F := Ideal) hadK v (ix2 r j) = rotS (fun k => v (ix4 0 0 r k)) j := by
  rw [← pay6_apply]
  unfold Gen.k0_pay13 Gen.k0_pay6
  pointwise [dot_S384x256_S256x256_S384x256_1_0_0_1_n_n]

/-! ## The quantiser -/

/-- A row's largest magnitude. -/
def amaxS (f : Fin 1536 → EReal) : EReal :=
  Finset.fold max (Ideal.ofBits .f32 0xFF800000#32) (fun x => FloatOps.absf (F := Ideal) (φ := .f32) (f x)) Finset.univ

/-- A row's scale. -/
def sclS (f : Fin 1536 → EReal) : EReal := if amaxS f = 0 then 1 else Ideal.div (amaxS f) (Ideal.ofBits .f32 0x40E00000#32)

/-- A value's code, as an extended real: the quotient by the scale, rounded and clipped. -/
def qS (y s : EReal) : EReal :=
  min (((7#32).toInt : ℝ) : EReal) (max (((4294967289#32).toInt : ℝ) : EReal) (Ideal.liftRound Ideal.roundHalfEven (Ideal.div y s)))

theorem qS_int (y s : EReal) : ∃ n : ℤ, -7 ≤ n ∧ n ≤ 7 ∧ qS y s = ((n : ℝ) : EReal) := by
  unfold qS
  have e1 : (7#32).toInt = 7 := by decide
  have e2 : (4294967289#32).toInt = -7 := by decide
  rw [e1, e2]
  generalize Ideal.div y s = z
  induction z using EReal.rec with
  | bot => exact ⟨-7, by norm_num, by norm_num, by
    simp only [Ideal.liftRound_bot, bot_le, max_eq_left]; rw [min_eq_right (by exact_mod_cast (by norm_num : (-7 : ℝ) ≤ 7))]⟩
  | top => exact ⟨7, by norm_num, by norm_num, by simp⟩
  | coe r =>
    refine ⟨min 7 (max (-7) (Ideal.roundHalfEven r)), by omega, by omega, ?_⟩
    have hm : ∀ a b : ℝ, max (a : EReal) (b : EReal) = ((max a b : ℝ) : EReal) := fun a b => (Monotone.map_max (fun _ _ h => EReal.coe_le_coe_iff.mpr h)).symm
    have hn : ∀ a b : ℝ, min (a : EReal) (b : EReal) = ((min a b : ℝ) : EReal) := fun a b => (Monotone.map_min (fun _ _ h => EReal.coe_le_coe_iff.mpr h)).symm
    rw [Ideal.liftRound_coe, hm, hn]
    push_cast
    rfl

/-- A code survives the conversion to eight bits and back. -/
theorem sitofp_fptosi_qS (φ : FTy) (y s : EReal) :
    FloatOps.sitofp (F := Ideal) φ (FloatOps.fptosi (F := Ideal) (φ := .f32) 8 (qS y s)) = qS y s := by
  obtain ⟨n, h0, h1, e⟩ := qS_int y s
  rw [e]
  show ((((Ideal.fptosi 8 ((n : ℝ) : EReal)).toInt : ℤ) : ℝ) : EReal) = _
  congr 2
  unfold Ideal.fptosi
  rw [Ideal.toIntClamped_coe]
  have ht : (if (0 : ℝ) ≤ (n : ℝ) then ⌊(n : ℝ)⌋ else ⌈(n : ℝ)⌉) = n := by split <;> simp
  rw [ht]
  interval_cases n <;> decide

theorem pay7_apply (v : Vec Ideal S1x1x384x1536 .bf16) (r : Fin 384) :
    Gen.k0_pay7 (F := Ideal) hadK v (ix2 r 0) = sclS (rotS fun k => v (ix4 0 0 r k)) := by
  have key : ∀ x, Gen.k0_pay6 (F := Ideal) hadK v (ix2 r x) = rotS (fun k => v (ix4 0 0 r k)) x := pay6_apply v r
  unfold Gen.k0_pay7
  generalize Gen.k0_pay6 (F := Ideal) hadK v = X at key ⊢
  pointwise [key]
  rfl

theorem pay8_apply (v : Vec Ideal S1x1x384x1536 .bf16) (r : Fin 384) (j : Fin 1536) :
    Gen.k0_pay8 (F := Ideal) hadK v (ix2 r j) = qS (rotS (fun k => v (ix4 0 0 r k)) j) (sclS (rotS fun k => v (ix4 0 0 r k))) := by
  have k6 := pay6_apply v r j
  have k7 := pay7_apply v r
  unfold Gen.k0_pay8
  generalize Gen.k0_pay6 (F := Ideal) hadK v = X at k6 ⊢
  generalize Gen.k0_pay7 (F := Ideal) hadK v = Y at k7 ⊢
  pointwise [k6, k7]
  rfl

end Cert.Spec
end
-- ==== Proof.Dec.lean ====
/-
  Decoding the packed weights: two four-bit values to a byte, four bytes to a word, spread over two lanes.
-/
module

public import proofs.«01_k».proof.Proof.Gen.KernelIdeal.Skeleton
public import Idealize.ShloMosaic.Lib.Pointwise
public import Idealize.ShloMosaic.Lib.BitcastFour

@[expose] public section

noncomputable section

namespace Cert.Spec

open Idealize.ShloMosaic Idealize.SL.Sem
open Cert.KernelIdeal

/-- The decoding of a word: its bytes' low nibbles after a shift, each with its sign spread over the byte. -/
def fixW (w sh : BitVec 32) : BitVec 32 :=
  IntOp.ori (IntOp.andi (IntOp.shrui ArithUnit.vector w sh) 252645135#32)
    (IntOp.subi (IntOp.shli ArithUnit.vector (IntOp.andi (IntOp.andi (IntOp.shrui ArithUnit.vector w sh) 252645135#32) 134744072#32) 5#32)
      (IntOp.shli ArithUnit.vector (IntOp.andi (IntOp.andi (IntOp.shrui ArithUnit.vector w sh) 252645135#32) 134744072#32) 1#32))

theorem sign_spread (n : BitVec 32) :
    ((n &&& 134744072#32) <<< 5) - ((n &&& 134744072#32) <<< 1)
      = ((n &&& 134744072#32) <<< 1) ||| ((n &&& 134744072#32) <<< 2) ||| ((n &&& 134744072#32) <<< 3) ||| ((n &&& 134744072#32) <<< 4) := by
  have hm : n &&& 134744072#32 = (bif n.getLsbD 3 then 8#32 else 0#32) ||| (bif n.getLsbD 11 then 2048#32 else 0#32)
      ||| (bif n.getLsbD 19 then 524288#32 else 0#32) ||| (bif n.getLsbD 27 then 134217728#32 else 0#32) := by
    apply BitVec.eq_of_getLsbD_eq
    intro i hi
    have hc : (134744072#32).getLsbD i = decide (i = 3 ∨ i = 11 ∨ i = 19 ∨ i = 27) := by interval_cases i <;> rfl
    have h0 : ∀ b : Bool, (bif b then 8#32 else 0#32).getLsbD i = (b && decide (i = 3)) := by intro b; cases b <;> (interval_cases i <;> rfl)
    have h1 : ∀ b : Bool, (bif b then 2048#32 else 0#32).getLsbD i = (b && decide (i = 11)) := by intro b; cases b <;> (interval_cases i <;> rfl)
    have h2 : ∀ b : Bool, (bif b then 524288#32 else 0#32).getLsbD i = (b && decide (i = 19)) := by intro b; cases b <;> (interval_cases i <;> rfl)
    have h3 : ∀ b : Bool, (bif b then 134217728#32 else 0#32).getLsbD i = (b && decide (i = 27)) := by intro b; cases b <;> (interval_cases i <;> rfl)
    rw [BitVec.getLsbD_and, BitVec.getLsbD_or, BitVec.getLsbD_or, BitVec.getLsbD_or, hc, h0, h1, h2, h3]
    by_cases e0 : i = 3
    · subst e0; simp
    by_cases e1 : i = 11
    · subst e1; simp
    by_cases e2 : i = 19
    · subst e2; simp
    by_cases e3 : i = 27
    · subst e3; simp
    simp [e0, e1, e2, e3]
  rw [hm]
  generalize n.getLsbD 3 = a, n.getLsbD 11 = b, n.getLsbD 19 = c, n.getLsbD 27 = d
  revert a b c d
  decide

/-- A byte's low or high nibble, as a signed byte. -/
def nibB (s : ℕ) (x : BitVec 8) : BitVec 8 := ((x >>> s).setWidth 4).signExtend 8

theorem nibB_bit (s : ℕ) (hs : s = 0 ∨ s = 4) (i : ℕ) (hi : i < 8) (x : BitVec 8) :
    x.getLsbD ((if i < 4 then i else 3) + s) = (nibB s x).getLsbD i := by
  rcases hs with rfl | rfl <;> revert x <;> interval_cases i <;> decide +kernel

theorem fixW_bit (w : BitVec 32) (s : ℕ) (hs : s = 0 ∨ s = 4) (b : ℕ) (hb : b < 4) (i : ℕ) (hi : i < 8) :
    (fixW w (BitVec.ofNat 32 s)).getLsbD (8 * b + i) = w.getLsbD (8 * b + (if i < 4 then i else 3) + s) := by
  have e : ∀ sh : ℕ, sh < 32 → fixW w (BitVec.ofNat 32 sh) = (w >>> sh &&& 252645135#32)
      ||| ((((w >>> sh &&& 252645135#32) &&& 134744072#32) <<< 5) - (((w >>> sh &&& 252645135#32) &&& 134744072#32) <<< 1)) := fun sh hsh => by
    have e1 : IntOp.shrui ArithUnit.vector w (BitVec.ofNat 32 sh) = w >>> sh := by
      unfold IntOp.shrui
      simp [Nat.mod_eq_of_lt (by omega : sh < 4294967296), hsh]
    unfold fixW
    rw [e1]
    rfl
  rw [e s (by omega), sign_spread]
  simp only [BitVec.getLsbD_or, BitVec.getLsbD_and, BitVec.getLsbD_shiftLeft, BitVec.getLsbD_ushiftRight]
  have c1 : ∀ q < 32, (252645135#32).getLsbD q = decide (q % 8 < 4) := by decide
  have c2 : ∀ q < 32, (134744072#32).getLsbD q = decide (q % 8 = 3) := by decide
  rcases hs with rfl | rfl <;> interval_cases b <;> interval_cases i <;> simp [c1, c2]

/-- The lane the decoding of lane `j` gathers from. -/
def laneW (h j : BitVec 32) : BitVec 32 :=
  Scalar.select (IntOp.cmpi CmpIPredicate.slt (IntOp.addi (IntOp.shrsi ArithUnit.vector j 1#32) h) 0#32)
    (IntOp.addi (IntOp.addi (IntOp.shrsi ArithUnit.vector j 1#32) h) 128#32) (IntOp.addi (IntOp.shrsi ArithUnit.vector j 1#32) h)

theorem laneW_eq : ∀ j < 128, (laneW 0#32 (BitVec.ofNat 32 j)).toNat % 128 = j / 2 + 64 * 0 ∧ (laneW 64#32 (BitVec.ofNat 32 j)).toNat % 128 = j / 2 + 64 * 1 := by
  decide +kernel

theorem shW_eq : ∀ j < 128, IntOp.muli (IntOp.andi (BitVec.ofNat 32 j) 1#32) 4#32 = BitVec.ofNat 32 (4 * (j % 2)) := by decide +kernel

/-- The kernel's decoding of a block of packed weights, in words: the half of the lanes from `h` spread over all. -/
def decW (h : BitVec 32) (v : Vec Ideal S1536x128 .i8) : IVec S384x128 32 :=
  have v6 : IVec S384x128 32 := bitcast S384x128 32 v Gen.bitcasts_S1536x128_w8_S384x128_w32
  have v7 : IVec S384x128 32 := iota .tc S384x128 32 [1] Gen.iota_S384x128_d1_w32
  have v39 : IVec S384x128 32 := addi (shrsi v7 (broadcast S384x128 1#32)) (broadcast S384x128 h)
  have v44 : IVec S384x128 32 := select (cmpi .slt v39 (broadcast S384x128 0#32)) (addi v39 (broadcast S384x128 128#32)) v39
  have v46 : IVec S384x128 32 := shapeCast S384x128 (shapeCast S384x128x1 v44 Gen.shapeCasts_S384x128_S384x128x1) Gen.shapeCasts_S384x128x1_S384x128
  have v47 : IVec S384x128 32 := dynamicGather 1 v6 v46
  have v52 : IVec S384x128 32 := shrui v47 (muli (andi v7 (broadcast S384x128 1#32)) (broadcast S384x128 4#32))
  have v54 : IVec S384x128 32 := andi v52 (broadcast S384x128 252645135#32)
  have v56 : IVec S384x128 32 := andi v54 (broadcast S384x128 134744072#32)
  ori v54 (subi (shli v56 (broadcast S384x128 5#32)) (shli v56 (broadcast S384x128 1#32)))

/-- The same, in bytes. -/
def decK (h : BitVec 32) (v : Vec Ideal S1536x128 .i8) : IVec S1536x128 8 := bitcast S1536x128 8 (decW h v) Gen.bitcasts_S384x128_w32_S1536x128_w8

theorem decK_0 (v : Vec Ideal S1536x128 .i8) : Gen.k0_pay65 v = decK 0#32 v := rfl
theorem decK_1 (v : Vec Ideal S1536x128 .i8) : Gen.k0_pay67 (Gen.k0_pay64 v) (iota .tc S384x128 32 [1] Gen.iota_S384x128_d1_w32) Gen.k0_pay66 = decK 64#32 v := rfl

theorem decW_apply (h : BitVec 32) (v : Vec Ideal S1536x128 .i8) (a : Fin 384) (j : Fin 128) (l : Fin 128)
    (hl : (laneW h (BitVec.ofNat 32 j.val)).toNat % 128 = l.val) :
    decW h v (ix2 a j) = fixW (bitcast S384x128 32 v Gen.bitcasts_S1536x128_w8_S384x128_w32 (ix2 a l)) (BitVec.ofNat 32 (4 * (j.val % 2))) := by
  rw [← shW_eq j.val j.isLt]
  have e : decW h v (ix2 a j) = fixW (bitcast S384x128 32 v Gen.bitcasts_S1536x128_w8_S384x128_w32
      (ix2 a ⟨(laneW h (BitVec.ofNat 32 j.val)).toNat % 128, Nat.mod_lt _ (by norm_num)⟩)) (IntOp.muli (IntOp.andi (BitVec.ofNat 32 j.val) 1#32) 4#32) := by
    unfold decW
    generalize bitcast S384x128 32 v Gen.bitcasts_S1536x128_w8_S384x128_w32 = X
    pointwise
    rfl
  rw [e]
  congr 3
  exact Fin.ext hl

/-- The kernel's decoding at a row and a lane: a nibble of the packed byte. -/
theorem decK_apply (h : Fin 2) (v : Vec Ideal S1536x128 .i8) (r : Fin 1536) (j : Fin 128) :
    decK (BitVec.ofNat 32 (64 * h.val)) v (ix2 r j) = nibB (4 * (j.val % 2)) (v (ix2 r ⟨j.val / 2 + 64 * h.val, by omega⟩)) := by
  have hl : (laneW (BitVec.ofNat 32 (64 * h.val)) (BitVec.ofNat 32 j.val)).toNat % 128 = j.val / 2 + 64 * h.val := by
    have := laneW_eq j.val j.isLt
    match h with
    | ⟨0, _⟩ => exact this.1
    | ⟨1, _⟩ => exact this.2
  apply BitVec.eq_of_getLsbD_eq
  intro i hi
  unfold decK
  rw [bitcast_getLsbD _ _ _ i hi (by norm_num)]
  have hrow : S1536x128.row (ix2 r j) = r.val := rfl
  have hsrc : Shape.Bitcasts.srcIdx Gen.bitcasts_S384x128_w32_S1536x128_w8 (ix2 r j) ((S1536x128.row (ix2 r j) * 8 + i) / 32) (fun a ha =>
      (Nat.div_lt_iff_lt_mul (by norm_num)).2 (Gen.bitcasts_S384x128_w32_S1536x128_w8.pos_lt (ix2 r j) i hi a ha))
      = ix2 (⟨r.val / 4, by omega⟩ : Fin 384) j := by
    funext c
    match c with
    | ⟨0, _⟩ => exact Fin.ext ((Shape.Bitcasts.srcIdx_row _ _ _ _ ⟨0, Nat.zero_lt_two⟩ rfl).trans (by show (r.val * 8 + i) / 32 = r.val / 4; omega))
    | ⟨1, _⟩ => exact Fin.ext (Shape.Bitcasts.srcIdx_other _ _ _ _ ⟨1, Nat.one_lt_two⟩ (by show ¬ 1 + 2 = 2; omega))
  rw [hsrc, hrow, decW_apply _ v _ j ⟨j.val / 2 + 64 * h.val, by omega⟩ hl,
    show (r.val * 8 + i) % 32 = 8 * (r.val % 4) + i by omega, fixW_bit _ _ (by omega) _ (by omega) i hi]
  refine (bitcast_8_32_getLsbD_ix2 (R := 1536) (r := 384) (n := 128) v Gen.bitcasts_S1536x128_w8_S384x128_w32 ⟨r.val / 4, by omega⟩
    ⟨j.val / 2 + 64 * h.val, by omega⟩ _ (by split <;> omega) r (by show r.val = 4 * (r.val / 4) + _; split <;> omega)).trans ?_
  rw [show (8 * (r.val % 4) + (if i < 4 then i else 3) + 4 * (j.val % 2)) % 8 = (if i < 4 then i else 3) + 4 * (j.val % 2) by split <;> omega]
  exact nibB_bit _ (by omega) i hi _

end Cert.Spec
end
-- ==== Proof.KIPiece.lean ====
/-
  The table of weights: what each of the kernel's stores of a block of decoded and scaled weights leaves there.
-/
module

public import proofs.«01_k».proof.Proof.Math
public import proofs.«01_k».proof.Proof.Dec
public import proofs.«01_k».proof.Proof.KIPoints
public import Idealize.ShloMosaic.Lib.Pipeline.FrameBody
public import Idealize.ShloMosaic.Lib.VecWindow
public import Idealize.ShloMosaic.Lib.Pipeline.ValueKit.Geometry

@[expose] public section

set_option maxRecDepth 16384

noncomputable section

namespace Cert.Spec

open Idealize.ShloMosaic Idealize.SL.Sem
open Cert.KernelIdeal Cert.KernelIdeal.Hand

/-- A decoded weight, scaled: the nibble of a packed byte by its group's scale. -/
def Wt (x3 : Vec Ideal S1536x640 .i8) (x4 : Vec Ideal S12x1280 .f32) (y : S1536x1280.Idx) : EReal :=
  FloatOps.sitofp (F := Ideal) .bf16 (nibB (4 * ((y 1).val % 2)) (x3 (ix2 (y 0) ⟨(y 1).val / 2, by have := (y 1).isLt; simp at this; omega⟩)))
    * x4 (ix2 ⟨(y 0).val / 128, by have := (y 0).isLt; simp at this; omega⟩ (y 1))

/-- One store's block: a group of rows of a decoded table by that group's scales. -/
def pieceK (a b g : ℕ) (D : IVec S1536x128 8) (s : FVec Ideal S12x1280 .bf16) (h1 : S1536x128.Slices ![a, 0] S128x128)
    (h2 : S12x1280.Slices ![g, b] S1x128) : FVec Ideal S128x128 .bf16 :=
  shapeCast S128x128 (mulf (extractStridedSlice S128x128 ![a, 0] (sitofp .bf16 D) h1)
    (broadcastTo S128x128 (extractStridedSlice S1x128 ![g, b] s h2) Gen.broadcasts_S1x128_S128x128)) Gen.shapeCasts_S128x128_S128x128

theorem pieceK_apply (a b g : ℕ) (D : IVec S1536x128 8) (s : FVec Ideal S12x1280 .bf16) (h1 : S1536x128.Slices ![a, 0] S128x128)
    (h2 : S12x1280.Slices ![g, b] S1x128) (i j : Fin 128) (ha : a + i.val < 1536) (hg : g < 12) (hb : b + j.val < 1280) :
    pieceK a b g D s h1 h2 (ix2 i j) = FloatOps.sitofp (F := Ideal) .bf16 (D (ix2 ⟨a + i.val, ha⟩ j)) * s (ix2 ⟨g, hg⟩ ⟨b + j.val, hb⟩) := by
  unfold pieceK
  rw [shapeCast_self]
  have e1 : extractStridedSlice S128x128 ![a, 0] (sitofp (F := Ideal) .bf16 D) h1 (ix2 i j) = FloatOps.sitofp (F := Ideal) .bf16 (D (ix2 ⟨a + i.val, ha⟩ j)) :=
    extractStridedSlice_apply _ _ _ _ (ix2 ⟨a + i.val, ha⟩ j) fun c => by
      match c with
      | ⟨0, _⟩ => rfl
      | ⟨1, _⟩ => exact (Nat.zero_add _).symm
  have e2 : broadcastTo S128x128 (extractStridedSlice S1x128 ![g, b] s h2) Gen.broadcasts_S1x128_S128x128 (ix2 i j) = s (ix2 ⟨g, hg⟩ ⟨b + j.val, hb⟩) := by
    rw [broadcastTo_apply _ _ _ (ix2 (0 : Fin 1) j : S1x128.Idx) fun c => by
      match c with
      | ⟨0, _⟩ => rfl
      | ⟨1, _⟩ => rfl]
    exact extractStridedSlice_apply _ _ _ _ (ix2 ⟨g, hg⟩ ⟨b + j.val, hb⟩) fun c => by
      match c with
      | ⟨0, _⟩ => rfl
      | ⟨1, _⟩ => rfl
  exact congrArg₂ (fun u v : EReal => u * v) e1 e2

/-- An index of a rank-two shape by its coordinates. -/
theorem ix2_eta {n k : ℕ} (x : Shape.Idx ⟨2, ![n, k]⟩) : ∃ i j, x = ix2 i j := ⟨x 0, x 1, by funext a; match a with | ⟨0, _⟩ => rfl | ⟨1, _⟩ => rfl⟩

theorem emb2 {n k p q : ℕ} (a b : ℕ) (inb) (i : Fin p) (j : Fin q) (ha : a + i.val < n) (hb : b + j.val < k) :
    (Rect.unit (s := ⟨2, ![n, k]⟩) ![a, b] ![p, q] inb).emb (ix2 i j) = ix2 ⟨a + i.val, ha⟩ ⟨b + j.val, hb⟩ := by
  funext c
  match c with
  | ⟨0, _⟩ => exact Fin.ext (ValueKit.rect_emb_unit_val _ _ _ _ _)
  | ⟨1, _⟩ => exact Fin.ext (ValueKit.rect_emb_unit_val _ _ _ _ _)

/-- What a store leaves is the scaled weights at its place. -/
theorem piece_ok (x3 : Vec Ideal S1536x640 .i8) (x4 : Vec Ideal S12x1280 .f32) (g q : ℕ) (h : Fin 2) (hg : g < 12) (hq : q < 5) (a b : ℕ)
    (ha : a = 128 * g) (hb : b = 256 * q + 128 * h.val) (blk : Vec Ideal S1536x128 .i8)
    (hblk : ∀ (r : Fin 1536) (j : Fin 128), blk (ix2 r j) = x3 (ix2 r ⟨128 * q + j.val, by omega⟩))
    (s : FVec Ideal S12x1280 .bf16) (hs : s = x4) (h1 : S1536x128.Slices ![a, 0] S128x128)
    (h2 : S12x1280.Slices ![g, b] S1x128) (inb) (pay : FVec Ideal S128x128 .bf16)
    (hp : pay = pieceK a b g (decK (BitVec.ofNat 32 (64 * h.val)) blk) s h1 h2) :
    ∀ x : S128x128.Idx, pay x = Wt x3 x4 ((Rect.unit (s := S1536x1280) ![a, b] S128x128.size inb).emb x) := by
  subst hp hs ha hb
  intro x
  obtain ⟨i, j, rfl⟩ := ix2_eta x
  rw [pieceK_apply _ _ _ _ _ _ _ i j (by omega) hg (by omega), decK_apply, hblk]
  refine Eq.trans ?_ (congrArg (Wt x3 s) (emb2 (n := 1536) (k := 1280) (p := 128) (q := 128) (128 * g) (256 * q + 128 * h.val) inb i j (by omega) (by omega)).symm)
  unfold Wt
  congr 1
  · congr 2
    · show 4 * (j.val % 2) = 4 * ((256 * q + 128 * h.val + j.val) % 2)
      omega
    · congr 1
      exact congrArg₂ ix2 rfl (Fin.ext (by show 128 * q + (j.val / 2 + 64 * h.val) = (256 * q + 128 * h.val + j.val) / 2; omega))
  · congr 1
    exact congrArg₂ ix2 (Fin.ext (by show g = (128 * g + i.val) / 128; omega)) rfl

end Cert.Spec
end
-- ==== Proof.KIWeights.lean ====
/-
  The table of weights: what each of the kernel's stores of a block of decoded and scaled weights leaves there.
-/
module

public import proofs.«01_k».proof.Proof.Math
public import proofs.«01_k».proof.Proof.Dec
public import proofs.«01_k».proof.Proof.KIPoints
public import proofs.«01_k».proof.Proof.KIPiece
public import Idealize.ShloMosaic.Lib.Pipeline.FrameBody
public import Idealize.ShloMosaic.Lib.VecWindow
public import Idealize.ShloMosaic.Lib.Pipeline.ValueKit.Geometry

@[expose] public section

set_option maxRecDepth 16384

noncomputable section

namespace Cert.Spec

open Idealize.ShloMosaic Idealize.SL.Sem
open Cert.KernelIdeal Cert.KernelIdeal.Hand

/-- A block of columns of the packed weights, as loaded. -/
abbrev blkL (arg3 : Memref sig .tc .vmem S1536x640 .i8) (x3 : Vec Ideal S1536x640 .i8) (o : ℕ)
    (inb : ∀ a, (![0, o] : Fin 2 → ℕ) a + S1536x128.size a ≤ S1536x640.size a) : Vec Ideal S1536x128 .i8 :=
  View.readAt (Elt Ideal) arg3.view (Rect.unit (s := S1536x640) ![0, o] S1536x128.size inb).toLoadRect (arg3.view.rep x3)

theorem blkL_apply (arg3 : Memref sig .tc .vmem S1536x640 .i8) (x3 : Vec Ideal S1536x640 .i8) (o : ℕ)
    (inb : ∀ a, (![0, o] : Fin 2 → ℕ) a + S1536x128.size a ≤ S1536x640.size a) (r : Fin 1536) (j : Fin 128) (ho : o + j.val < 640) :
    blkL arg3 x3 o inb (ix2 r j) = x3 (ix2 r ⟨o + j.val, ho⟩) := by
  unfold blkL
  rw [View.readAt_rep]
  refine congrArg x3 ((emb2 (n := 1536) (k := 640) (p := 1536) (q := 128) 0 o inb r j (by omega) ho).trans ?_)
  exact congrArg₂ ix2 (Fin.ext (Nat.zero_add _)) rfl

theorem hblk_0 (arg3 : Memref sig .tc .vmem S1536x640 .i8) (x3 : Vec Ideal S1536x640 .i8) (r : Fin 1536) (j : Fin 128) :
    blkL arg3 x3 0 Gen.inb_S1536x640_S1536x128_0_0 (ix2 r j) = x3 (ix2 r ⟨128 * 0 + j.val, by omega⟩) := blkL_apply _ _ _ _ r j (by omega)
theorem hblk_1 (arg3 : Memref sig .tc .vmem S1536x640 .i8) (x3 : Vec Ideal S1536x640 .i8) (r : Fin 1536) (j : Fin 128) :
    blkL arg3 x3 128 Gen.inb_S1536x640_S1536x128_0_128 (ix2 r j) = x3 (ix2 r ⟨128 * 1 + j.val, by omega⟩) := blkL_apply _ _ _ _ r j (by omega)
theorem hblk_2 (arg3 : Memref sig .tc .vmem S1536x640 .i8) (x3 : Vec Ideal S1536x640 .i8) (r : Fin 1536) (j : Fin 128) :
    blkL arg3 x3 256 Gen.inb_S1536x640_S1536x128_0_256 (ix2 r j) = x3 (ix2 r ⟨128 * 2 + j.val, by omega⟩) := blkL_apply _ _ _ _ r j (by omega)
theorem hblk_3 (arg3 : Memref sig .tc .vmem S1536x640 .i8) (x3 : Vec Ideal S1536x640 .i8) (r : Fin 1536) (j : Fin 128) :
    blkL arg3 x3 384 Gen.inb_S1536x640_S1536x128_0_384 (ix2 r j) = x3 (ix2 r ⟨128 * 3 + j.val, by omega⟩) := blkL_apply _ _ _ _ r j (by omega)
theorem hblk_4 (arg3 : Memref sig .tc .vmem S1536x640 .i8) (x3 : Vec Ideal S1536x640 .i8) (r : Fin 1536) (j : Fin 128) :
    blkL arg3 x3 512 Gen.inb_S1536x640_S1536x128_0_512 (ix2 r j) = x3 (ix2 r ⟨128 * 4 + j.val, by omega⟩) := blkL_apply _ _ _ _ r j (by omega)

theorem hscale (arg4 : Memref sig .tc .vmem S12x1280 .f32) (x4 : Vec Ideal S12x1280 .f32) :
    Gen.k0_pay63 (F := Ideal) (View.readAt (Elt Ideal) arg4.view (Rect.unit ![0, 0] S12x1280.size Gen.inb_S12x1280_S12x1280_0_0).toLoadRect (arg4.view.rep x4)) = x4 := by
  rw [View.readAt_rep_full]; rfl

theorem okB_2 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_2 (F := Ideal) c arg3 arg4 x3 x4, ∀ x, p.2 x = Wt x3 x4 (p.1.emb x) :=
  (List.forall_mem_cons.2 ⟨piece_ok x3 x4 1 0 0 (by decide) (by decide) 128 0 rfl rfl _ (hblk_0 arg3 x3) _ (hscale arg4 x4) Gen.slices_S1536x128_o128_0_S128x128 Gen.slices_S12x1280_o1_0_S1x128 Gen.inb_S1536x1280_S128x128_128_0 _ rfl,
    (List.forall_mem_cons.2 ⟨piece_ok x3 x4 0 0 0 (by decide) (by decide) 0 0 rfl rfl _ (hblk_0 arg3 x3) _ (hscale arg4 x4) Gen.slices_S1536x128_o0_0_S128x128 Gen.slices_S12x1280_o0_0_S1x128 Gen.inb_S1536x1280_S128x128_0_0 _ rfl,
    fun p hp => absurd hp List.not_mem_nil⟩)⟩)

theorem okB_8 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_8 (F := Ideal) c arg3 arg4 x3 x4, ∀ x, p.2 x = Wt x3 x4 (p.1.emb x) :=
  (List.forall_mem_cons.2 ⟨piece_ok x3 x4 7 0 0 (by decide) (by decide) 896 0 rfl rfl _ (hblk_0 arg3 x3) _ (hscale arg4 x4) Gen.slices_S1536x128_o896_0_S128x128 Gen.slices_S12x1280_o7_0_S1x128 Gen.inb_S1536x1280_S128x128_896_0 _ rfl,
    (List.forall_mem_cons.2 ⟨piece_ok x3 x4 6 0 0 (by decide) (by decide) 768 0 rfl rfl _ (hblk_0 arg3 x3) _ (hscale arg4 x4) Gen.slices_S1536x128_o768_0_S128x128 Gen.slices_S12x1280_o6_0_S1x128 Gen.inb_S1536x1280_S128x128_768_0 _ rfl,
    (List.forall_mem_cons.2 ⟨piece_ok x3 x4 5 0 0 (by decide) (by decide) 640 0 rfl rfl _ (hblk_0 arg3 x3) _ (hscale arg4 x4) Gen.slices_S1536x128_o640_0_S128x128 Gen.slices_S12x1280_o5_0_S1x128 Gen.inb_S1536x1280_S128x128_640_0 _ rfl,
    (List.forall_mem_cons.2 ⟨piece_ok x3 x4 4 0 0 (by decide) (by decide) 512 0 rfl rfl _ (hblk_0 arg3 x3) _ (hscale arg4 x4) Gen.slices_S1536x128_o512_0_S128x128 Gen.slices_S12x1280_o4_0_S1x128 Gen.inb_S1536x1280_S128x128_512_0 _ rfl,
    (List.forall_mem_cons.2 ⟨piece_ok x3 x4 3 0 0 (by decide) (by decide) 384 0 rfl rfl _ (hblk_0 arg3 x3) _ (hscale arg4 x4) Gen.slices_S1536x128_o384_0_S128x128 Gen.slices_S12x1280_o3_0_S1x128 Gen.inb_S1536x1280_S128x128_384_0 _ rfl,
    (List.forall_mem_cons.2 ⟨piece_ok x3 x4 2 0 0 (by decide) (by decide) 256 0 rfl rfl _ (hblk_0 arg3 x3) _ (hscale arg4 x4) Gen.slices_S1536x128_o256_0_S128x128 Gen.slices_S12x1280_o2_0_S1x128 Gen.inb_S1536x1280_S128x128_256_0 _ rfl,
    okB_2 c arg3 arg4 x3 x4⟩)⟩)⟩)⟩)⟩)⟩)

theorem okB_14 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_14 (F := Ideal) c arg3 arg4 x3 x4, ∀ x, p.2 x = Wt x3 x4 (p.1.emb x) :=
  (List.forall_mem_cons.2 ⟨piece_ok x3 x4 1 0 1 (by decide) (by decide) 128 128 rfl rfl _ (hblk_0 arg3 x3) _ (hscale arg4 x4) Gen.slices_S1536x128_o128_0_S128x128 Gen.slices_S12x1280_o1_128_S1x128 Gen.inb_S1536x1280_S128x128_128_128 _ rfl,
    (List.forall_mem_cons.2 ⟨piece_ok x3 x4 0 0 1 (by decide) (by decide) 0 128 rfl rfl _ (hblk_0 arg3 x3) _ (hscale arg4 x4) Gen.slices_S1536x128_o0_0_S128x128 Gen.slices_S12x1280_o0_128_S1x128 Gen.inb_S1536x1280_S128x128_0_128 _ rfl,
    (List.forall_mem_cons.2 ⟨piece_ok x3 x4 11 0 0 (by decide) (by decide) 1408 0 rfl rfl _ (hblk_0 arg3 x3) _ (hscale arg4 x4) Gen.slices_S1536x128_o1408_0_S128x128 Gen.slices_S12x1280_o11_0_S1x128 Gen.inb_S1536x1280_S128x128_1408_0 _ rfl,
    (List.forall_mem_cons.2 ⟨piece_ok x3 x4 10 0 0 (by decide) (by decide) 1280 0 rfl rfl _ (hblk_0 arg3 x3) _ (hscale arg4 x4) Gen.slices_S1536x128_o1280_0_S128x128 Gen.slices_S12x1280_o10_0_S1x128 Gen.inb_S1536x1280_S128x128_1280_0 _ rfl,
    (List.forall_mem_cons.2 ⟨piece_ok x3 x4 9 0 0 (by decide) (by decide) 1152 0 rfl rfl _ (hblk_0 arg3 x3) _ (hscale arg4 x4) Gen.slices_S1536x128_o1152_0_S128x128 Gen.slices_S12x1280_o9_0_S1x128 Gen.inb_S1536x1280_S128x128_1152_0 _ rfl,
    (List.forall_mem_cons.2 ⟨piece_ok x3 x4 8 0 0 (by decide) (by decide) 1024 0 rfl rfl _ (hblk_0 arg3 x3) _ (hscale arg4 x4) Gen.slices_S1536x128_o1024_0_S128x128 Gen.slices_S12x1280_o8_0_S1x128 Gen.inb_S1536x1280_S128x128_1024_0 _ rfl,
    okB_8 c arg3 arg4 x3 x4⟩)⟩)⟩)⟩)⟩)⟩)

theorem okB_20 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_20 (F := Ideal) c arg3 arg4 x3 x4, ∀ x, p.2 x = Wt x3 x4 (p.1.emb x) :=
  (List.forall_mem_cons.2 ⟨piece_ok x3 x4 7 0 1 (by decide) (by decide) 896 128 rfl rfl _ (hblk_0 arg3 x3) _ (hscale arg4 x4) Gen.slices_S1536x128_o896_0_S128x128 Gen.slices_S12x1280_o7_128_S1x128 Gen.inb_S1536x1280_S128x128_896_128 _ rfl,
    (List.forall_mem_cons.2 ⟨piece_ok x3 x4 6 0 1 (by decide) (by decide) 768 128 rfl rfl _ (hblk_0 arg3 x3) _ (hscale arg4 x4) Gen.slices_S1536x128_o768_0_S128x128 Gen.slices_S12x1280_o6_128_S1x128 Gen.inb_S1536x1280_S128x128_768_128 _ rfl,
    (List.forall_mem_cons.2 ⟨piece_ok x3 x4 5 0 1 (by decide) (by decide) 640 128 rfl rfl _ (hblk_0 arg3 x3) _ (hscale arg4 x4) Gen.slices_S1536x128_o640_0_S128x128 Gen.slices_S12x1280_o5_128_S1x128 Gen.inb_S1536x1280_S128x128_640_128 _ rfl,
    (List.forall_mem_cons.2 ⟨piece_ok x3 x4 4 0 1 (by decide) (by decide) 512 128 rfl rfl _ (hblk_0 arg3 x3) _ (hscale arg4 x4) Gen.slices_S1536x128_o512_0_S128x128 Gen.slices_S12x1280_o4_128_S1x128 Gen.inb_S1536x1280_S128x128_512_128 _ rfl,
    (List.forall_mem_cons.2 ⟨piece_ok x3 x4 3 0 1 (by decide) (by decide) 384 128 rfl rfl _ (hblk_0 arg3 x3) _ (hscale arg4 x4) Gen.slices_S1536x128_o384_0_S128x128 Gen.slices_S12x1280_o3_128_S1x128 Gen.inb_S1536x1280_S128x128_384_128 _ rfl,
    (List.forall_mem_cons.2 ⟨piece_ok x3 x4 2 0 1 (by decide) (by decide) 256 128 rfl rfl _ (hblk_0 arg3 x3) _ (hscale arg4 x4) Gen.slices_S1536x128_o256_0_S128x128 Gen.slices_S12x1280_o2_128_S1x128 Gen.inb_S1536x1280_S128x128_256_128 _ rfl,
    okB_14 c arg3 arg4 x3 x4⟩)⟩)⟩)⟩)⟩)⟩)

theorem okB_24 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_24 (F := Ideal) c arg3 arg4 x3 x4, ∀ x, p.2 x = Wt x3 x4 (p.1.emb x) :=
  (List.forall_mem_cons.2 ⟨piece_ok x3 x4 11 0 1 (by decide) (by decide) 1408 128 rfl rfl _ (hblk_0 arg3 x3) _ (hscale arg4 x4) Gen.slices_S1536x128_o1408_0_S128x128 Gen.slices_S12x1280_o11_128_S1x128 Gen.inb_S1536x1280_S128x128_1408_128 _ rfl,
    (List.forall_mem_cons.2 ⟨piece_ok x3 x4 10 0 1 (by decide) (by decide) 1280 128 rfl rfl _ (hblk_0 arg3 x3) _ (hscale arg4 x4) Gen.slices_S1536x128_o1280_0_S128x128 Gen.slices_S12x1280_o10_128_S1x128 Gen.inb_S1536x1280_S128x128_1280_128 _ rfl,
    (List.forall_mem_cons.2 ⟨piece_ok x3 x4 9 0 1 (by decide) (by decide) 1152 128 rfl rfl _ (hblk_0 arg3 x3) _ (hscale arg4 x4) Gen.slices_S1536x128_o1152_0_S128x128 Gen.slices_S12x1280_o9_128_S1x128 Gen.inb_S1536x1280_S128x128_1152_128 _ rfl,
    (List.forall_mem_cons.2 ⟨piece_ok x3 x4 8 0 1 (by decide) (by decide) 1024 128 rfl rfl _ (hblk_0 arg3 x3) _ (hscale arg4 x4) Gen.slices_S1536x128_o1024_0_S128x128 Gen.slices_S12x1280_o8_128_S1x128 Gen.inb_S1536x1280_S128x128_1024_128 _ rfl,
    okB_20 c arg3 arg4 x3 x4⟩)⟩)⟩)⟩)

theorem okB_30 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_30 (F := Ideal) c arg3 arg4 x3 x4, ∀ x, p.2 x = Wt x3 x4 (p.1.emb x) :=
  (List.forall_mem_cons.2 ⟨piece_ok x3 x4 5 1 0 (by decide) (by decide) 640 256 rfl rfl _ (hblk_1 arg3 x3) _ (hscale arg4 x4) Gen.slices_S1536x128_o640_0_S128x128 Gen.slices_S12x1280_o5_256_S1x128 Gen.inb_S1536x1280_S128x128_640_256 _ rfl,
    (List.forall_mem_cons.2 ⟨piece_ok x3 x4 4 1 0 (by decide) (by decide) 512 256 rfl rfl _ (hblk_1 arg3 x3) _ (hscale arg4 x4) Gen.slices_S1536x128_o512_0_S128x128 Gen.slices_S12x1280_o4_256_S1x128 Gen.inb_S1536x1280_S128x128_512_256 _ rfl,
    (List.forall_mem_cons.2 ⟨piece_ok x3 x4 3 1 0 (by decide) (by decide) 384 256 rfl rfl _ (hblk_1 arg3 x3) _ (hscale arg4 x4) Gen.slices_S1536x128_o384_0_S128x128 Gen.slices_S12x1280_o3_256_S1x128 Gen.inb_S1536x1280_S128x128_384_256 _ rfl,
    (List.forall_mem_cons.2 ⟨piece_ok x3 x4 2 1 0 (by decide) (by decide) 256 256 rfl rfl _ (hblk_1 arg3 x3) _ (hscale arg4 x4) Gen.slices_S1536x128_o256_0_S128x128 Gen.slices_S12x1280_o2_256_S1x128 Gen.inb_S1536x1280_S128x128_256_256 _ rfl,
    (List.forall_mem_cons.2 ⟨piece_ok x3 x4 1 1 0 (by decide) (by decide) 128 256 rfl rfl _ (hblk_1 arg3 x3) _ (hscale arg4 x4) Gen.slices_S1536x128_o128_0_S128x128 Gen.slices_S12x1280_o1_256_S1x128 Gen.inb_S1536x1280_S128x128_128_256 _ rfl,
    (List.forall_mem_cons.2 ⟨piece_ok x3 x4 0 1 0 (by decide) (by decide) 0 256 rfl rfl _ (hblk_1 arg3 x3) _ (hscale arg4 x4) Gen.slices_S1536x128_o0_0_S128x128 Gen.slices_S12x1280_o0_256_S1x128 Gen.inb_S1536x1280_S128x128_0_256 _ rfl,
    okB_24 c arg3 arg4 x3 x4⟩)⟩)⟩)⟩)⟩)⟩)

theorem okB_36 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_36 (F := Ideal) c arg3 arg4 x3 x4, ∀ x, p.2 x = Wt x3 x4 (p.1.emb x) :=
  (List.forall_mem_cons.2 ⟨piece_ok x3 x4 11 1 0 (by decide) (by decide) 1408 256 rfl rfl _ (hblk_1 arg3 x3) _ (hscale arg4 x4) Gen.slices_S1536x128_o1408_0_S128x128 Gen.slices_S12x1280_o11_256_S1x128 Gen.inb_S1536x1280_S128x128_1408_256 _ rfl,
    (List.forall_mem_cons.2 ⟨piece_ok x3 x4 10 1 0 (by decide) (by decide) 1280 256 rfl rfl _ (hblk_1 arg3 x3) _ (hscale arg4 x4) Gen.slices_S1536x128_o1280_0_S128x128 Gen.slices_S12x1280_o10_256_S1x128 Gen.inb_S1536x1280_S128x128_1280_256 _ rfl,
    (List.forall_mem_cons.2 ⟨piece_ok x3 x4 9 1 0 (by decide) (by decide) 1152 256 rfl rfl _ (hblk_1 arg3 x3) _ (hscale arg4 x4) Gen.slices_S1536x128_o1152_0_S128x128 Gen.slices_S12x1280_o9_256_S1x128 Gen.inb_S1536x1280_S128x128_1152_256 _ rfl,
    (List.forall_mem_cons.2 ⟨piece_ok x3 x4 8 1 0 (by decide) (by decide) 1024 256 rfl rfl _ (hblk_1 arg3 x3) _ (hscale arg4 x4) Gen.slices_S1536x128_o1024_0_S128x128 Gen.slices_S12x1280_o8_256_S1x128 Gen.inb_S1536x1280_S128x128_1024_256 _ rfl,
    (List.forall_mem_cons.2 ⟨piece_ok x3 x4 7 1 0 (by decide) (by decide) 896 256 rfl rfl _ (hblk_1 arg3 x3) _ (hscale arg4 x4) Gen.slices_S1536x128_o896_0_S128x128 Gen.slices_S12x1280_o7_256_S1x128 Gen.inb_S1536x1280_S128x128_896_256 _ rfl,
    (List.forall_mem_cons.2 ⟨piece_ok x3 x4 6 1 0 (by decide) (by decide) 768 256 rfl rfl _ (hblk_1 arg3 x3) _ (hscale arg4 x4) Gen.slices_S1536x128_o768_0_S128x128 Gen.slices_S12x1280_o6_256_S1x128 Gen.inb_S1536x1280_S128x128_768_256 _ rfl,
    okB_30 c arg3 arg4 x3 x4⟩)⟩)⟩)⟩)⟩)⟩)

theorem okB_42 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_42 (F := Ideal) c arg3 arg4 x3 x4, ∀ x, p.2 x = Wt x3 x4 (p.1.emb x) :=
  (List.forall_mem_cons.2 ⟨piece_ok x3 x4 5 1 1 (by decide) (by decide) 640 384 rfl rfl _ (hblk_1 arg3 x3) _ (hscale arg4 x4) Gen.slices_S1536x128_o640_0_S128x128 Gen.slices_S12x1280_o5_384_S1x128 Gen.inb_S1536x1280_S128x128_640_384 _ rfl,
    (List.forall_mem_cons.2 ⟨piece_ok x3 x4 4 1 1 (by decide) (by decide) 512 384 rfl rfl _ (hblk_1 arg3 x3) _ (hscale arg4 x4) Gen.slices_S1536x128_o512_0_S128x128 Gen.slices_S12x1280_o4_384_S1x128 Gen.inb_S1536x1280_S128x128_512_384 _ rfl,
    (List.forall_mem_cons.2 ⟨piece_ok x3 x4 3 1 1 (by decide) (by decide) 384 384 rfl rfl _ (hblk_1 arg3 x3) _ (hscale arg4 x4) Gen.slices_S1536x128_o384_0_S128x128 Gen.slices_S12x1280_o3_384_S1x128 Gen.inb_S1536x1280_S128x128_384_384 _ rfl,
    (List.forall_mem_cons.2 ⟨piece_ok x3 x4 2 1 1 (by decide) (by decide) 256 384 rfl rfl _ (hblk_1 arg3 x3) _ (hscale arg4 x4) Gen.slices_S1536x128_o256_0_S128x128 Gen.slices_S12x1280_o2_384_S1x128 Gen.inb_S1536x1280_S128x128_256_384 _ rfl,
    (List.forall_mem_cons.2 ⟨piece_ok x3 x4 1 1 1 (by decide) (by decide) 128 384 rfl rfl _ (hblk_1 arg3 x3) _ (hscale arg4 x4) Gen.slices_S1536x128_o128_0_S128x128 Gen.slices_S12x1280_o1_384_S1x128 Gen.inb_S1536x1280_S128x128_128_384 _ rfl,
    (List.forall_mem_cons.2 ⟨piece_ok x3 x4 0 1 1 (by decide) (by decide) 0 384 rfl rfl _ (hblk_1 arg3 x3) _ (hscale arg4 x4) Gen.slices_S1536x128_o0_0_S128x128 Gen.slices_S12x1280_o0_384_S1x128 Gen.inb_S1536x1280_S128x128_0_384 _ rfl,
    okB_36 c arg3 arg4 x3 x4⟩)⟩)⟩)⟩)⟩)⟩)

theorem okB_48 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_48 (F := Ideal) c arg3 arg4 x3 x4, ∀ x, p.2 x = Wt x3 x4 (p.1.emb x) :=
  (List.forall_mem_cons.2 ⟨piece_ok x3 x4 11 1 1 (by decide) (by decide) 1408 384 rfl rfl _ (hblk_1 arg3 x3) _ (hscale arg4 x4) Gen.slices_S1536x128_o1408_0_S128x128 Gen.slices_S12x1280_o11_384_S1x128 Gen.inb_S1536x1280_S128x128_1408_384 _ rfl,
    (List.forall_mem_cons.2 ⟨piece_ok x3 x4 10 1 1 (by decide) (by decide) 1280 384 rfl rfl _ (hblk_1 arg3 x3) _ (hscale arg4 x4) Gen.slices_S1536x128_o1280_0_S128x128 Gen.slices_S12x1280_o10_384_S1x128 Gen.inb_S1536x1280_S128x128_1280_384 _ rfl,
    (List.forall_mem_cons.2 ⟨piece_ok x3 x4 9 1 1 (by decide) (by decide) 1152 384 rfl rfl _ (hblk_1 arg3 x3) _ (hscale arg4 x4) Gen.slices_S1536x128_o1152_0_S128x128 Gen.slices_S12x1280_o9_384_S1x128 Gen.inb_S1536x1280_S128x128_1152_384 _ rfl,
    (List.forall_mem_cons.2 ⟨piece_ok x3 x4 8 1 1 (by decide) (by decide) 1024 384 rfl rfl _ (hblk_1 arg3 x3) _ (hscale arg4 x4) Gen.slices_S1536x128_o1024_0_S128x128 Gen.slices_S12x1280_o8_384_S1x128 Gen.inb_S1536x1280_S128x128_1024_384 _ rfl,
    (List.forall_mem_cons.2 ⟨piece_ok x3 x4 7 1 1 (by decide) (by decide) 896 384 rfl rfl _ (hblk_1 arg3 x3) _ (hscale arg4 x4) Gen.slices_S1536x128_o896_0_S128x128 Gen.slices_S12x1280_o7_384_S1x128 Gen.inb_S1536x1280_S128x128_896_384 _ rfl,
    (List.forall_mem_cons.2 ⟨piece_ok x3 x4 6 1 1 (by decide) (by decide) 768 384 rfl rfl _ (hblk_1 arg3 x3) _ (hscale arg4 x4) Gen.slices_S1536x128_o768_0_S128x128 Gen.slices_S12x1280_o6_384_S1x128 Gen.inb_S1536x1280_S128x128_768_384 _ rfl,
    okB_42 c arg3 arg4 x3 x4⟩)⟩)⟩)⟩)⟩)⟩)

theorem okB_52 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_52 (F := Ideal) c arg3 arg4 x3 x4, ∀ x, p.2 x = Wt x3 x4 (p.1.emb x) :=
  (List.forall_mem_cons.2 ⟨piece_ok x3 x4 3 2 0 (by decide) (by decide) 384 512 rfl rfl _ (hblk_2 arg3 x3) _ (hscale arg4 x4) Gen.slices_S1536x128_o384_0_S128x128 Gen.slices_S12x1280_o3_512_S1x128 Gen.inb_S1536x1280_S128x128_384_512 _ rfl,
    (List.forall_mem_cons.2 ⟨piece_ok x3 x4 2 2 0 (by decide) (by decide) 256 512 rfl rfl _ (hblk_2 arg3 x3) _ (hscale arg4 x4) Gen.slices_S1536x128_o256_0_S128x128 Gen.slices_S12x1280_o2_512_S1x128 Gen.inb_S1536x1280_S128x128_256_512 _ rfl,
    (List.forall_mem_cons.2 ⟨piece_ok x3 x4 1 2 0 (by decide) (by decide) 128 512 rfl rfl _ (hblk_2 arg3 x3) _ (hscale arg4 x4) Gen.slices_S1536x128_o128_0_S128x128 Gen.slices_S12x1280_o1_512_S1x128 Gen.inb_S1536x1280_S128x128_128_512 _ rfl,
    (List.forall_mem_cons.2 ⟨piece_ok x3 x4 0 2 0 (by decide) (by decide) 0 512 rfl rfl _ (hblk_2 arg3 x3) _ (hscale arg4 x4) Gen.slices_S1536x128_o0_0_S128x128 Gen.slices_S12x1280_o0_512_S1x128 Gen.inb_S1536x1280_S128x128_0_512 _ rfl,
    okB_48 c arg3 arg4 x3 x4⟩)⟩)⟩)⟩)

theorem okB_58 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_58 (F := Ideal) c arg3 arg4 x3 x4, ∀ x, p.2 x = Wt x3 x4 (p.1.emb x) :=
  (List.forall_mem_cons.2 ⟨piece_ok x3 x4 9 2 0 (by decide) (by decide) 1152 512 rfl rfl _ (hblk_2 arg3 x3) _ (hscale arg4 x4) Gen.slices_S1536x128_o1152_0_S128x128 Gen.slices_S12x1280_o9_512_S1x128 Gen.inb_S1536x1280_S128x128_1152_512 _ rfl,
    (List.forall_mem_cons.2 ⟨piece_ok x3 x4 8 2 0 (by decide) (by decide) 1024 512 rfl rfl _ (hblk_2 arg3 x3) _ (hscale arg4 x4) Gen.slices_S1536x128_o1024_0_S128x128 Gen.slices_S12x1280_o8_512_S1x128 Gen.inb_S1536x1280_S128x128_1024_512 _ rfl,
    (List.forall_mem_cons.2 ⟨piece_ok x3 x4 7 2 0 (by decide) (by decide) 896 512 rfl rfl _ (hblk_2 arg3 x3) _ (hscale arg4 x4) Gen.slices_S1536x128_o896_0_S128x128 Gen.slices_S12x1280_o7_512_S1x128 Gen.inb_S1536x1280_S128x128_896_512 _ rfl,
    (List.forall_mem_cons.2 ⟨piece_ok x3 x4 6 2 0 (by decide) (by decide) 768 512 rfl rfl _ (hblk_2 arg3 x3) _ (hscale arg4 x4) Gen.slices_S1536x128_o768_0_S128x128 Gen.slices_S12x1280_o6_512_S1x128 Gen.inb_S1536x1280_S128x128_768_512 _ rfl,
    (List.forall_mem_cons.2 ⟨piece_ok x3 x4 5 2 0 (by decide) (by decide) 640 512 rfl rfl _ (hblk_2 arg3 x3) _ (hscale arg4 x4) Gen.slices_S1536x128_o640_0_S128x128 Gen.slices_S12x1280_o5_512_S1x128 Gen.inb_S1536x1280_S128x128_640_512 _ rfl,
    (List.forall_mem_cons.2 ⟨piece_ok x3 x4 4 2 0 (by decide) (by decide) 512 512 rfl rfl _ (hblk_2 arg3 x3) _ (hscale arg4 x4) Gen.slices_S1536x128_o512_0_S128x128 Gen.slices_S12x1280_o4_512_S1x128 Gen.inb_S1536x1280_S128x128_512_512 _ rfl,
    okB_52 c arg3 arg4 x3 x4⟩)⟩)⟩)⟩)⟩)⟩)

theorem okB_64 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_64 (F := Ideal) c arg3 arg4 x3 x4, ∀ x, p.2 x = Wt x3 x4 (p.1.emb x) :=
  (List.forall_mem_cons.2 ⟨piece_ok x3 x4 3 2 1 (by decide) (by decide) 384 640 rfl rfl _ (hblk_2 arg3 x3) _ (hscale arg4 x4) Gen.slices_S1536x128_o384_0_S128x128 Gen.slices_S12x1280_o3_640_S1x128 Gen.inb_S1536x1280_S128x128_384_640 _ rfl,
    (List.forall_mem_cons.2 ⟨piece_ok x3 x4 2 2 1 (by decide) (by decide) 256 640 rfl rfl _ (hblk_2 arg3 x3) _ (hscale arg4 x4) Gen.slices_S1536x128_o256_0_S128x128 Gen.slices_S12x1280_o2_640_S1x128 Gen.inb_S1536x1280_S128x128_256_640 _ rfl,
    (List.forall_mem_cons.2 ⟨piece_ok x3 x4 1 2 1 (by decide) (by decide) 128 640 rfl rfl _ (hblk_2 arg3 x3) _ (hscale arg4 x4) Gen.slices_S1536x128_o128_0_S128x128 Gen.slices_S12x1280_o1_640_S1x128 Gen.inb_S1536x1280_S128x128_128_640 _ rfl,
    (List.forall_mem_cons.2 ⟨piece_ok x3 x4 0 2 1 (by decide) (by decide) 0 640 rfl rfl _ (hblk_2 arg3 x3) _ (hscale arg4 x4) Gen.slices_S1536x128_o0_0_S128x128 Gen.slices_S12x1280_o0_640_S1x128 Gen.inb_S1536x1280_S128x128_0_640 _ rfl,
    (List.forall_mem_cons.2 ⟨piece_ok x3 x4 11 2 0 (by decide) (by decide) 1408 512 rfl rfl _ (hblk_2 arg3 x3) _ (hscale arg4 x4) Gen.slices_S1536x128_o1408_0_S128x128 Gen.slices_S12x1280_o11_512_S1x128 Gen.inb_S1536x1280_S128x128_1408_512 _ rfl,
    (List.forall_mem_cons.2 ⟨piece_ok x3 x4 10 2 0 (by decide) (by decide) 1280 512 rfl rfl _ (hblk_2 arg3 x3) _ (hscale arg4 x4) Gen.slices_S1536x128_o1280_0_S128x128 Gen.slices_S12x1280_o10_512_S1x128 Gen.inb_S1536x1280_S128x128_1280_512 _ rfl,
    okB_58 c arg3 arg4 x3 x4⟩)⟩)⟩)⟩)⟩)⟩)

theorem okB_70 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_70 (F := Ideal) c arg3 arg4 x3 x4, ∀ x, p.2 x = Wt x3 x4 (p.1.emb x) :=
  (List.forall_mem_cons.2 ⟨piece_ok x3 x4 9 2 1 (by decide) (by decide) 1152 640 rfl rfl _ (hblk_2 arg3 x3) _ (hscale arg4 x4) Gen.slices_S1536x128_o1152_0_S128x128 Gen.slices_S12x1280_o9_640_S1x128 Gen.inb_S1536x1280_S128x128_1152_640 _ rfl,
    (List.forall_mem_cons.2 ⟨piece_ok x3 x4 8 2 1 (by decide) (by decide) 1024 640 rfl rfl _ (hblk_2 arg3 x3) _ (hscale arg4 x4) Gen.slices_S1536x128_o1024_0_S128x128 Gen.slices_S12x1280_o8_640_S1x128 Gen.inb_S1536x1280_S128x128_1024_640 _ rfl,
    (List.forall_mem_cons.2 ⟨piece_ok x3 x4 7 2 1 (by decide) (by decide) 896 640 rfl rfl _ (hblk_2 arg3 x3) _ (hscale arg4 x4) Gen.slices_S1536x128_o896_0_S128x128 Gen.slices_S12x1280_o7_640_S1x128 Gen.inb_S1536x1280_S128x128_896_640 _ rfl,
    (List.forall_mem_cons.2 ⟨piece_ok x3 x4 6 2 1 (by decide) (by decide) 768 640 rfl rfl _ (hblk_2 arg3 x3) _ (hscale arg4 x4) Gen.slices_S1536x128_o768_0_S128x128 Gen.slices_S12x1280_o6_640_S1x128 Gen.inb_S1536x1280_S128x128_768_640 _ rfl,
    (List.forall_mem_cons.2 ⟨piece_ok x3 x4 5 2 1 (by decide) (by decide) 640 640 rfl rfl _ (hblk_2 arg3 x3) _ (hscale arg4 x4) Gen.slices_S1536x128_o640_0_S128x128 Gen.slices_S12x1280_o5_640_S1x128 Gen.inb_S1536x1280_S128x128_640_640 _ rfl,
    (List.forall_mem_cons.2 ⟨piece_ok x3 x4 4 2 1 (by decide) (by decide) 512 640 rfl rfl _ (hblk_2 arg3 x3) _ (hscale arg4 x4) Gen.slices_S1536x128_o512_0_S128x128 Gen.slices_S12x1280_o4_640_S1x128 Gen.inb_S1536x1280_S128x128_512_640 _ rfl,
    okB_64 c arg3 arg4 x3 x4⟩)⟩)⟩)⟩)⟩)⟩)

theorem okB_72 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_72 (F := Ideal) c arg3 arg4 x3 x4, ∀ x, p.2 x = Wt x3 x4 (p.1.emb x) :=
  (List.forall_mem_cons.2 ⟨piece_ok x3 x4 11 2 1 (by decide) (by decide) 1408 640 rfl rfl _ (hblk_2 arg3 x3) _ (hscale arg4 x4) Gen.slices_S1536x128_o1408_0_S128x128 Gen.slices_S12x1280_o11_640_S1x128 Gen.inb_S1536x1280_S128x128_1408_640 _ rfl,
    (List.forall_mem_cons.2 ⟨piece_ok x3 x4 10 2 1 (by decide) (by decide) 1280 640 rfl rfl _ (hblk_2 arg3 x3) _ (hscale arg4 x4) Gen.slices_S1536x128_o1280_0_S128x128 Gen.slices_S12x1280_o10_640_S1x128 Gen.inb_S1536x1280_S128x128_1280_640 _ rfl,
    okB_70 c arg3 arg4 x3 x4⟩)⟩)

theorem okB_73 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_73 (F := Ideal) c arg3 arg4 x3 x4, ∀ x, p.2 x = Wt x3 x4 (p.1.emb x) :=
  (List.forall_mem_cons.2 ⟨piece_ok x3 x4 0 3 0 (by decide) (by decide) 0 768 rfl rfl _ (hblk_3 arg3 x3) _ (hscale arg4 x4) Gen.slices_S1536x128_o0_0_S128x128 Gen.slices_S12x1280_o0_768_S1x128 Gen.inb_S1536x1280_S128x128_0_768 _ rfl,
    okB_72 c arg3 arg4 x3 x4⟩)

theorem okB_79 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_79 (F := Ideal) c arg3 arg4 x3 x4, ∀ x, p.2 x = Wt x3 x4 (p.1.emb x) :=
  (List.forall_mem_cons.2 ⟨piece_ok x3 x4 6 3 0 (by decide) (by decide) 768 768 rfl rfl _ (hblk_3 arg3 x3) _ (hscale arg4 x4) Gen.slices_S1536x128_o768_0_S128x128 Gen.slices_S12x1280_o6_768_S1x128 Gen.inb_S1536x1280_S128x128_768_768 _ rfl,
    (List.forall_mem_cons.2 ⟨piece_ok x3 x4 5 3 0 (by decide) (by decide) 640 768 rfl rfl _ (hblk_3 arg3 x3) _ (hscale arg4 x4) Gen.slices_S1536x128_o640_0_S128x128 Gen.slices_S12x1280_o5_768_S1x128 Gen.inb_S1536x1280_S128x128_640_768 _ rfl,
    (List.forall_mem_cons.2 ⟨piece_ok x3 x4 4 3 0 (by decide) (by decide) 512 768 rfl rfl _ (hblk_3 arg3 x3) _ (hscale arg4 x4) Gen.slices_S1536x128_o512_0_S128x128 Gen.slices_S12x1280_o4_768_S1x128 Gen.inb_S1536x1280_S128x128_512_768 _ rfl,
    (List.forall_mem_cons.2 ⟨piece_ok x3 x4 3 3 0 (by decide) (by decide) 384 768 rfl rfl _ (hblk_3 arg3 x3) _ (hscale arg4 x4) Gen.slices_S1536x128_o384_0_S128x128 Gen.slices_S12x1280_o3_768_S1x128 Gen.inb_S1536x1280_S128x128_384_768 _ rfl,
    (List.forall_mem_cons.2 ⟨piece_ok x3 x4 2 3 0 (by decide) (by decide) 256 768 rfl rfl _ (hblk_3 arg3 x3) _ (hscale arg4 x4) Gen.slices_S1536x128_o256_0_S128x128 Gen.slices_S12x1280_o2_768_S1x128 Gen.inb_S1536x1280_S128x128_256_768 _ rfl,
    (List.forall_mem_cons.2 ⟨piece_ok x3 x4 1 3 0 (by decide) (by decide) 128 768 rfl rfl _ (hblk_3 arg3 x3) _ (hscale arg4 x4) Gen.slices_S1536x128_o128_0_S128x128 Gen.slices_S12x1280_o1_768_S1x128 Gen.inb_S1536x1280_S128x128_128_768 _ rfl,
    okB_73 c arg3 arg4 x3 x4⟩)⟩)⟩)⟩)⟩)⟩)

theorem okB_85 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_85 (F := Ideal) c arg3 arg4 x3 x4, ∀ x, p.2 x = Wt x3 x4 (p.1.emb x) :=
  (List.forall_mem_cons.2 ⟨piece_ok x3 x4 0 3 1 (by decide) (by decide) 0 896 rfl rfl _ (hblk_3 arg3 x3) _ (hscale arg4 x4) Gen.slices_S1536x128_o0_0_S128x128 Gen.slices_S12x1280_o0_896_S1x128 Gen.inb_S1536x1280_S128x128_0_896 _ rfl,
    (List.forall_mem_cons.2 ⟨piece_ok x3 x4 11 3 0 (by decide) (by decide) 1408 768 rfl rfl _ (hblk_3 arg3 x3) _ (hscale arg4 x4) Gen.slices_S1536x128_o1408_0_S128x128 Gen.slices_S12x1280_o11_768_S1x128 Gen.inb_S1536x1280_S128x128_1408_768 _ rfl,
    (List.forall_mem_cons.2 ⟨piece_ok x3 x4 10 3 0 (by decide) (by decide) 1280 768 rfl rfl _ (hblk_3 arg3 x3) _ (hscale arg4 x4) Gen.slices_S1536x128_o1280_0_S128x128 Gen.slices_S12x1280_o10_768_S1x128 Gen.inb_S1536x1280_S128x128_1280_768 _ rfl,
    (List.forall_mem_cons.2 ⟨piece_ok x3 x4 9 3 0 (by decide) (by decide) 1152 768 rfl rfl _ (hblk_3 arg3 x3) _ (hscale arg4 x4) Gen.slices_S1536x128_o1152_0_S128x128 Gen.slices_S12x1280_o9_768_S1x128 Gen.inb_S1536x1280_S128x128_1152_768 _ rfl,
    (List.forall_mem_cons.2 ⟨piece_ok x3 x4 8 3 0 (by decide) (by decide) 1024 768 rfl rfl _ (hblk_3 arg3 x3) _ (hscale arg4 x4) Gen.slices_S1536x128_o1024_0_S128x128 Gen.slices_S12x1280_o8_768_S1x128 Gen.inb_S1536x1280_S128x128_1024_768 _ rfl,
    (List.forall_mem_cons.2 ⟨piece_ok x3 x4 7 3 0 (by decide) (by decide) 896 768 rfl rfl _ (hblk_3 arg3 x3) _ (hscale arg4 x4) Gen.slices_S1536x128_o896_0_S128x128 Gen.slices_S12x1280_o7_768_S1x128 Gen.inb_S1536x1280_S128x128_896_768 _ rfl,
    okB_79 c arg3 arg4 x3 x4⟩)⟩)⟩)⟩)⟩)⟩)

theorem okB_91 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_91 (F := Ideal) c arg3 arg4 x3 x4, ∀ x, p.2 x = Wt x3 x4 (p.1.emb x) :=
  (List.forall_mem_cons.2 ⟨piece_ok x3 x4 6 3 1 (by decide) (by decide) 768 896 rfl rfl _ (hblk_3 arg3 x3) _ (hscale arg4 x4) Gen.slices_S1536x128_o768_0_S128x128 Gen.slices_S12x1280_o6_896_S1x128 Gen.inb_S1536x1280_S128x128_768_896 _ rfl,
    (List.forall_mem_cons.2 ⟨piece_ok x3 x4 5 3 1 (by decide) (by decide) 640 896 rfl rfl _ (hblk_3 arg3 x3) _ (hscale arg4 x4) Gen.slices_S1536x128_o640_0_S128x128 Gen.slices_S12x1280_o5_896_S1x128 Gen.inb_S1536x1280_S128x128_640_896 _ rfl,
    (List.forall_mem_cons.2 ⟨piece_ok x3 x4 4 3 1 (by decide) (by decide) 512 896 rfl rfl _ (hblk_3 arg3 x3) _ (hscale arg4 x4) Gen.slices_S1536x128_o512_0_S128x128 Gen.slices_S12x1280_o4_896_S1x128 Gen.inb_S1536x1280_S128x128_512_896 _ rfl,
    (List.forall_mem_cons.2 ⟨piece_ok x3 x4 3 3 1 (by decide) (by decide) 384 896 rfl rfl _ (hblk_3 arg3 x3) _ (hscale arg4 x4) Gen.slices_S1536x128_o384_0_S128x128 Gen.slices_S12x1280_o3_896_S1x128 Gen.inb_S1536x1280_S128x128_384_896 _ rfl,
    (List.forall_mem_cons.2 ⟨piece_ok x3 x4 2 3 1 (by decide) (by decide) 256 896 rfl rfl _ (hblk_3 arg3 x3) _ (hscale arg4 x4) Gen.slices_S1536x128_o256_0_S128x128 Gen.slices_S12x1280_o2_896_S1x128 Gen.inb_S1536x1280_S128x128_256_896 _ rfl,
    (List.forall_mem_cons.2 ⟨piece_ok x3 x4 1 3 1 (by decide) (by decide) 128 896 rfl rfl _ (hblk_3 arg3 x3) _ (hscale arg4 x4) Gen.slices_S1536x128_o128_0_S128x128 Gen.slices_S12x1280_o1_896_S1x128 Gen.inb_S1536x1280_S128x128_128_896 _ rfl,
    okB_85 c arg3 arg4 x3 x4⟩)⟩)⟩)⟩)⟩)⟩)

theorem okB_96 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_96 (F := Ideal) c arg3 arg4 x3 x4, ∀ x, p.2 x = Wt x3 x4 (p.1.emb x) :=
  (List.forall_mem_cons.2 ⟨piece_ok x3 x4 11 3 1 (by decide) (by decide) 1408 896 rfl rfl _ (hblk_3 arg3 x3) _ (hscale arg4 x4) Gen.slices_S1536x128_o1408_0_S128x128 Gen.slices_S12x1280_o11_896_S1x128 Gen.inb_S1536x1280_S128x128_1408_896 _ rfl,
    (List.forall_mem_cons.2 ⟨piece_ok x3 x4 10 3 1 (by decide) (by decide) 1280 896 rfl rfl _ (hblk_3 arg3 x3) _ (hscale arg4 x4) Gen.slices_S1536x128_o1280_0_S128x128 Gen.slices_S12x1280_o10_896_S1x128 Gen.inb_S1536x1280_S128x128_1280_896 _ rfl,
    (List.forall_mem_cons.2 ⟨piece_ok x3 x4 9 3 1 (by decide) (by decide) 1152 896 rfl rfl _ (hblk_3 arg3 x3) _ (hscale arg4 x4) Gen.slices_S1536x128_o1152_0_S128x128 Gen.slices_S12x1280_o9_896_S1x128 Gen.inb_S1536x1280_S128x128_1152_896 _ rfl,
    (List.forall_mem_cons.2 ⟨piece_ok x3 x4 8 3 1 (by decide) (by decide) 1024 896 rfl rfl _ (hblk_3 arg3 x3) _ (hscale arg4 x4) Gen.slices_S1536x128_o1024_0_S128x128 Gen.slices_S12x1280_o8_896_S1x128 Gen.inb_S1536x1280_S128x128_1024_896 _ rfl,
    (List.forall_mem_cons.2 ⟨piece_ok x3 x4 7 3 1 (by decide) (by decide) 896 896 rfl rfl _ (hblk_3 arg3 x3) _ (hscale arg4 x4) Gen.slices_S1536x128_o896_0_S128x128 Gen.slices_S12x1280_o7_896_S1x128 Gen.inb_S1536x1280_S128x128_896_896 _ rfl,
    okB_91 c arg3 arg4 x3 x4⟩)⟩)⟩)⟩)⟩)

theorem okB_101 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_101 (F := Ideal) c arg3 arg4 x3 x4, ∀ x, p.2 x = Wt x3 x4 (p.1.emb x) :=
  (List.forall_mem_cons.2 ⟨piece_ok x3 x4 4 4 0 (by decide) (by decide) 512 1024 rfl rfl _ (hblk_4 arg3 x3) _ (hscale arg4 x4) Gen.slices_S1536x128_o512_0_S128x128 Gen.slices_S12x1280_o4_1024_S1x128 Gen.inb_S1536x1280_S128x128_512_1024 _ rfl,
    (List.forall_mem_cons.2 ⟨piece_ok x3 x4 3 4 0 (by decide) (by decide) 384 1024 rfl rfl _ (hblk_4 arg3 x3) _ (hscale arg4 x4) Gen.slices_S1536x128_o384_0_S128x128 Gen.slices_S12x1280_o3_1024_S1x128 Gen.inb_S1536x1280_S128x128_384_1024 _ rfl,
    (List.forall_mem_cons.2 ⟨piece_ok x3 x4 2 4 0 (by decide) (by decide) 256 1024 rfl rfl _ (hblk_4 arg3 x3) _ (hscale arg4 x4) Gen.slices_S1536x128_o256_0_S128x128 Gen.slices_S12x1280_o2_1024_S1x128 Gen.inb_S1536x1280_S128x128_256_1024 _ rfl,
    (List.forall_mem_cons.2 ⟨piece_ok x3 x4 1 4 0 (by decide) (by decide) 128 1024 rfl rfl _ (hblk_4 arg3 x3) _ (hscale arg4 x4) Gen.slices_S1536x128_o128_0_S128x128 Gen.slices_S12x1280_o1_1024_S1x128 Gen.inb_S1536x1280_S128x128_128_1024 _ rfl,
    (List.forall_mem_cons.2 ⟨piece_ok x3 x4 0 4 0 (by decide) (by decide) 0 1024 rfl rfl _ (hblk_4 arg3 x3) _ (hscale arg4 x4) Gen.slices_S1536x128_o0_0_S128x128 Gen.slices_S12x1280_o0_1024_S1x128 Gen.inb_S1536x1280_S128x128_0_1024 _ rfl,
    okB_96 c arg3 arg4 x3 x4⟩)⟩)⟩)⟩)⟩)

theorem okB_107 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_107 (F := Ideal) c arg3 arg4 x3 x4, ∀ x, p.2 x = Wt x3 x4 (p.1.emb x) :=
  (List.forall_mem_cons.2 ⟨piece_ok x3 x4 10 4 0 (by decide) (by decide) 1280 1024 rfl rfl _ (hblk_4 arg3 x3) _ (hscale arg4 x4) Gen.slices_S1536x128_o1280_0_S128x128 Gen.slices_S12x1280_o10_1024_S1x128 Gen.inb_S1536x1280_S128x128_1280_1024 _ rfl,
    (List.forall_mem_cons.2 ⟨piece_ok x3 x4 9 4 0 (by decide) (by decide) 1152 1024 rfl rfl _ (hblk_4 arg3 x3) _ (hscale arg4 x4) Gen.slices_S1536x128_o1152_0_S128x128 Gen.slices_S12x1280_o9_1024_S1x128 Gen.inb_S1536x1280_S128x128_1152_1024 _ rfl,
    (List.forall_mem_cons.2 ⟨piece_ok x3 x4 8 4 0 (by decide) (by decide) 1024 1024 rfl rfl _ (hblk_4 arg3 x3) _ (hscale arg4 x4) Gen.slices_S1536x128_o1024_0_S128x128 Gen.slices_S12x1280_o8_1024_S1x128 Gen.inb_S1536x1280_S128x128_1024_1024 _ rfl,
    (List.forall_mem_cons.2 ⟨piece_ok x3 x4 7 4 0 (by decide) (by decide) 896 1024 rfl rfl _ (hblk_4 arg3 x3) _ (hscale arg4 x4) Gen.slices_S1536x128_o896_0_S128x128 Gen.slices_S12x1280_o7_1024_S1x128 Gen.inb_S1536x1280_S128x128_896_1024 _ rfl,
    (List.forall_mem_cons.2 ⟨piece_ok x3 x4 6 4 0 (by decide) (by decide) 768 1024 rfl rfl _ (hblk_4 arg3 x3) _ (hscale arg4 x4) Gen.slices_S1536x128_o768_0_S128x128 Gen.slices_S12x1280_o6_1024_S1x128 Gen.inb_S1536x1280_S128x128_768_1024 _ rfl,
    (List.forall_mem_cons.2 ⟨piece_ok x3 x4 5 4 0 (by decide) (by decide) 640 1024 rfl rfl _ (hblk_4 arg3 x3) _ (hscale arg4 x4) Gen.slices_S1536x128_o640_0_S128x128 Gen.slices_S12x1280_o5_1024_S1x128 Gen.inb_S1536x1280_S128x128_640_1024 _ rfl,
    okB_101 c arg3 arg4 x3 x4⟩)⟩)⟩)⟩)⟩)⟩)

theorem okB_113 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_113 (F := Ideal) c arg3 arg4 x3 x4, ∀ x, p.2 x = Wt x3 x4 (p.1.emb x) :=
  (List.forall_mem_cons.2 ⟨piece_ok x3 x4 4 4 1 (by decide) (by decide) 512 1152 rfl rfl _ (hblk_4 arg3 x3) _ (hscale arg4 x4) Gen.slices_S1536x128_o512_0_S128x128 Gen.slices_S12x1280_o4_1152_S1x128 Gen.inb_S1536x1280_S128x128_512_1152 _ rfl,
    (List.forall_mem_cons.2 ⟨piece_ok x3 x4 3 4 1 (by decide) (by decide) 384 1152 rfl rfl _ (hblk_4 arg3 x3) _ (hscale arg4 x4) Gen.slices_S1536x128_o384_0_S128x128 Gen.slices_S12x1280_o3_1152_S1x128 Gen.inb_S1536x1280_S128x128_384_1152 _ rfl,
    (List.forall_mem_cons.2 ⟨piece_ok x3 x4 2 4 1 (by decide) (by decide) 256 1152 rfl rfl _ (hblk_4 arg3 x3) _ (hscale arg4 x4) Gen.slices_S1536x128_o256_0_S128x128 Gen.slices_S12x1280_o2_1152_S1x128 Gen.inb_S1536x1280_S128x128_256_1152 _ rfl,
    (List.forall_mem_cons.2 ⟨piece_ok x3 x4 1 4 1 (by decide) (by decide) 128 1152 rfl rfl _ (hblk_4 arg3 x3) _ (hscale arg4 x4) Gen.slices_S1536x128_o128_0_S128x128 Gen.slices_S12x1280_o1_1152_S1x128 Gen.inb_S1536x1280_S128x128_128_1152 _ rfl,
    (List.forall_mem_cons.2 ⟨piece_ok x3 x4 0 4 1 (by decide) (by decide) 0 1152 rfl rfl _ (hblk_4 arg3 x3) _ (hscale arg4 x4) Gen.slices_S1536x128_o0_0_S128x128 Gen.slices_S12x1280_o0_1152_S1x128 Gen.inb_S1536x1280_S128x128_0_1152 _ rfl,
    (List.forall_mem_cons.2 ⟨piece_ok x3 x4 11 4 0 (by decide) (by decide) 1408 1024 rfl rfl _ (hblk_4 arg3 x3) _ (hscale arg4 x4) Gen.slices_S1536x128_o1408_0_S128x128 Gen.slices_S12x1280_o11_1024_S1x128 Gen.inb_S1536x1280_S128x128_1408_1024 _ rfl,
    okB_107 c arg3 arg4 x3 x4⟩)⟩)⟩)⟩)⟩)⟩)

theorem okB_119 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_119 (F := Ideal) c arg3 arg4 x3 x4, ∀ x, p.2 x = Wt x3 x4 (p.1.emb x) :=
  (List.forall_mem_cons.2 ⟨piece_ok x3 x4 10 4 1 (by decide) (by decide) 1280 1152 rfl rfl _ (hblk_4 arg3 x3) _ (hscale arg4 x4) Gen.slices_S1536x128_o1280_0_S128x128 Gen.slices_S12x1280_o10_1152_S1x128 Gen.inb_S1536x1280_S128x128_1280_1152 _ rfl,
    (List.forall_mem_cons.2 ⟨piece_ok x3 x4 9 4 1 (by decide) (by decide) 1152 1152 rfl rfl _ (hblk_4 arg3 x3) _ (hscale arg4 x4) Gen.slices_S1536x128_o1152_0_S128x128 Gen.slices_S12x1280_o9_1152_S1x128 Gen.inb_S1536x1280_S128x128_1152_1152 _ rfl,
    (List.forall_mem_cons.2 ⟨piece_ok x3 x4 8 4 1 (by decide) (by decide) 1024 1152 rfl rfl _ (hblk_4 arg3 x3) _ (hscale arg4 x4) Gen.slices_S1536x128_o1024_0_S128x128 Gen.slices_S12x1280_o8_1152_S1x128 Gen.inb_S1536x1280_S128x128_1024_1152 _ rfl,
    (List.forall_mem_cons.2 ⟨piece_ok x3 x4 7 4 1 (by decide) (by decide) 896 1152 rfl rfl _ (hblk_4 arg3 x3) _ (hscale arg4 x4) Gen.slices_S1536x128_o896_0_S128x128 Gen.slices_S12x1280_o7_1152_S1x128 Gen.inb_S1536x1280_S128x128_896_1152 _ rfl,
    (List.forall_mem_cons.2 ⟨piece_ok x3 x4 6 4 1 (by decide) (by decide) 768 1152 rfl rfl _ (hblk_4 arg3 x3) _ (hscale arg4 x4) Gen.slices_S1536x128_o768_0_S128x128 Gen.slices_S12x1280_o6_1152_S1x128 Gen.inb_S1536x1280_S128x128_768_1152 _ rfl,
    (List.forall_mem_cons.2 ⟨piece_ok x3 x4 5 4 1 (by decide) (by decide) 640 1152 rfl rfl _ (hblk_4 arg3 x3) _ (hscale arg4 x4) Gen.slices_S1536x128_o640_0_S128x128 Gen.slices_S12x1280_o5_1152_S1x128 Gen.inb_S1536x1280_S128x128_640_1152 _ rfl,
    okB_113 c arg3 arg4 x3 x4⟩)⟩)⟩)⟩)⟩)⟩)

theorem okB_120 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runB.sl.HW_120 (F := Ideal) c arg3 arg4 x3 x4, ∀ x, p.2 x = Wt x3 x4 (p.1.emb x) :=
  (List.forall_mem_cons.2 ⟨piece_ok x3 x4 11 4 1 (by decide) (by decide) 1408 1152 rfl rfl _ (hblk_4 arg3 x3) _ (hscale arg4 x4) Gen.slices_S1536x128_o1408_0_S128x128 Gen.slices_S12x1280_o11_1152_S1x128 Gen.inb_S1536x1280_S128x128_1408_1152 _ rfl,
    okB_119 c arg3 arg4 x3 x4⟩)

end Cert.Spec
end
-- ==== Proof.KIWeightList.lean ====
/-
  The table of weights: what each of the kernel's stores of a block of decoded and scaled weights leaves there.
-/
module

public import proofs.«01_k».proof.Proof.Math
public import proofs.«01_k».proof.Proof.Dec
public import proofs.«01_k».proof.Proof.KIPoints
public import proofs.«01_k».proof.Proof.KIWeights
public import Idealize.ShloMosaic.Lib.Pipeline.FrameBody
public import Idealize.ShloMosaic.Lib.VecWindow
public import Idealize.ShloMosaic.Lib.Pipeline.ValueKit.Geometry

@[expose] public section

set_option maxRecDepth 16384

noncomputable section

namespace Cert.Spec
open Idealize.ShloMosaic Idealize.SL.Sem
open Cert.KernelIdeal Cert.KernelIdeal.Hand
theorem okA_120 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runA.sl.HW_120 (F := Ideal) c arg3 arg4 x3 x4, ∀ x, p.2 x = Wt x3 x4 (p.1.emb x) := okB_120 c arg3 arg4 x3 x4
theorem okC_120 (c : Dev nD) (arg3 : Memref sig .tc .vmem S1536x640 .i8) (arg4 : Memref sig .tc .vmem S12x1280 .f32)
    (x3 : Vec Ideal S1536x640 .i8) (x4 : Vec Ideal S12x1280 .f32) :
    ∀ p ∈ runC.sl.HW_120 (F := Ideal) c arg3 arg4 x3 x4, ∀ x, p.2 x = Wt x3 x4 (p.1.emb x) := okB_120 c arg3 arg4 x3 x4
theorem coverWA (c : Dev nD) (arg3 : Memref sig .tc .vmem S1536x640 .i8) (arg4 : Memref sig .tc .vmem S12x1280 .f32)
    (x3 : Vec Ideal S1536x640 .i8) (x4 : Vec Ideal S12x1280 .f32) (y : S1536x1280.Idx) :
    ∃ p ∈ runA.sl.HW_120 (F := Ideal) c arg3 arg4 x3 x4, y ∈ p.1.set :=
  View.cover_of_tiledL (runA.sl.HW_120 (F := Ideal) c arg3 arg4 x3 x4) S128x128.size (by sl_kernel_rfl) y
theorem coverWB (c : Dev nD) (arg3 : Memref sig .tc .vmem S1536x640 .i8) (arg4 : Memref sig .tc .vmem S12x1280 .f32)
    (x3 : Vec Ideal S1536x640 .i8) (x4 : Vec Ideal S12x1280 .f32) (y : S1536x1280.Idx) :
    ∃ p ∈ runB.sl.HW_120 (F := Ideal) c arg3 arg4 x3 x4, y ∈ p.1.set :=
  View.cover_of_tiledL (runB.sl.HW_120 (F := Ideal) c arg3 arg4 x3 x4) S128x128.size (by sl_kernel_rfl) y
theorem coverWC (c : Dev nD) (arg3 : Memref sig .tc .vmem S1536x640 .i8) (arg4 : Memref sig .tc .vmem S12x1280 .f32)
    (x3 : Vec Ideal S1536x640 .i8) (x4 : Vec Ideal S12x1280 .f32) (y : S1536x1280.Idx) :
    ∃ p ∈ runC.sl.HW_120 (F := Ideal) c arg3 arg4 x3 x4, y ∈ p.1.set :=
  View.cover_of_tiledL (runC.sl.HW_120 (F := Ideal) c arg3 arg4 x3 x4) S128x128.size (by sl_kernel_rfl) y
end Cert.Spec
end
-- ==== Proof.KIProd.lean ====
/-
  The two products, block by block: what each store of a block of a product leaves there.
-/
module

public import proofs.«01_k».proof.Proof.KIPoints
public import proofs.«01_k».proof.Proof.Math
public import proofs.«01_k».proof.Proof.KIPiece

@[expose] public section

set_option maxRecDepth 16384

noncomputable section

namespace Cert.Spec

open Idealize.ShloMosaic Idealize.SL.Sem
open Cert.KernelIdeal Cert.KernelIdeal.Hand

/-- The product with the data's rows, each scaled by its row's scale. -/
def P5 (xd : Vec Ideal S1920x1536 .bf16) (x8 : Vec Ideal S5x384 .f32) (W : S1536x1280.Idx → EReal) (y : S1920x1280.Idx) : EReal :=
  (∑ k : Fin 1536, (xd (ix2 (y 0) k) : EReal) * W (ix2 k (y 1)))
    * x8 (ix2 ⟨(y 0).val / 384, by have := (y 0).isLt; simp at this; omega⟩ ⟨(y 0).val % 384, Nat.mod_lt _ (by norm_num)⟩)

/-- The product with the other rows. -/
def P6 (xv : Vec Ideal S1920x1536 .bf16) (W : S1536x1280.Idx → EReal) (y : S1920x1280.Idx) : EReal :=
  ∑ k : Fin 1536, (xv (ix2 (y 0) k) : EReal) * W (ix2 k (y 1))

theorem pay244_apply (w : Vec Ideal S1536x256 .bf16) (x : Vec Ideal S1920x1536 .bf16) (i : Fin 1920) (j : Fin 256) :
    Gen.k0_pay244 (F := Ideal) w x (ix2 i j) = ∑ k : Fin 1536, (x (ix2 i k) : EReal) * w (ix2 k j) := by
  unfold Gen.k0_pay244
  pointwise [dot_S1920x1536_S1536x256_S1920x256_1_0_0_1_n_n]

theorem pay245_apply (w : Vec Ideal S1536x256 .bf16) (x : Vec Ideal S384x1536 .bf16) (s : Vec Ideal S1x384 .f32) (i : Fin 384) (j : Fin 256) :
    Gen.k0_pay245 (F := Ideal) w x s (ix2 i j) = (∑ k : Fin 1536, (x (ix2 i k) : EReal) * w (ix2 k j)) * s (ix2 0 i) := by
  unfold Gen.k0_pay245
  pointwise [dot_S384x1536_S1536x256_S384x256_1_0_0_1_n_n]

theorem draft_ok (xd : Vec Ideal S1920x1536 .bf16) (x8 : Vec Ideal S5x384 .f32) (W : S1536x1280.Idx → EReal) (b q : ℕ) (hb : b < 5) (hq : q < 5)
    (a o : ℕ) (ha : a = 384 * b) (ho : o = 256 * q) (w : Vec Ideal S1536x256 .bf16)
    (hw : ∀ (r : Fin 1536) (j : Fin 256), w (ix2 r j) = W (ix2 r ⟨256 * q + j.val, by omega⟩)) (x : Vec Ideal S384x1536 .bf16)
    (hx : ∀ (i : Fin 384) (k : Fin 1536), x (ix2 i k) = xd (ix2 ⟨384 * b + i.val, by omega⟩ k)) (s : Vec Ideal S1x384 .f32)
    (hs : ∀ i : Fin 384, s (ix2 0 i) = x8 (ix2 ⟨b, hb⟩ i)) (inb : ∀ c, (![a, o] : Fin 2 → ℕ) c + S384x256.size c ≤ S1920x1280.size c)
    (pay : FVec Ideal S384x256 .bf16) (hp : pay = Gen.k0_pay245 w x s) :
    ∀ z : S384x256.Idx, pay z = P5 xd x8 W ((Rect.unit (s := S1920x1280) ![a, o] S384x256.size inb).emb z) := by
  subst hp ha ho
  intro z
  obtain ⟨i, j, rfl⟩ := ix2_eta z
  rw [pay245_apply, hs]
  refine Eq.trans ?_ (congrArg (P5 xd x8 W) (emb2 (n := 1920) (k := 1280) (p := 384) (q := 256) (384 * b) (256 * q) inb i j (by omega) (by omega)).symm)
  unfold P5
  congr 1
  · exact Finset.sum_congr rfl fun k _ => by rw [hx, hw]; rfl
  · exact congrArg x8 (congrArg₂ ix2 (Fin.ext (by show b = (384 * b + i.val) / 384; omega)) (Fin.ext (by show i.val = (384 * b + i.val) % 384; omega)))

theorem other_ok (xv : Vec Ideal S1920x1536 .bf16) (W : S1536x1280.Idx → EReal) (q : ℕ) (hq : q < 5)
    (o : ℕ) (ho : o = 256 * q) (w : Vec Ideal S1536x256 .bf16)
    (hw : ∀ (r : Fin 1536) (j : Fin 256), w (ix2 r j) = W (ix2 r ⟨256 * q + j.val, by omega⟩)) (x : Vec Ideal S1920x1536 .bf16)
    (hx : ∀ (i : Fin 1920) (k : Fin 1536), x (ix2 i k) = xv (ix2 i k)) (inb : ∀ c, (![0, o] : Fin 2 → ℕ) c + S1920x256.size c ≤ S1920x1280.size c)
    (pay : FVec Ideal S1920x256 .bf16) (hp : pay = Gen.k0_pay244 w x) :
    ∀ z : S1920x256.Idx, pay z = P6 xv W ((Rect.unit (s := S1920x1280) ![0, o] S1920x256.size inb).emb z) := by
  subst hp ho
  intro z
  obtain ⟨i, j, rfl⟩ := ix2_eta z
  rw [pay244_apply]
  refine Eq.trans ?_ (congrArg (P6 xv W) (emb2 (n := 1920) (k := 1280) (p := 1920) (q := 256) 0 (256 * q) inb i j (by omega) (by omega)).symm)
  unfold P6
  exact Finset.sum_congr rfl fun k _ => by rw [hx, hw]; exact congrArg₂ (fun u v : EReal => u * v) (congrArg xv (congrArg₂ ix2 (Fin.ext (Nat.zero_add _).symm) rfl)) rfl

/-- A load of what stores covering a buffer left, at an index. -/
theorem readCov2 {n k p q : ℕ} {e : EltTy} {sp : Space} (v : View sig .tc sp ⟨2, ![n, k]⟩ e) (L : List (View.Piece (Elt Ideal) ⟨2, ![n, k]⟩ e))
    (h : ∀ y, ∃ p ∈ L, y ∈ p.1.set) (a b : ℕ) (inb : ∀ c, (![a, b] : Fin 2 → ℕ) c + (![p, q] : Fin 2 → ℕ) c ≤ (![n, k] : Fin 2 → ℕ) c)
    (i : Fin p) (j : Fin q) (ha : a + i.val < n) (hb : b + j.val < k) :
    v.readCov L (Rect.unit (s := ⟨2, ![n, k]⟩) ![a, b] ![p, q] inb).toLoadRect (ix2 i j) = View.canon L (ix2 ⟨a + i.val, ha⟩ ⟨b + j.val, hb⟩) := by
  rw [View.readCov_eq_canon_ld v L _ h]
  exact congrArg (View.canon L) (emb2 a b inb i j ha hb)

/-- A load of a buffer at known contents, at an index. -/
theorem readAt2 {n k p q : ℕ} {e : EltTy} {sp : Space} (v : View sig .tc sp ⟨2, ![n, k]⟩ e) (x : Vec Ideal ⟨2, ![n, k]⟩ e)
    (a b : ℕ) (inb : ∀ c, (![a, b] : Fin 2 → ℕ) c + (![p, q] : Fin 2 → ℕ) c ≤ (![n, k] : Fin 2 → ℕ) c)
    (i : Fin p) (j : Fin q) (ha : a + i.val < n) (hb : b + j.val < k) :
    v.readAt (Elt Ideal) (Rect.unit (s := ⟨2, ![n, k]⟩) ![a, b] ![p, q] inb).toLoadRect (v.rep x) (ix2 i j) = x (ix2 ⟨a + i.val, ha⟩ ⟨b + j.val, hb⟩) := by
  rw [View.readAt_rep]
  exact congrArg x (emb2 a b inb i j ha hb)

end Cert.Spec
end
-- ==== Proof.KIBlocks.lean ====
/-
  The blocks of the two products at each kind of grid point: every store leaves the products' values at its place.
-/
module

public import proofs.«01_k».proof.Proof.KIPoints
public import proofs.«01_k».proof.Proof.KIWeightList
public import proofs.«01_k».proof.Proof.KIProd

@[expose] public section

set_option maxRecDepth 16384

noncomputable section

namespace Cert.Spec

open Idealize.ShloMosaic Idealize.SL.Sem
open Cert.KernelIdeal Cert.KernelIdeal.Hand

/-- A load of columns of the table of weights reads the weights. -/
theorem hw_of (W : S1536x1280.Idx → EReal) (L : List (View.Piece (Elt Ideal) S1536x1280 .bf16)) (hL : ∀ p ∈ L, ∀ x, p.2 x = W (p.1.emb x))
    (hc : ∀ y, ∃ p ∈ L, y ∈ p.1.set) (o : ℕ) (inb : ∀ a, (![0, o] : Fin 2 → ℕ) a + S1536x256.size a ≤ S1536x1280.size a)
    (r : Fin 1536) (j : Fin 256) (ho : o + j.val < 1280) :
    scW.view.readCov L (Rect.unit (s := S1536x1280) ![0, o] S1536x256.size inb).toLoadRect (ix2 r j) = W (ix2 r ⟨o + j.val, ho⟩) := by
  refine (readCov2 (n := 1536) (k := 1280) (p := 1536) (q := 256) scW.view L hc 0 o inb r j (by omega) ho).trans ?_
  rw [View.canon_apply_of_pieces W L hL _ (hc _)]
  exact congrArg W (congrArg₂ ix2 (Fin.ext (Nat.zero_add _)) rfl)

/-- A load of rows of the data's activations at known contents. -/
theorem hx_rep (xd : Vec Ideal S1920x1536 .bf16) (a : ℕ) (inb : ∀ c, (![a, 0] : Fin 2 → ℕ) c + S384x1536.size c ≤ S1920x1536.size c)
    (i : Fin 384) (k : Fin 1536) (ha : a + i.val < 1920) :
    scD.view.readAt (Elt Ideal) (Rect.unit (s := S1920x1536) ![a, 0] S384x1536.size inb).toLoadRect ((View.whole cc0_scratch1).rep xd) (ix2 i k)
      = xd (ix2 ⟨a + i.val, ha⟩ k) :=
  (readAt2 (n := 1920) (k := 1536) (p := 384) (q := 1536) scD.view xd a 0 inb i k ha (by omega)).trans
    (congrArg xd (congrArg₂ ix2 rfl (Fin.ext (Nat.zero_add _))))

/-- The same after stores that cover it. -/
theorem hx_cov (L : List (View.Piece (Elt Ideal) S1920x1536 .bf16)) (hc : ∀ y, ∃ p ∈ L, y ∈ p.1.set) (a : ℕ)
    (inb : ∀ c, (![a, 0] : Fin 2 → ℕ) c + S384x1536.size c ≤ S1920x1536.size c) (i : Fin 384) (k : Fin 1536) (ha : a + i.val < 1920) :
    scD.view.readCov L (Rect.unit (s := S1920x1536) ![a, 0] S384x1536.size inb).toLoadRect (ix2 i k) = View.canon L (ix2 ⟨a + i.val, ha⟩ k) :=
  (readCov2 (n := 1920) (k := 1536) (p := 384) (q := 1536) scD.view L hc a 0 inb i k ha (by omega)).trans
    (congrArg (View.canon L) (congrArg₂ ix2 rfl (Fin.ext (Nat.zero_add _))))

/-- A load of a row of the scales at known contents. -/
theorem hs_rep (arg8 : Memref sig .tc .vmem S5x384 .f32) (x8 : Vec Ideal S5x384 .f32) (b : ℕ)
    (inb : ∀ c, (![b, 0] : Fin 2 → ℕ) c + S1x384.size c ≤ S5x384.size c) (i : Fin 384) (hb : b < 5) :
    arg8.view.readAt (Elt Ideal) (Rect.unit (s := S5x384) ![b, 0] S1x384.size inb).toLoadRect (arg8.view.rep x8) (ix2 0 i) = x8 (ix2 ⟨b, hb⟩ i) :=
  (readAt2 (n := 5) (k := 384) (p := 1) (q := 384) arg8.view x8 b 0 inb 0 i (by omega) (by omega)).trans
    (congrArg x8 (congrArg₂ ix2 rfl (Fin.ext (Nat.zero_add _))))

/-- The same after stores that cover it. -/
theorem hs_cov (arg8 : Memref sig .tc .vmem S5x384 .f32) (L : List (View.Piece (Elt Ideal) S5x384 .f32)) (hc : ∀ y, ∃ p ∈ L, y ∈ p.1.set) (b : ℕ)
    (inb : ∀ c, (![b, 0] : Fin 2 → ℕ) c + S1x384.size c ≤ S5x384.size c) (i : Fin 384) (hb : b < 5) :
    arg8.view.readCov L (Rect.unit (s := S5x384) ![b, 0] S1x384.size inb).toLoadRect (ix2 0 i) = View.canon L (ix2 ⟨b, hb⟩ i) :=
  (readCov2 (n := 5) (k := 384) (p := 1) (q := 384) arg8.view L hc b 0 inb 0 i (by omega) (by omega)).trans
    (congrArg (View.canon L) (congrArg₂ ix2 rfl (Fin.ext (Nat.zero_add _))))

/-- A load of all the other activations, at known contents and after stores that cover them. -/
theorem hv_rep (xv : Vec Ideal S1920x1536 .bf16) (inb : ∀ c, (![0, 0] : Fin 2 → ℕ) c + S1920x1536.size c ≤ S1920x1536.size c)
    (i : Fin 1920) (k : Fin 1536) :
    scV.view.readAt (Elt Ideal) (Rect.unit (s := S1920x1536) ![0, 0] S1920x1536.size inb).toLoadRect ((View.whole cc0_scratch2).rep xv) (ix2 i k)
      = xv (ix2 i k) :=
  (readAt2 (n := 1920) (k := 1536) (p := 1920) (q := 1536) scV.view xv 0 0 inb i k (by omega) (by omega)).trans
    (congrArg xv (congrArg₂ ix2 (Fin.ext (Nat.zero_add _)) (Fin.ext (Nat.zero_add _))))

theorem hv_cov (L : List (View.Piece (Elt Ideal) S1920x1536 .bf16)) (hc : ∀ y, ∃ p ∈ L, y ∈ p.1.set)
    (inb : ∀ c, (![0, 0] : Fin 2 → ℕ) c + S1920x1536.size c ≤ S1920x1536.size c) (i : Fin 1920) (k : Fin 1536) :
    scV.view.readCov L (Rect.unit (s := S1920x1536) ![0, 0] S1920x1536.size inb).toLoadRect (ix2 i k) = View.canon L (ix2 i k) :=
  (readCov2 (n := 1920) (k := 1536) (p := 1920) (q := 1536) scV.view L hc 0 0 inb i k (by omega) (by omega)).trans
    (congrArg (View.canon L) (congrArg₂ ix2 (Fin.ext (Nat.zero_add _)) (Fin.ext (Nat.zero_add _))))

theorem hwA_0 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runA.sl.HW_120 (F := Ideal) c arg3 arg4 x3 x4) (Rect.unit (s := S1536x1280) ![0, 0] S1536x256.size Gen.inb_S1536x1280_S1536x256_0_0).toLoadRect (ix2 r j)
      = Wt x3 x4 (ix2 r ⟨256 * 0 + j.val, by omega⟩) :=
  hw_of _ _ (okA_120 c arg3 arg4 x3 x4) (coverWA c arg3 arg4 x3 x4) 0 _ r j (by omega)
theorem hwA_1 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runA.sl.HW_120 (F := Ideal) c arg3 arg4 x3 x4) (Rect.unit (s := S1536x1280) ![0, 256] S1536x256.size Gen.inb_S1536x1280_S1536x256_0_256).toLoadRect (ix2 r j)
      = Wt x3 x4 (ix2 r ⟨256 * 1 + j.val, by omega⟩) :=
  hw_of _ _ (okA_120 c arg3 arg4 x3 x4) (coverWA c arg3 arg4 x3 x4) 256 _ r j (by omega)
theorem hwA_2 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runA.sl.HW_120 (F := Ideal) c arg3 arg4 x3 x4) (Rect.unit (s := S1536x1280) ![0, 512] S1536x256.size Gen.inb_S1536x1280_S1536x256_0_512).toLoadRect (ix2 r j)
      = Wt x3 x4 (ix2 r ⟨256 * 2 + j.val, by omega⟩) :=
  hw_of _ _ (okA_120 c arg3 arg4 x3 x4) (coverWA c arg3 arg4 x3 x4) 512 _ r j (by omega)
theorem hwA_3 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runA.sl.HW_120 (F := Ideal) c arg3 arg4 x3 x4) (Rect.unit (s := S1536x1280) ![0, 768] S1536x256.size Gen.inb_S1536x1280_S1536x256_0_768).toLoadRect (ix2 r j)
      = Wt x3 x4 (ix2 r ⟨256 * 3 + j.val, by omega⟩) :=
  hw_of _ _ (okA_120 c arg3 arg4 x3 x4) (coverWA c arg3 arg4 x3 x4) 768 _ r j (by omega)
theorem hwA_4 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runA.sl.HW_120 (F := Ideal) c arg3 arg4 x3 x4) (Rect.unit (s := S1536x1280) ![0, 1024] S1536x256.size Gen.inb_S1536x1280_S1536x256_0_1024).toLoadRect (ix2 r j)
      = Wt x3 x4 (ix2 r ⟨256 * 4 + j.val, by omega⟩) :=
  hw_of _ _ (okA_120 c arg3 arg4 x3 x4) (coverWA c arg3 arg4 x3 x4) 1024 _ r j (by omega)
theorem dA_2 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32)
    (fA : HbBuf0 (F := Ideal) c hbA) (fB : HbBuf0 (F := Ideal) c hbB) (fX : scX.view.ty.Contents (Elt Ideal)) :
    ∀ p ∈ runA.sl.H5_2 (F := Ideal) c arg3 arg4 arg8 x3 x4 fA fB fX, ∀ x, p.2 x = P5 (View.canon (runA.sl.HD_5 (F := Ideal) c fA fB fX)) (View.canon (runA.sl.H8_5 (F := Ideal) c fA fB fX)) (Wt x3 x4) (p.1.emb x) :=
  (List.forall_mem_cons.2 ⟨draft_ok (View.canon (runA.sl.HD_5 (F := Ideal) c fA fB fX)) (View.canon (runA.sl.H8_5 (F := Ideal) c fA fB fX)) (Wt x3 x4) 1 0 (by decide) (by decide) 384 0 rfl rfl _ (hwA_0 c arg3 arg4 x3 x4) _ (fun i k => hx_cov (runA.sl.HD_5 (F := Ideal) c fA fB fX) (cover_HD c fA fB fX) 384 Gen.inb_S1920x1536_S384x1536_384_0 i k (by omega)) _ (fun i => hs_cov arg8 (runA.sl.H8_5 (F := Ideal) c fA fB fX) (cover_H8 c fA fB fX) 1 Gen.inb_S5x384_S1x384_1_0 i (by decide)) Gen.inb_S1920x1280_S384x256_384_0 _ rfl,
    (List.forall_mem_cons.2 ⟨draft_ok (View.canon (runA.sl.HD_5 (F := Ideal) c fA fB fX)) (View.canon (runA.sl.H8_5 (F := Ideal) c fA fB fX)) (Wt x3 x4) 0 0 (by decide) (by decide) 0 0 rfl rfl _ (hwA_0 c arg3 arg4 x3 x4) _ (fun i k => hx_cov (runA.sl.HD_5 (F := Ideal) c fA fB fX) (cover_HD c fA fB fX) 0 Gen.inb_S1920x1536_S384x1536_0_0 i k (by omega)) _ (fun i => hs_cov arg8 (runA.sl.H8_5 (F := Ideal) c fA fB fX) (cover_H8 c fA fB fX) 0 Gen.inb_S5x384_S1x384_0_0 i (by decide)) Gen.inb_S1920x1280_S384x256_0_0 _ rfl,
    fun p hp => absurd hp List.not_mem_nil⟩)⟩)
theorem dA_5 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32)
    (fA : HbBuf0 (F := Ideal) c hbA) (fB : HbBuf0 (F := Ideal) c hbB) (fX : scX.view.ty.Contents (Elt Ideal)) :
    ∀ p ∈ runA.sl.H5_5 (F := Ideal) c arg3 arg4 arg8 x3 x4 fA fB fX, ∀ x, p.2 x = P5 (View.canon (runA.sl.HD_5 (F := Ideal) c fA fB fX)) (View.canon (runA.sl.H8_5 (F := Ideal) c fA fB fX)) (Wt x3 x4) (p.1.emb x) :=
  (List.forall_mem_cons.2 ⟨draft_ok (View.canon (runA.sl.HD_5 (F := Ideal) c fA fB fX)) (View.canon (runA.sl.H8_5 (F := Ideal) c fA fB fX)) (Wt x3 x4) 4 0 (by decide) (by decide) 1536 0 rfl rfl _ (hwA_0 c arg3 arg4 x3 x4) _ (fun i k => hx_cov (runA.sl.HD_5 (F := Ideal) c fA fB fX) (cover_HD c fA fB fX) 1536 Gen.inb_S1920x1536_S384x1536_1536_0 i k (by omega)) _ (fun i => hs_cov arg8 (runA.sl.H8_5 (F := Ideal) c fA fB fX) (cover_H8 c fA fB fX) 4 Gen.inb_S5x384_S1x384_4_0 i (by decide)) Gen.inb_S1920x1280_S384x256_1536_0 _ rfl,
    (List.forall_mem_cons.2 ⟨draft_ok (View.canon (runA.sl.HD_5 (F := Ideal) c fA fB fX)) (View.canon (runA.sl.H8_5 (F := Ideal) c fA fB fX)) (Wt x3 x4) 3 0 (by decide) (by decide) 1152 0 rfl rfl _ (hwA_0 c arg3 arg4 x3 x4) _ (fun i k => hx_cov (runA.sl.HD_5 (F := Ideal) c fA fB fX) (cover_HD c fA fB fX) 1152 Gen.inb_S1920x1536_S384x1536_1152_0 i k (by omega)) _ (fun i => hs_cov arg8 (runA.sl.H8_5 (F := Ideal) c fA fB fX) (cover_H8 c fA fB fX) 3 Gen.inb_S5x384_S1x384_3_0 i (by decide)) Gen.inb_S1920x1280_S384x256_1152_0 _ rfl,
    (List.forall_mem_cons.2 ⟨draft_ok (View.canon (runA.sl.HD_5 (F := Ideal) c fA fB fX)) (View.canon (runA.sl.H8_5 (F := Ideal) c fA fB fX)) (Wt x3 x4) 2 0 (by decide) (by decide) 768 0 rfl rfl _ (hwA_0 c arg3 arg4 x3 x4) _ (fun i k => hx_cov (runA.sl.HD_5 (F := Ideal) c fA fB fX) (cover_HD c fA fB fX) 768 Gen.inb_S1920x1536_S384x1536_768_0 i k (by omega)) _ (fun i => hs_cov arg8 (runA.sl.H8_5 (F := Ideal) c fA fB fX) (cover_H8 c fA fB fX) 2 Gen.inb_S5x384_S1x384_2_0 i (by decide)) Gen.inb_S1920x1280_S384x256_768_0 _ rfl,
    dA_2 c arg3 arg4 arg8 x3 x4 fA fB fX⟩)⟩)⟩)
theorem dA_8 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32)
    (fA : HbBuf0 (F := Ideal) c hbA) (fB : HbBuf0 (F := Ideal) c hbB) (fX : scX.view.ty.Contents (Elt Ideal)) :
    ∀ p ∈ runA.sl.H5_8 (F := Ideal) c arg3 arg4 arg8 x3 x4 fA fB fX, ∀ x, p.2 x = P5 (View.canon (runA.sl.HD_5 (F := Ideal) c fA fB fX)) (View.canon (runA.sl.H8_5 (F := Ideal) c fA fB fX)) (Wt x3 x4) (p.1.emb x) :=
  (List.forall_mem_cons.2 ⟨draft_ok (View.canon (runA.sl.HD_5 (F := Ideal) c fA fB fX)) (View.canon (runA.sl.H8_5 (F := Ideal) c fA fB fX)) (Wt x3 x4) 2 1 (by decide) (by decide) 768 256 rfl rfl _ (hwA_1 c arg3 arg4 x3 x4) _ (fun i k => hx_cov (runA.sl.HD_5 (F := Ideal) c fA fB fX) (cover_HD c fA fB fX) 768 Gen.inb_S1920x1536_S384x1536_768_0 i k (by omega)) _ (fun i => hs_cov arg8 (runA.sl.H8_5 (F := Ideal) c fA fB fX) (cover_H8 c fA fB fX) 2 Gen.inb_S5x384_S1x384_2_0 i (by decide)) Gen.inb_S1920x1280_S384x256_768_256 _ rfl,
    (List.forall_mem_cons.2 ⟨draft_ok (View.canon (runA.sl.HD_5 (F := Ideal) c fA fB fX)) (View.canon (runA.sl.H8_5 (F := Ideal) c fA fB fX)) (Wt x3 x4) 1 1 (by decide) (by decide) 384 256 rfl rfl _ (hwA_1 c arg3 arg4 x3 x4) _ (fun i k => hx_cov (runA.sl.HD_5 (F := Ideal) c fA fB fX) (cover_HD c fA fB fX) 384 Gen.inb_S1920x1536_S384x1536_384_0 i k (by omega)) _ (fun i => hs_cov arg8 (runA.sl.H8_5 (F := Ideal) c fA fB fX) (cover_H8 c fA fB fX) 1 Gen.inb_S5x384_S1x384_1_0 i (by decide)) Gen.inb_S1920x1280_S384x256_384_256 _ rfl,
    (List.forall_mem_cons.2 ⟨draft_ok (View.canon (runA.sl.HD_5 (F := Ideal) c fA fB fX)) (View.canon (runA.sl.H8_5 (F := Ideal) c fA fB fX)) (Wt x3 x4) 0 1 (by decide) (by decide) 0 256 rfl rfl _ (hwA_1 c arg3 arg4 x3 x4) _ (fun i k => hx_cov (runA.sl.HD_5 (F := Ideal) c fA fB fX) (cover_HD c fA fB fX) 0 Gen.inb_S1920x1536_S384x1536_0_0 i k (by omega)) _ (fun i => hs_cov arg8 (runA.sl.H8_5 (F := Ideal) c fA fB fX) (cover_H8 c fA fB fX) 0 Gen.inb_S5x384_S1x384_0_0 i (by decide)) Gen.inb_S1920x1280_S384x256_0_256 _ rfl,
    dA_5 c arg3 arg4 arg8 x3 x4 fA fB fX⟩)⟩)⟩)
theorem dA_11 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32)
    (fA : HbBuf0 (F := Ideal) c hbA) (fB : HbBuf0 (F := Ideal) c hbB) (fX : scX.view.ty.Contents (Elt Ideal)) :
    ∀ p ∈ runA.sl.H5_11 (F := Ideal) c arg3 arg4 arg8 x3 x4 fA fB fX, ∀ x, p.2 x = P5 (View.canon (runA.sl.HD_5 (F := Ideal) c fA fB fX)) (View.canon (runA.sl.H8_5 (F := Ideal) c fA fB fX)) (Wt x3 x4) (p.1.emb x) :=
  (List.forall_mem_cons.2 ⟨draft_ok (View.canon (runA.sl.HD_5 (F := Ideal) c fA fB fX)) (View.canon (runA.sl.H8_5 (F := Ideal) c fA fB fX)) (Wt x3 x4) 0 2 (by decide) (by decide) 0 512 rfl rfl _ (hwA_2 c arg3 arg4 x3 x4) _ (fun i k => hx_cov (runA.sl.HD_5 (F := Ideal) c fA fB fX) (cover_HD c fA fB fX) 0 Gen.inb_S1920x1536_S384x1536_0_0 i k (by omega)) _ (fun i => hs_cov arg8 (runA.sl.H8_5 (F := Ideal) c fA fB fX) (cover_H8 c fA fB fX) 0 Gen.inb_S5x384_S1x384_0_0 i (by decide)) Gen.inb_S1920x1280_S384x256_0_512 _ rfl,
    (List.forall_mem_cons.2 ⟨draft_ok (View.canon (runA.sl.HD_5 (F := Ideal) c fA fB fX)) (View.canon (runA.sl.H8_5 (F := Ideal) c fA fB fX)) (Wt x3 x4) 4 1 (by decide) (by decide) 1536 256 rfl rfl _ (hwA_1 c arg3 arg4 x3 x4) _ (fun i k => hx_cov (runA.sl.HD_5 (F := Ideal) c fA fB fX) (cover_HD c fA fB fX) 1536 Gen.inb_S1920x1536_S384x1536_1536_0 i k (by omega)) _ (fun i => hs_cov arg8 (runA.sl.H8_5 (F := Ideal) c fA fB fX) (cover_H8 c fA fB fX) 4 Gen.inb_S5x384_S1x384_4_0 i (by decide)) Gen.inb_S1920x1280_S384x256_1536_256 _ rfl,
    (List.forall_mem_cons.2 ⟨draft_ok (View.canon (runA.sl.HD_5 (F := Ideal) c fA fB fX)) (View.canon (runA.sl.H8_5 (F := Ideal) c fA fB fX)) (Wt x3 x4) 3 1 (by decide) (by decide) 1152 256 rfl rfl _ (hwA_1 c arg3 arg4 x3 x4) _ (fun i k => hx_cov (runA.sl.HD_5 (F := Ideal) c fA fB fX) (cover_HD c fA fB fX) 1152 Gen.inb_S1920x1536_S384x1536_1152_0 i k (by omega)) _ (fun i => hs_cov arg8 (runA.sl.H8_5 (F := Ideal) c fA fB fX) (cover_H8 c fA fB fX) 3 Gen.inb_S5x384_S1x384_3_0 i (by decide)) Gen.inb_S1920x1280_S384x256_1152_256 _ rfl,
    dA_8 c arg3 arg4 arg8 x3 x4 fA fB fX⟩)⟩)⟩)
theorem dA_15 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32)
    (fA : HbBuf0 (F := Ideal) c hbA) (fB : HbBuf0 (F := Ideal) c hbB) (fX : scX.view.ty.Contents (Elt Ideal)) :
    ∀ p ∈ runA.sl.H5_15 (F := Ideal) c arg3 arg4 arg8 x3 x4 fA fB fX, ∀ x, p.2 x = P5 (View.canon (runA.sl.HD_5 (F := Ideal) c fA fB fX)) (View.canon (runA.sl.H8_5 (F := Ideal) c fA fB fX)) (Wt x3 x4) (p.1.emb x) :=
  (List.forall_mem_cons.2 ⟨draft_ok (View.canon (runA.sl.HD_5 (F := Ideal) c fA fB fX)) (View.canon (runA.sl.H8_5 (F := Ideal) c fA fB fX)) (Wt x3 x4) 4 2 (by decide) (by decide) 1536 512 rfl rfl _ (hwA_2 c arg3 arg4 x3 x4) _ (fun i k => hx_cov (runA.sl.HD_5 (F := Ideal) c fA fB fX) (cover_HD c fA fB fX) 1536 Gen.inb_S1920x1536_S384x1536_1536_0 i k (by omega)) _ (fun i => hs_cov arg8 (runA.sl.H8_5 (F := Ideal) c fA fB fX) (cover_H8 c fA fB fX) 4 Gen.inb_S5x384_S1x384_4_0 i (by decide)) Gen.inb_S1920x1280_S384x256_1536_512 _ rfl,
    (List.forall_mem_cons.2 ⟨draft_ok (View.canon (runA.sl.HD_5 (F := Ideal) c fA fB fX)) (View.canon (runA.sl.H8_5 (F := Ideal) c fA fB fX)) (Wt x3 x4) 3 2 (by decide) (by decide) 1152 512 rfl rfl _ (hwA_2 c arg3 arg4 x3 x4) _ (fun i k => hx_cov (runA.sl.HD_5 (F := Ideal) c fA fB fX) (cover_HD c fA fB fX) 1152 Gen.inb_S1920x1536_S384x1536_1152_0 i k (by omega)) _ (fun i => hs_cov arg8 (runA.sl.H8_5 (F := Ideal) c fA fB fX) (cover_H8 c fA fB fX) 3 Gen.inb_S5x384_S1x384_3_0 i (by decide)) Gen.inb_S1920x1280_S384x256_1152_512 _ rfl,
    (List.forall_mem_cons.2 ⟨draft_ok (View.canon (runA.sl.HD_5 (F := Ideal) c fA fB fX)) (View.canon (runA.sl.H8_5 (F := Ideal) c fA fB fX)) (Wt x3 x4) 2 2 (by decide) (by decide) 768 512 rfl rfl _ (hwA_2 c arg3 arg4 x3 x4) _ (fun i k => hx_cov (runA.sl.HD_5 (F := Ideal) c fA fB fX) (cover_HD c fA fB fX) 768 Gen.inb_S1920x1536_S384x1536_768_0 i k (by omega)) _ (fun i => hs_cov arg8 (runA.sl.H8_5 (F := Ideal) c fA fB fX) (cover_H8 c fA fB fX) 2 Gen.inb_S5x384_S1x384_2_0 i (by decide)) Gen.inb_S1920x1280_S384x256_768_512 _ rfl,
    (List.forall_mem_cons.2 ⟨draft_ok (View.canon (runA.sl.HD_5 (F := Ideal) c fA fB fX)) (View.canon (runA.sl.H8_5 (F := Ideal) c fA fB fX)) (Wt x3 x4) 1 2 (by decide) (by decide) 384 512 rfl rfl _ (hwA_2 c arg3 arg4 x3 x4) _ (fun i k => hx_cov (runA.sl.HD_5 (F := Ideal) c fA fB fX) (cover_HD c fA fB fX) 384 Gen.inb_S1920x1536_S384x1536_384_0 i k (by omega)) _ (fun i => hs_cov arg8 (runA.sl.H8_5 (F := Ideal) c fA fB fX) (cover_H8 c fA fB fX) 1 Gen.inb_S5x384_S1x384_1_0 i (by decide)) Gen.inb_S1920x1280_S384x256_384_512 _ rfl,
    dA_11 c arg3 arg4 arg8 x3 x4 fA fB fX⟩)⟩)⟩)⟩)
theorem dA_17 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32)
    (fA : HbBuf0 (F := Ideal) c hbA) (fB : HbBuf0 (F := Ideal) c hbB) (fX : scX.view.ty.Contents (Elt Ideal)) :
    ∀ p ∈ runA.sl.H5_17 (F := Ideal) c arg3 arg4 arg8 x3 x4 fA fB fX, ∀ x, p.2 x = P5 (View.canon (runA.sl.HD_5 (F := Ideal) c fA fB fX)) (View.canon (runA.sl.H8_5 (F := Ideal) c fA fB fX)) (Wt x3 x4) (p.1.emb x) :=
  (List.forall_mem_cons.2 ⟨draft_ok (View.canon (runA.sl.HD_5 (F := Ideal) c fA fB fX)) (View.canon (runA.sl.H8_5 (F := Ideal) c fA fB fX)) (Wt x3 x4) 1 3 (by decide) (by decide) 384 768 rfl rfl _ (hwA_3 c arg3 arg4 x3 x4) _ (fun i k => hx_cov (runA.sl.HD_5 (F := Ideal) c fA fB fX) (cover_HD c fA fB fX) 384 Gen.inb_S1920x1536_S384x1536_384_0 i k (by omega)) _ (fun i => hs_cov arg8 (runA.sl.H8_5 (F := Ideal) c fA fB fX) (cover_H8 c fA fB fX) 1 Gen.inb_S5x384_S1x384_1_0 i (by decide)) Gen.inb_S1920x1280_S384x256_384_768 _ rfl,
    (List.forall_mem_cons.2 ⟨draft_ok (View.canon (runA.sl.HD_5 (F := Ideal) c fA fB fX)) (View.canon (runA.sl.H8_5 (F := Ideal) c fA fB fX)) (Wt x3 x4) 0 3 (by decide) (by decide) 0 768 rfl rfl _ (hwA_3 c arg3 arg4 x3 x4) _ (fun i k => hx_cov (runA.sl.HD_5 (F := Ideal) c fA fB fX) (cover_HD c fA fB fX) 0 Gen.inb_S1920x1536_S384x1536_0_0 i k (by omega)) _ (fun i => hs_cov arg8 (runA.sl.H8_5 (F := Ideal) c fA fB fX) (cover_H8 c fA fB fX) 0 Gen.inb_S5x384_S1x384_0_0 i (by decide)) Gen.inb_S1920x1280_S384x256_0_768 _ rfl,
    dA_15 c arg3 arg4 arg8 x3 x4 fA fB fX⟩)⟩)
theorem dA_20 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32)
    (fA : HbBuf0 (F := Ideal) c hbA) (fB : HbBuf0 (F := Ideal) c hbB) (fX : scX.view.ty.Contents (Elt Ideal)) :
    ∀ p ∈ runA.sl.H5_20 (F := Ideal) c arg3 arg4 arg8 x3 x4 fA fB fX, ∀ x, p.2 x = P5 (View.canon (runA.sl.HD_5 (F := Ideal) c fA fB fX)) (View.canon (runA.sl.H8_5 (F := Ideal) c fA fB fX)) (Wt x3 x4) (p.1.emb x) :=
  (List.forall_mem_cons.2 ⟨draft_ok (View.canon (runA.sl.HD_5 (F := Ideal) c fA fB fX)) (View.canon (runA.sl.H8_5 (F := Ideal) c fA fB fX)) (Wt x3 x4) 4 3 (by decide) (by decide) 1536 768 rfl rfl _ (hwA_3 c arg3 arg4 x3 x4) _ (fun i k => hx_cov (runA.sl.HD_5 (F := Ideal) c fA fB fX) (cover_HD c fA fB fX) 1536 Gen.inb_S1920x1536_S384x1536_1536_0 i k (by omega)) _ (fun i => hs_cov arg8 (runA.sl.H8_5 (F := Ideal) c fA fB fX) (cover_H8 c fA fB fX) 4 Gen.inb_S5x384_S1x384_4_0 i (by decide)) Gen.inb_S1920x1280_S384x256_1536_768 _ rfl,
    (List.forall_mem_cons.2 ⟨draft_ok (View.canon (runA.sl.HD_5 (F := Ideal) c fA fB fX)) (View.canon (runA.sl.H8_5 (F := Ideal) c fA fB fX)) (Wt x3 x4) 3 3 (by decide) (by decide) 1152 768 rfl rfl _ (hwA_3 c arg3 arg4 x3 x4) _ (fun i k => hx_cov (runA.sl.HD_5 (F := Ideal) c fA fB fX) (cover_HD c fA fB fX) 1152 Gen.inb_S1920x1536_S384x1536_1152_0 i k (by omega)) _ (fun i => hs_cov arg8 (runA.sl.H8_5 (F := Ideal) c fA fB fX) (cover_H8 c fA fB fX) 3 Gen.inb_S5x384_S1x384_3_0 i (by decide)) Gen.inb_S1920x1280_S384x256_1152_768 _ rfl,
    (List.forall_mem_cons.2 ⟨draft_ok (View.canon (runA.sl.HD_5 (F := Ideal) c fA fB fX)) (View.canon (runA.sl.H8_5 (F := Ideal) c fA fB fX)) (Wt x3 x4) 2 3 (by decide) (by decide) 768 768 rfl rfl _ (hwA_3 c arg3 arg4 x3 x4) _ (fun i k => hx_cov (runA.sl.HD_5 (F := Ideal) c fA fB fX) (cover_HD c fA fB fX) 768 Gen.inb_S1920x1536_S384x1536_768_0 i k (by omega)) _ (fun i => hs_cov arg8 (runA.sl.H8_5 (F := Ideal) c fA fB fX) (cover_H8 c fA fB fX) 2 Gen.inb_S5x384_S1x384_2_0 i (by decide)) Gen.inb_S1920x1280_S384x256_768_768 _ rfl,
    dA_17 c arg3 arg4 arg8 x3 x4 fA fB fX⟩)⟩)⟩)
theorem vA_5 (c : Dev nD) (arg3 : Memref sig .tc .vmem S1536x640 .i8) (arg4 : Memref sig .tc .vmem S12x1280 .f32)
    (x3 : Vec Ideal S1536x640 .i8) (x4 : Vec Ideal S12x1280 .f32) (fA : HbBuf0 (F := Ideal) c hbA) (fB : HbBuf0 (F := Ideal) c hbB) (fX : scX.view.ty.Contents (Elt Ideal)) :
    ∀ p ∈ runA.sl.H6_5 (F := Ideal) c arg3 arg4 x3 x4 fA fB fX, ∀ x, p.2 x = P6 (View.canon (runA.sl.HV_5 (F := Ideal) c fA fB fX)) (Wt x3 x4) (p.1.emb x) :=
  (List.forall_mem_cons.2 ⟨other_ok (View.canon (runA.sl.HV_5 (F := Ideal) c fA fB fX)) (Wt x3 x4) 4 (by decide) 1024 rfl _ (hwA_4 c arg3 arg4 x3 x4) _ (hv_cov (runA.sl.HV_5 (F := Ideal) c fA fB fX) (cover_HV c fA fB fX) Gen.inb_S1920x1536_S1920x1536_0_0) Gen.inb_S1920x1280_S1920x256_0_1024 _ rfl,
    (List.forall_mem_cons.2 ⟨other_ok (View.canon (runA.sl.HV_5 (F := Ideal) c fA fB fX)) (Wt x3 x4) 3 (by decide) 768 rfl _ (hwA_3 c arg3 arg4 x3 x4) _ (hv_cov (runA.sl.HV_5 (F := Ideal) c fA fB fX) (cover_HV c fA fB fX) Gen.inb_S1920x1536_S1920x1536_0_0) Gen.inb_S1920x1280_S1920x256_0_768 _ rfl,
    (List.forall_mem_cons.2 ⟨other_ok (View.canon (runA.sl.HV_5 (F := Ideal) c fA fB fX)) (Wt x3 x4) 2 (by decide) 512 rfl _ (hwA_2 c arg3 arg4 x3 x4) _ (hv_cov (runA.sl.HV_5 (F := Ideal) c fA fB fX) (cover_HV c fA fB fX) Gen.inb_S1920x1536_S1920x1536_0_0) Gen.inb_S1920x1280_S1920x256_0_512 _ rfl,
    (List.forall_mem_cons.2 ⟨other_ok (View.canon (runA.sl.HV_5 (F := Ideal) c fA fB fX)) (Wt x3 x4) 1 (by decide) 256 rfl _ (hwA_1 c arg3 arg4 x3 x4) _ (hv_cov (runA.sl.HV_5 (F := Ideal) c fA fB fX) (cover_HV c fA fB fX) Gen.inb_S1920x1536_S1920x1536_0_0) Gen.inb_S1920x1280_S1920x256_0_256 _ rfl,
    (List.forall_mem_cons.2 ⟨other_ok (View.canon (runA.sl.HV_5 (F := Ideal) c fA fB fX)) (Wt x3 x4) 0 (by decide) 0 rfl _ (hwA_0 c arg3 arg4 x3 x4) _ (hv_cov (runA.sl.HV_5 (F := Ideal) c fA fB fX) (cover_HV c fA fB fX) Gen.inb_S1920x1536_S1920x1536_0_0) Gen.inb_S1920x1280_S1920x256_0_0 _ rfl,
    fun p hp => absurd hp List.not_mem_nil⟩)⟩)⟩)⟩)⟩)

/-- Every store to the data product's block at such a grid point. -/
theorem L5A (c : Dev nD) (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec Ideal S1536x640 .i8) (x4 : Vec Ideal S12x1280 .f32) (fA : HbBuf0 (F := Ideal) c hbA) (fB : HbBuf0 (F := Ideal) c hbB) (fX : scX.view.ty.Contents (Elt Ideal)) :
    ∀ p ∈ (runA c i hc1 hc2 arg3 harg3 arg4 harg4 arg5 harg5 arg6 harg6 arg8 harg8 x3 x4 fA fB fX).1, ∀ x, p.2 x = P5 (View.canon (runA.sl.HD_5 (F := Ideal) c fA fB fX)) (View.canon (runA.sl.H8_5 (F := Ideal) c fA fB fX)) (Wt x3 x4) (p.1.emb x) :=
  (List.forall_mem_cons.2 ⟨draft_ok (View.canon (runA.sl.HD_5 (F := Ideal) c fA fB fX)) (View.canon (runA.sl.H8_5 (F := Ideal) c fA fB fX)) (Wt x3 x4) 4 4 (by decide) (by decide) 1536 1024 rfl rfl _ (hwA_4 c arg3 arg4 x3 x4) _ (fun i k => hx_cov (runA.sl.HD_5 (F := Ideal) c fA fB fX) (cover_HD c fA fB fX) 1536 Gen.inb_S1920x1536_S384x1536_1536_0 i k (by omega)) _ (fun i => hs_cov arg8 (runA.sl.H8_5 (F := Ideal) c fA fB fX) (cover_H8 c fA fB fX) 4 Gen.inb_S5x384_S1x384_4_0 i (by decide)) Gen.inb_S1920x1280_S384x256_1536_1024 _ rfl,
    (List.forall_mem_cons.2 ⟨draft_ok (View.canon (runA.sl.HD_5 (F := Ideal) c fA fB fX)) (View.canon (runA.sl.H8_5 (F := Ideal) c fA fB fX)) (Wt x3 x4) 3 4 (by decide) (by decide) 1152 1024 rfl rfl _ (hwA_4 c arg3 arg4 x3 x4) _ (fun i k => hx_cov (runA.sl.HD_5 (F := Ideal) c fA fB fX) (cover_HD c fA fB fX) 1152 Gen.inb_S1920x1536_S384x1536_1152_0 i k (by omega)) _ (fun i => hs_cov arg8 (runA.sl.H8_5 (F := Ideal) c fA fB fX) (cover_H8 c fA fB fX) 3 Gen.inb_S5x384_S1x384_3_0 i (by decide)) Gen.inb_S1920x1280_S384x256_1152_1024 _ rfl,
    (List.forall_mem_cons.2 ⟨draft_ok (View.canon (runA.sl.HD_5 (F := Ideal) c fA fB fX)) (View.canon (runA.sl.H8_5 (F := Ideal) c fA fB fX)) (Wt x3 x4) 2 4 (by decide) (by decide) 768 1024 rfl rfl _ (hwA_4 c arg3 arg4 x3 x4) _ (fun i k => hx_cov (runA.sl.HD_5 (F := Ideal) c fA fB fX) (cover_HD c fA fB fX) 768 Gen.inb_S1920x1536_S384x1536_768_0 i k (by omega)) _ (fun i => hs_cov arg8 (runA.sl.H8_5 (F := Ideal) c fA fB fX) (cover_H8 c fA fB fX) 2 Gen.inb_S5x384_S1x384_2_0 i (by decide)) Gen.inb_S1920x1280_S384x256_768_1024 _ rfl,
    (List.forall_mem_cons.2 ⟨draft_ok (View.canon (runA.sl.HD_5 (F := Ideal) c fA fB fX)) (View.canon (runA.sl.H8_5 (F := Ideal) c fA fB fX)) (Wt x3 x4) 1 4 (by decide) (by decide) 384 1024 rfl rfl _ (hwA_4 c arg3 arg4 x3 x4) _ (fun i k => hx_cov (runA.sl.HD_5 (F := Ideal) c fA fB fX) (cover_HD c fA fB fX) 384 Gen.inb_S1920x1536_S384x1536_384_0 i k (by omega)) _ (fun i => hs_cov arg8 (runA.sl.H8_5 (F := Ideal) c fA fB fX) (cover_H8 c fA fB fX) 1 Gen.inb_S5x384_S1x384_1_0 i (by decide)) Gen.inb_S1920x1280_S384x256_384_1024 _ rfl,
    (List.forall_mem_cons.2 ⟨draft_ok (View.canon (runA.sl.HD_5 (F := Ideal) c fA fB fX)) (View.canon (runA.sl.H8_5 (F := Ideal) c fA fB fX)) (Wt x3 x4) 0 4 (by decide) (by decide) 0 1024 rfl rfl _ (hwA_4 c arg3 arg4 x3 x4) _ (fun i k => hx_cov (runA.sl.HD_5 (F := Ideal) c fA fB fX) (cover_HD c fA fB fX) 0 Gen.inb_S1920x1536_S384x1536_0_0 i k (by omega)) _ (fun i => hs_cov arg8 (runA.sl.H8_5 (F := Ideal) c fA fB fX) (cover_H8 c fA fB fX) 0 Gen.inb_S5x384_S1x384_0_0 i (by decide)) Gen.inb_S1920x1280_S384x256_0_1024 _ rfl,
    dA_20 c arg3 arg4 arg8 x3 x4 fA fB fX⟩)⟩)⟩)⟩)⟩)

/-- Every store to the other product's block at such a grid point. -/
theorem L6A (c : Dev nD) (i : grid0.Coords) (hc1 : k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec Ideal S1536x640 .i8) (x4 : Vec Ideal S12x1280 .f32) (fA : HbBuf0 (F := Ideal) c hbA) (fB : HbBuf0 (F := Ideal) c hbB) (fX : scX.view.ty.Contents (Elt Ideal)) :
    ∀ p ∈ (runA c i hc1 hc2 arg3 harg3 arg4 harg4 arg5 harg5 arg6 harg6 arg8 harg8 x3 x4 fA fB fX).2.1, ∀ x, p.2 x = P6 (View.canon (runA.sl.HV_5 (F := Ideal) c fA fB fX)) (Wt x3 x4) (p.1.emb x) := vA_5 c arg3 arg4 x3 x4 fA fB fX

theorem hwB_0 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runB.sl.HW_120 (F := Ideal) c arg3 arg4 x3 x4) (Rect.unit (s := S1536x1280) ![0, 0] S1536x256.size Gen.inb_S1536x1280_S1536x256_0_0).toLoadRect (ix2 r j)
      = Wt x3 x4 (ix2 r ⟨256 * 0 + j.val, by omega⟩) :=
  hw_of _ _ (okB_120 c arg3 arg4 x3 x4) (coverWB c arg3 arg4 x3 x4) 0 _ r j (by omega)
theorem hwB_1 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runB.sl.HW_120 (F := Ideal) c arg3 arg4 x3 x4) (Rect.unit (s := S1536x1280) ![0, 256] S1536x256.size Gen.inb_S1536x1280_S1536x256_0_256).toLoadRect (ix2 r j)
      = Wt x3 x4 (ix2 r ⟨256 * 1 + j.val, by omega⟩) :=
  hw_of _ _ (okB_120 c arg3 arg4 x3 x4) (coverWB c arg3 arg4 x3 x4) 256 _ r j (by omega)
theorem hwB_2 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runB.sl.HW_120 (F := Ideal) c arg3 arg4 x3 x4) (Rect.unit (s := S1536x1280) ![0, 512] S1536x256.size Gen.inb_S1536x1280_S1536x256_0_512).toLoadRect (ix2 r j)
      = Wt x3 x4 (ix2 r ⟨256 * 2 + j.val, by omega⟩) :=
  hw_of _ _ (okB_120 c arg3 arg4 x3 x4) (coverWB c arg3 arg4 x3 x4) 512 _ r j (by omega)
theorem hwB_3 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runB.sl.HW_120 (F := Ideal) c arg3 arg4 x3 x4) (Rect.unit (s := S1536x1280) ![0, 768] S1536x256.size Gen.inb_S1536x1280_S1536x256_0_768).toLoadRect (ix2 r j)
      = Wt x3 x4 (ix2 r ⟨256 * 3 + j.val, by omega⟩) :=
  hw_of _ _ (okB_120 c arg3 arg4 x3 x4) (coverWB c arg3 arg4 x3 x4) 768 _ r j (by omega)
theorem hwB_4 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runB.sl.HW_120 (F := Ideal) c arg3 arg4 x3 x4) (Rect.unit (s := S1536x1280) ![0, 1024] S1536x256.size Gen.inb_S1536x1280_S1536x256_0_1024).toLoadRect (ix2 r j)
      = Wt x3 x4 (ix2 r ⟨256 * 4 + j.val, by omega⟩) :=
  hw_of _ _ (okB_120 c arg3 arg4 x3 x4) (coverWB c arg3 arg4 x3 x4) 1024 _ r j (by omega)
theorem dB_2 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runB.sl.H5_2 (F := Ideal) c arg3 arg4 arg8 x3 x4 x8 xd, ∀ x, p.2 x = P5 xd x8 (Wt x3 x4) (p.1.emb x) :=
  (List.forall_mem_cons.2 ⟨draft_ok xd x8 (Wt x3 x4) 1 0 (by decide) (by decide) 384 0 rfl rfl _ (hwB_0 c arg3 arg4 x3 x4) _ (fun i k => hx_rep xd 384 Gen.inb_S1920x1536_S384x1536_384_0 i k (by omega)) _ (fun i => hs_rep arg8 x8 1 Gen.inb_S5x384_S1x384_1_0 i (by decide)) Gen.inb_S1920x1280_S384x256_384_0 _ rfl,
    (List.forall_mem_cons.2 ⟨draft_ok xd x8 (Wt x3 x4) 0 0 (by decide) (by decide) 0 0 rfl rfl _ (hwB_0 c arg3 arg4 x3 x4) _ (fun i k => hx_rep xd 0 Gen.inb_S1920x1536_S384x1536_0_0 i k (by omega)) _ (fun i => hs_rep arg8 x8 0 Gen.inb_S5x384_S1x384_0_0 i (by decide)) Gen.inb_S1920x1280_S384x256_0_0 _ rfl,
    fun p hp => absurd hp List.not_mem_nil⟩)⟩)
theorem dB_5 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runB.sl.H5_5 (F := Ideal) c arg3 arg4 arg8 x3 x4 x8 xd, ∀ x, p.2 x = P5 xd x8 (Wt x3 x4) (p.1.emb x) :=
  (List.forall_mem_cons.2 ⟨draft_ok xd x8 (Wt x3 x4) 4 0 (by decide) (by decide) 1536 0 rfl rfl _ (hwB_0 c arg3 arg4 x3 x4) _ (fun i k => hx_rep xd 1536 Gen.inb_S1920x1536_S384x1536_1536_0 i k (by omega)) _ (fun i => hs_rep arg8 x8 4 Gen.inb_S5x384_S1x384_4_0 i (by decide)) Gen.inb_S1920x1280_S384x256_1536_0 _ rfl,
    (List.forall_mem_cons.2 ⟨draft_ok xd x8 (Wt x3 x4) 3 0 (by decide) (by decide) 1152 0 rfl rfl _ (hwB_0 c arg3 arg4 x3 x4) _ (fun i k => hx_rep xd 1152 Gen.inb_S1920x1536_S384x1536_1152_0 i k (by omega)) _ (fun i => hs_rep arg8 x8 3 Gen.inb_S5x384_S1x384_3_0 i (by decide)) Gen.inb_S1920x1280_S384x256_1152_0 _ rfl,
    (List.forall_mem_cons.2 ⟨draft_ok xd x8 (Wt x3 x4) 2 0 (by decide) (by decide) 768 0 rfl rfl _ (hwB_0 c arg3 arg4 x3 x4) _ (fun i k => hx_rep xd 768 Gen.inb_S1920x1536_S384x1536_768_0 i k (by omega)) _ (fun i => hs_rep arg8 x8 2 Gen.inb_S5x384_S1x384_2_0 i (by decide)) Gen.inb_S1920x1280_S384x256_768_0 _ rfl,
    dB_2 c arg3 arg4 arg8 x3 x4 x8 xd⟩)⟩)⟩)
theorem dB_8 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runB.sl.H5_8 (F := Ideal) c arg3 arg4 arg8 x3 x4 x8 xd, ∀ x, p.2 x = P5 xd x8 (Wt x3 x4) (p.1.emb x) :=
  (List.forall_mem_cons.2 ⟨draft_ok xd x8 (Wt x3 x4) 2 1 (by decide) (by decide) 768 256 rfl rfl _ (hwB_1 c arg3 arg4 x3 x4) _ (fun i k => hx_rep xd 768 Gen.inb_S1920x1536_S384x1536_768_0 i k (by omega)) _ (fun i => hs_rep arg8 x8 2 Gen.inb_S5x384_S1x384_2_0 i (by decide)) Gen.inb_S1920x1280_S384x256_768_256 _ rfl,
    (List.forall_mem_cons.2 ⟨draft_ok xd x8 (Wt x3 x4) 1 1 (by decide) (by decide) 384 256 rfl rfl _ (hwB_1 c arg3 arg4 x3 x4) _ (fun i k => hx_rep xd 384 Gen.inb_S1920x1536_S384x1536_384_0 i k (by omega)) _ (fun i => hs_rep arg8 x8 1 Gen.inb_S5x384_S1x384_1_0 i (by decide)) Gen.inb_S1920x1280_S384x256_384_256 _ rfl,
    (List.forall_mem_cons.2 ⟨draft_ok xd x8 (Wt x3 x4) 0 1 (by decide) (by decide) 0 256 rfl rfl _ (hwB_1 c arg3 arg4 x3 x4) _ (fun i k => hx_rep xd 0 Gen.inb_S1920x1536_S384x1536_0_0 i k (by omega)) _ (fun i => hs_rep arg8 x8 0 Gen.inb_S5x384_S1x384_0_0 i (by decide)) Gen.inb_S1920x1280_S384x256_0_256 _ rfl,
    dB_5 c arg3 arg4 arg8 x3 x4 x8 xd⟩)⟩)⟩)
theorem dB_11 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runB.sl.H5_11 (F := Ideal) c arg3 arg4 arg8 x3 x4 x8 xd, ∀ x, p.2 x = P5 xd x8 (Wt x3 x4) (p.1.emb x) :=
  (List.forall_mem_cons.2 ⟨draft_ok xd x8 (Wt x3 x4) 0 2 (by decide) (by decide) 0 512 rfl rfl _ (hwB_2 c arg3 arg4 x3 x4) _ (fun i k => hx_rep xd 0 Gen.inb_S1920x1536_S384x1536_0_0 i k (by omega)) _ (fun i => hs_rep arg8 x8 0 Gen.inb_S5x384_S1x384_0_0 i (by decide)) Gen.inb_S1920x1280_S384x256_0_512 _ rfl,
    (List.forall_mem_cons.2 ⟨draft_ok xd x8 (Wt x3 x4) 4 1 (by decide) (by decide) 1536 256 rfl rfl _ (hwB_1 c arg3 arg4 x3 x4) _ (fun i k => hx_rep xd 1536 Gen.inb_S1920x1536_S384x1536_1536_0 i k (by omega)) _ (fun i => hs_rep arg8 x8 4 Gen.inb_S5x384_S1x384_4_0 i (by decide)) Gen.inb_S1920x1280_S384x256_1536_256 _ rfl,
    (List.forall_mem_cons.2 ⟨draft_ok xd x8 (Wt x3 x4) 3 1 (by decide) (by decide) 1152 256 rfl rfl _ (hwB_1 c arg3 arg4 x3 x4) _ (fun i k => hx_rep xd 1152 Gen.inb_S1920x1536_S384x1536_1152_0 i k (by omega)) _ (fun i => hs_rep arg8 x8 3 Gen.inb_S5x384_S1x384_3_0 i (by decide)) Gen.inb_S1920x1280_S384x256_1152_256 _ rfl,
    dB_8 c arg3 arg4 arg8 x3 x4 x8 xd⟩)⟩)⟩)
theorem dB_15 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runB.sl.H5_15 (F := Ideal) c arg3 arg4 arg8 x3 x4 x8 xd, ∀ x, p.2 x = P5 xd x8 (Wt x3 x4) (p.1.emb x) :=
  (List.forall_mem_cons.2 ⟨draft_ok xd x8 (Wt x3 x4) 4 2 (by decide) (by decide) 1536 512 rfl rfl _ (hwB_2 c arg3 arg4 x3 x4) _ (fun i k => hx_rep xd 1536 Gen.inb_S1920x1536_S384x1536_1536_0 i k (by omega)) _ (fun i => hs_rep arg8 x8 4 Gen.inb_S5x384_S1x384_4_0 i (by decide)) Gen.inb_S1920x1280_S384x256_1536_512 _ rfl,
    (List.forall_mem_cons.2 ⟨draft_ok xd x8 (Wt x3 x4) 3 2 (by decide) (by decide) 1152 512 rfl rfl _ (hwB_2 c arg3 arg4 x3 x4) _ (fun i k => hx_rep xd 1152 Gen.inb_S1920x1536_S384x1536_1152_0 i k (by omega)) _ (fun i => hs_rep arg8 x8 3 Gen.inb_S5x384_S1x384_3_0 i (by decide)) Gen.inb_S1920x1280_S384x256_1152_512 _ rfl,
    (List.forall_mem_cons.2 ⟨draft_ok xd x8 (Wt x3 x4) 2 2 (by decide) (by decide) 768 512 rfl rfl _ (hwB_2 c arg3 arg4 x3 x4) _ (fun i k => hx_rep xd 768 Gen.inb_S1920x1536_S384x1536_768_0 i k (by omega)) _ (fun i => hs_rep arg8 x8 2 Gen.inb_S5x384_S1x384_2_0 i (by decide)) Gen.inb_S1920x1280_S384x256_768_512 _ rfl,
    (List.forall_mem_cons.2 ⟨draft_ok xd x8 (Wt x3 x4) 1 2 (by decide) (by decide) 384 512 rfl rfl _ (hwB_2 c arg3 arg4 x3 x4) _ (fun i k => hx_rep xd 384 Gen.inb_S1920x1536_S384x1536_384_0 i k (by omega)) _ (fun i => hs_rep arg8 x8 1 Gen.inb_S5x384_S1x384_1_0 i (by decide)) Gen.inb_S1920x1280_S384x256_384_512 _ rfl,
    dB_11 c arg3 arg4 arg8 x3 x4 x8 xd⟩)⟩)⟩)⟩)
theorem dB_17 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runB.sl.H5_17 (F := Ideal) c arg3 arg4 arg8 x3 x4 x8 xd, ∀ x, p.2 x = P5 xd x8 (Wt x3 x4) (p.1.emb x) :=
  (List.forall_mem_cons.2 ⟨draft_ok xd x8 (Wt x3 x4) 1 3 (by decide) (by decide) 384 768 rfl rfl _ (hwB_3 c arg3 arg4 x3 x4) _ (fun i k => hx_rep xd 384 Gen.inb_S1920x1536_S384x1536_384_0 i k (by omega)) _ (fun i => hs_rep arg8 x8 1 Gen.inb_S5x384_S1x384_1_0 i (by decide)) Gen.inb_S1920x1280_S384x256_384_768 _ rfl,
    (List.forall_mem_cons.2 ⟨draft_ok xd x8 (Wt x3 x4) 0 3 (by decide) (by decide) 0 768 rfl rfl _ (hwB_3 c arg3 arg4 x3 x4) _ (fun i k => hx_rep xd 0 Gen.inb_S1920x1536_S384x1536_0_0 i k (by omega)) _ (fun i => hs_rep arg8 x8 0 Gen.inb_S5x384_S1x384_0_0 i (by decide)) Gen.inb_S1920x1280_S384x256_0_768 _ rfl,
    dB_15 c arg3 arg4 arg8 x3 x4 x8 xd⟩)⟩)
theorem dB_20 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runB.sl.H5_20 (F := Ideal) c arg3 arg4 arg8 x3 x4 x8 xd, ∀ x, p.2 x = P5 xd x8 (Wt x3 x4) (p.1.emb x) :=
  (List.forall_mem_cons.2 ⟨draft_ok xd x8 (Wt x3 x4) 4 3 (by decide) (by decide) 1536 768 rfl rfl _ (hwB_3 c arg3 arg4 x3 x4) _ (fun i k => hx_rep xd 1536 Gen.inb_S1920x1536_S384x1536_1536_0 i k (by omega)) _ (fun i => hs_rep arg8 x8 4 Gen.inb_S5x384_S1x384_4_0 i (by decide)) Gen.inb_S1920x1280_S384x256_1536_768 _ rfl,
    (List.forall_mem_cons.2 ⟨draft_ok xd x8 (Wt x3 x4) 3 3 (by decide) (by decide) 1152 768 rfl rfl _ (hwB_3 c arg3 arg4 x3 x4) _ (fun i k => hx_rep xd 1152 Gen.inb_S1920x1536_S384x1536_1152_0 i k (by omega)) _ (fun i => hs_rep arg8 x8 3 Gen.inb_S5x384_S1x384_3_0 i (by decide)) Gen.inb_S1920x1280_S384x256_1152_768 _ rfl,
    (List.forall_mem_cons.2 ⟨draft_ok xd x8 (Wt x3 x4) 2 3 (by decide) (by decide) 768 768 rfl rfl _ (hwB_3 c arg3 arg4 x3 x4) _ (fun i k => hx_rep xd 768 Gen.inb_S1920x1536_S384x1536_768_0 i k (by omega)) _ (fun i => hs_rep arg8 x8 2 Gen.inb_S5x384_S1x384_2_0 i (by decide)) Gen.inb_S1920x1280_S384x256_768_768 _ rfl,
    dB_17 c arg3 arg4 arg8 x3 x4 x8 xd⟩)⟩)⟩)
theorem vB_5 (c : Dev nD) (arg3 : Memref sig .tc .vmem S1536x640 .i8) (arg4 : Memref sig .tc .vmem S12x1280 .f32)
    (x3 : Vec Ideal S1536x640 .i8) (x4 : Vec Ideal S12x1280 .f32) (xv : Vec Ideal S1920x1536 .bf16) :
    ∀ p ∈ runB.sl.H6_5 (F := Ideal) c arg3 arg4 x3 x4 xv, ∀ x, p.2 x = P6 xv (Wt x3 x4) (p.1.emb x) :=
  (List.forall_mem_cons.2 ⟨other_ok xv (Wt x3 x4) 4 (by decide) 1024 rfl _ (hwB_4 c arg3 arg4 x3 x4) _ (hv_rep xv Gen.inb_S1920x1536_S1920x1536_0_0) Gen.inb_S1920x1280_S1920x256_0_1024 _ rfl,
    (List.forall_mem_cons.2 ⟨other_ok xv (Wt x3 x4) 3 (by decide) 768 rfl _ (hwB_3 c arg3 arg4 x3 x4) _ (hv_rep xv Gen.inb_S1920x1536_S1920x1536_0_0) Gen.inb_S1920x1280_S1920x256_0_768 _ rfl,
    (List.forall_mem_cons.2 ⟨other_ok xv (Wt x3 x4) 2 (by decide) 512 rfl _ (hwB_2 c arg3 arg4 x3 x4) _ (hv_rep xv Gen.inb_S1920x1536_S1920x1536_0_0) Gen.inb_S1920x1280_S1920x256_0_512 _ rfl,
    (List.forall_mem_cons.2 ⟨other_ok xv (Wt x3 x4) 1 (by decide) 256 rfl _ (hwB_1 c arg3 arg4 x3 x4) _ (hv_rep xv Gen.inb_S1920x1536_S1920x1536_0_0) Gen.inb_S1920x1280_S1920x256_0_256 _ rfl,
    (List.forall_mem_cons.2 ⟨other_ok xv (Wt x3 x4) 0 (by decide) 0 rfl _ (hwB_0 c arg3 arg4 x3 x4) _ (hv_rep xv Gen.inb_S1920x1536_S1920x1536_0_0) Gen.inb_S1920x1280_S1920x256_0_0 _ rfl,
    fun p hp => absurd hp List.not_mem_nil⟩)⟩)⟩)⟩)⟩)

/-- Every store to the data product's block at such a grid point. -/
theorem L5B (c : Dev nD) (i : grid0.Coords) (hc1 : ¬ k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec Ideal S1536x640 .i8) (x4 : Vec Ideal S12x1280 .f32) (x8 : Vec Ideal S5x384 .f32) (xd xv : Vec Ideal S1920x1536 .bf16) :
    ∀ p ∈ (runB c i hc1 hc2 arg3 harg3 arg4 harg4 arg5 harg5 arg6 harg6 arg8 harg8 x3 x4 x8 xd xv).1, ∀ x, p.2 x = P5 xd x8 (Wt x3 x4) (p.1.emb x) :=
  (List.forall_mem_cons.2 ⟨draft_ok xd x8 (Wt x3 x4) 4 4 (by decide) (by decide) 1536 1024 rfl rfl _ (hwB_4 c arg3 arg4 x3 x4) _ (fun i k => hx_rep xd 1536 Gen.inb_S1920x1536_S384x1536_1536_0 i k (by omega)) _ (fun i => hs_rep arg8 x8 4 Gen.inb_S5x384_S1x384_4_0 i (by decide)) Gen.inb_S1920x1280_S384x256_1536_1024 _ rfl,
    (List.forall_mem_cons.2 ⟨draft_ok xd x8 (Wt x3 x4) 3 4 (by decide) (by decide) 1152 1024 rfl rfl _ (hwB_4 c arg3 arg4 x3 x4) _ (fun i k => hx_rep xd 1152 Gen.inb_S1920x1536_S384x1536_1152_0 i k (by omega)) _ (fun i => hs_rep arg8 x8 3 Gen.inb_S5x384_S1x384_3_0 i (by decide)) Gen.inb_S1920x1280_S384x256_1152_1024 _ rfl,
    (List.forall_mem_cons.2 ⟨draft_ok xd x8 (Wt x3 x4) 2 4 (by decide) (by decide) 768 1024 rfl rfl _ (hwB_4 c arg3 arg4 x3 x4) _ (fun i k => hx_rep xd 768 Gen.inb_S1920x1536_S384x1536_768_0 i k (by omega)) _ (fun i => hs_rep arg8 x8 2 Gen.inb_S5x384_S1x384_2_0 i (by decide)) Gen.inb_S1920x1280_S384x256_768_1024 _ rfl,
    (List.forall_mem_cons.2 ⟨draft_ok xd x8 (Wt x3 x4) 1 4 (by decide) (by decide) 384 1024 rfl rfl _ (hwB_4 c arg3 arg4 x3 x4) _ (fun i k => hx_rep xd 384 Gen.inb_S1920x1536_S384x1536_384_0 i k (by omega)) _ (fun i => hs_rep arg8 x8 1 Gen.inb_S5x384_S1x384_1_0 i (by decide)) Gen.inb_S1920x1280_S384x256_384_1024 _ rfl,
    (List.forall_mem_cons.2 ⟨draft_ok xd x8 (Wt x3 x4) 0 4 (by decide) (by decide) 0 1024 rfl rfl _ (hwB_4 c arg3 arg4 x3 x4) _ (fun i k => hx_rep xd 0 Gen.inb_S1920x1536_S384x1536_0_0 i k (by omega)) _ (fun i => hs_rep arg8 x8 0 Gen.inb_S5x384_S1x384_0_0 i (by decide)) Gen.inb_S1920x1280_S384x256_0_1024 _ rfl,
    dB_20 c arg3 arg4 arg8 x3 x4 x8 xd⟩)⟩)⟩)⟩)⟩)

/-- Every store to the other product's block at such a grid point. -/
theorem L6B (c : Dev nD) (i : grid0.Coords) (hc1 : ¬ k0_cond1 i = 1#1) (hc2 : ¬ lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec Ideal S1536x640 .i8) (x4 : Vec Ideal S12x1280 .f32) (x8 : Vec Ideal S5x384 .f32) (xd xv : Vec Ideal S1920x1536 .bf16) :
    ∀ p ∈ (runB c i hc1 hc2 arg3 harg3 arg4 harg4 arg5 harg5 arg6 harg6 arg8 harg8 x3 x4 x8 xd xv).2.1, ∀ x, p.2 x = P6 xv (Wt x3 x4) (p.1.emb x) := vB_5 c arg3 arg4 x3 x4 xv

theorem hwC_0 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runC.sl.HW_120 (F := Ideal) c arg3 arg4 x3 x4) (Rect.unit (s := S1536x1280) ![0, 0] S1536x256.size Gen.inb_S1536x1280_S1536x256_0_0).toLoadRect (ix2 r j)
      = Wt x3 x4 (ix2 r ⟨256 * 0 + j.val, by omega⟩) :=
  hw_of _ _ (okC_120 c arg3 arg4 x3 x4) (coverWC c arg3 arg4 x3 x4) 0 _ r j (by omega)
theorem hwC_1 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runC.sl.HW_120 (F := Ideal) c arg3 arg4 x3 x4) (Rect.unit (s := S1536x1280) ![0, 256] S1536x256.size Gen.inb_S1536x1280_S1536x256_0_256).toLoadRect (ix2 r j)
      = Wt x3 x4 (ix2 r ⟨256 * 1 + j.val, by omega⟩) :=
  hw_of _ _ (okC_120 c arg3 arg4 x3 x4) (coverWC c arg3 arg4 x3 x4) 256 _ r j (by omega)
theorem hwC_2 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runC.sl.HW_120 (F := Ideal) c arg3 arg4 x3 x4) (Rect.unit (s := S1536x1280) ![0, 512] S1536x256.size Gen.inb_S1536x1280_S1536x256_0_512).toLoadRect (ix2 r j)
      = Wt x3 x4 (ix2 r ⟨256 * 2 + j.val, by omega⟩) :=
  hw_of _ _ (okC_120 c arg3 arg4 x3 x4) (coverWC c arg3 arg4 x3 x4) 512 _ r j (by omega)
theorem hwC_3 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runC.sl.HW_120 (F := Ideal) c arg3 arg4 x3 x4) (Rect.unit (s := S1536x1280) ![0, 768] S1536x256.size Gen.inb_S1536x1280_S1536x256_0_768).toLoadRect (ix2 r j)
      = Wt x3 x4 (ix2 r ⟨256 * 3 + j.val, by omega⟩) :=
  hw_of _ _ (okC_120 c arg3 arg4 x3 x4) (coverWC c arg3 arg4 x3 x4) 768 _ r j (by omega)
theorem hwC_4 (c : Dev nD) (arg3 : Memref sig .tc .vmem S1536x640 .i8) (arg4 : Memref sig .tc .vmem S12x1280 .f32) (x3 : Vec Ideal S1536x640 .i8) (x4 : Vec Ideal S12x1280 .f32) (r : Fin 1536) (j : Fin 256) :
    scW.view.readCov (runC.sl.HW_120 (F := Ideal) c arg3 arg4 x3 x4) (Rect.unit (s := S1536x1280) ![0, 1024] S1536x256.size Gen.inb_S1536x1280_S1536x256_0_1024).toLoadRect (ix2 r j)
      = Wt x3 x4 (ix2 r ⟨256 * 4 + j.val, by omega⟩) :=
  hw_of _ _ (okC_120 c arg3 arg4 x3 x4) (coverWC c arg3 arg4 x3 x4) 1024 _ r j (by omega)
theorem dC_2 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runC.sl.H5_2 (F := Ideal) c arg3 arg4 arg8 x3 x4 x8 xd, ∀ x, p.2 x = P5 xd x8 (Wt x3 x4) (p.1.emb x) :=
  (List.forall_mem_cons.2 ⟨draft_ok xd x8 (Wt x3 x4) 1 0 (by decide) (by decide) 384 0 rfl rfl _ (hwC_0 c arg3 arg4 x3 x4) _ (fun i k => hx_rep xd 384 Gen.inb_S1920x1536_S384x1536_384_0 i k (by omega)) _ (fun i => hs_rep arg8 x8 1 Gen.inb_S5x384_S1x384_1_0 i (by decide)) Gen.inb_S1920x1280_S384x256_384_0 _ rfl,
    (List.forall_mem_cons.2 ⟨draft_ok xd x8 (Wt x3 x4) 0 0 (by decide) (by decide) 0 0 rfl rfl _ (hwC_0 c arg3 arg4 x3 x4) _ (fun i k => hx_rep xd 0 Gen.inb_S1920x1536_S384x1536_0_0 i k (by omega)) _ (fun i => hs_rep arg8 x8 0 Gen.inb_S5x384_S1x384_0_0 i (by decide)) Gen.inb_S1920x1280_S384x256_0_0 _ rfl,
    fun p hp => absurd hp List.not_mem_nil⟩)⟩)
theorem dC_5 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runC.sl.H5_5 (F := Ideal) c arg3 arg4 arg8 x3 x4 x8 xd, ∀ x, p.2 x = P5 xd x8 (Wt x3 x4) (p.1.emb x) :=
  (List.forall_mem_cons.2 ⟨draft_ok xd x8 (Wt x3 x4) 4 0 (by decide) (by decide) 1536 0 rfl rfl _ (hwC_0 c arg3 arg4 x3 x4) _ (fun i k => hx_rep xd 1536 Gen.inb_S1920x1536_S384x1536_1536_0 i k (by omega)) _ (fun i => hs_rep arg8 x8 4 Gen.inb_S5x384_S1x384_4_0 i (by decide)) Gen.inb_S1920x1280_S384x256_1536_0 _ rfl,
    (List.forall_mem_cons.2 ⟨draft_ok xd x8 (Wt x3 x4) 3 0 (by decide) (by decide) 1152 0 rfl rfl _ (hwC_0 c arg3 arg4 x3 x4) _ (fun i k => hx_rep xd 1152 Gen.inb_S1920x1536_S384x1536_1152_0 i k (by omega)) _ (fun i => hs_rep arg8 x8 3 Gen.inb_S5x384_S1x384_3_0 i (by decide)) Gen.inb_S1920x1280_S384x256_1152_0 _ rfl,
    (List.forall_mem_cons.2 ⟨draft_ok xd x8 (Wt x3 x4) 2 0 (by decide) (by decide) 768 0 rfl rfl _ (hwC_0 c arg3 arg4 x3 x4) _ (fun i k => hx_rep xd 768 Gen.inb_S1920x1536_S384x1536_768_0 i k (by omega)) _ (fun i => hs_rep arg8 x8 2 Gen.inb_S5x384_S1x384_2_0 i (by decide)) Gen.inb_S1920x1280_S384x256_768_0 _ rfl,
    dC_2 c arg3 arg4 arg8 x3 x4 x8 xd⟩)⟩)⟩)
theorem dC_8 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runC.sl.H5_8 (F := Ideal) c arg3 arg4 arg8 x3 x4 x8 xd, ∀ x, p.2 x = P5 xd x8 (Wt x3 x4) (p.1.emb x) :=
  (List.forall_mem_cons.2 ⟨draft_ok xd x8 (Wt x3 x4) 2 1 (by decide) (by decide) 768 256 rfl rfl _ (hwC_1 c arg3 arg4 x3 x4) _ (fun i k => hx_rep xd 768 Gen.inb_S1920x1536_S384x1536_768_0 i k (by omega)) _ (fun i => hs_rep arg8 x8 2 Gen.inb_S5x384_S1x384_2_0 i (by decide)) Gen.inb_S1920x1280_S384x256_768_256 _ rfl,
    (List.forall_mem_cons.2 ⟨draft_ok xd x8 (Wt x3 x4) 1 1 (by decide) (by decide) 384 256 rfl rfl _ (hwC_1 c arg3 arg4 x3 x4) _ (fun i k => hx_rep xd 384 Gen.inb_S1920x1536_S384x1536_384_0 i k (by omega)) _ (fun i => hs_rep arg8 x8 1 Gen.inb_S5x384_S1x384_1_0 i (by decide)) Gen.inb_S1920x1280_S384x256_384_256 _ rfl,
    (List.forall_mem_cons.2 ⟨draft_ok xd x8 (Wt x3 x4) 0 1 (by decide) (by decide) 0 256 rfl rfl _ (hwC_1 c arg3 arg4 x3 x4) _ (fun i k => hx_rep xd 0 Gen.inb_S1920x1536_S384x1536_0_0 i k (by omega)) _ (fun i => hs_rep arg8 x8 0 Gen.inb_S5x384_S1x384_0_0 i (by decide)) Gen.inb_S1920x1280_S384x256_0_256 _ rfl,
    dC_5 c arg3 arg4 arg8 x3 x4 x8 xd⟩)⟩)⟩)
theorem dC_11 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runC.sl.H5_11 (F := Ideal) c arg3 arg4 arg8 x3 x4 x8 xd, ∀ x, p.2 x = P5 xd x8 (Wt x3 x4) (p.1.emb x) :=
  (List.forall_mem_cons.2 ⟨draft_ok xd x8 (Wt x3 x4) 0 2 (by decide) (by decide) 0 512 rfl rfl _ (hwC_2 c arg3 arg4 x3 x4) _ (fun i k => hx_rep xd 0 Gen.inb_S1920x1536_S384x1536_0_0 i k (by omega)) _ (fun i => hs_rep arg8 x8 0 Gen.inb_S5x384_S1x384_0_0 i (by decide)) Gen.inb_S1920x1280_S384x256_0_512 _ rfl,
    (List.forall_mem_cons.2 ⟨draft_ok xd x8 (Wt x3 x4) 4 1 (by decide) (by decide) 1536 256 rfl rfl _ (hwC_1 c arg3 arg4 x3 x4) _ (fun i k => hx_rep xd 1536 Gen.inb_S1920x1536_S384x1536_1536_0 i k (by omega)) _ (fun i => hs_rep arg8 x8 4 Gen.inb_S5x384_S1x384_4_0 i (by decide)) Gen.inb_S1920x1280_S384x256_1536_256 _ rfl,
    (List.forall_mem_cons.2 ⟨draft_ok xd x8 (Wt x3 x4) 3 1 (by decide) (by decide) 1152 256 rfl rfl _ (hwC_1 c arg3 arg4 x3 x4) _ (fun i k => hx_rep xd 1152 Gen.inb_S1920x1536_S384x1536_1152_0 i k (by omega)) _ (fun i => hs_rep arg8 x8 3 Gen.inb_S5x384_S1x384_3_0 i (by decide)) Gen.inb_S1920x1280_S384x256_1152_256 _ rfl,
    dC_8 c arg3 arg4 arg8 x3 x4 x8 xd⟩)⟩)⟩)
theorem dC_15 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runC.sl.H5_15 (F := Ideal) c arg3 arg4 arg8 x3 x4 x8 xd, ∀ x, p.2 x = P5 xd x8 (Wt x3 x4) (p.1.emb x) :=
  (List.forall_mem_cons.2 ⟨draft_ok xd x8 (Wt x3 x4) 4 2 (by decide) (by decide) 1536 512 rfl rfl _ (hwC_2 c arg3 arg4 x3 x4) _ (fun i k => hx_rep xd 1536 Gen.inb_S1920x1536_S384x1536_1536_0 i k (by omega)) _ (fun i => hs_rep arg8 x8 4 Gen.inb_S5x384_S1x384_4_0 i (by decide)) Gen.inb_S1920x1280_S384x256_1536_512 _ rfl,
    (List.forall_mem_cons.2 ⟨draft_ok xd x8 (Wt x3 x4) 3 2 (by decide) (by decide) 1152 512 rfl rfl _ (hwC_2 c arg3 arg4 x3 x4) _ (fun i k => hx_rep xd 1152 Gen.inb_S1920x1536_S384x1536_1152_0 i k (by omega)) _ (fun i => hs_rep arg8 x8 3 Gen.inb_S5x384_S1x384_3_0 i (by decide)) Gen.inb_S1920x1280_S384x256_1152_512 _ rfl,
    (List.forall_mem_cons.2 ⟨draft_ok xd x8 (Wt x3 x4) 2 2 (by decide) (by decide) 768 512 rfl rfl _ (hwC_2 c arg3 arg4 x3 x4) _ (fun i k => hx_rep xd 768 Gen.inb_S1920x1536_S384x1536_768_0 i k (by omega)) _ (fun i => hs_rep arg8 x8 2 Gen.inb_S5x384_S1x384_2_0 i (by decide)) Gen.inb_S1920x1280_S384x256_768_512 _ rfl,
    (List.forall_mem_cons.2 ⟨draft_ok xd x8 (Wt x3 x4) 1 2 (by decide) (by decide) 384 512 rfl rfl _ (hwC_2 c arg3 arg4 x3 x4) _ (fun i k => hx_rep xd 384 Gen.inb_S1920x1536_S384x1536_384_0 i k (by omega)) _ (fun i => hs_rep arg8 x8 1 Gen.inb_S5x384_S1x384_1_0 i (by decide)) Gen.inb_S1920x1280_S384x256_384_512 _ rfl,
    dC_11 c arg3 arg4 arg8 x3 x4 x8 xd⟩)⟩)⟩)⟩)
theorem dC_17 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runC.sl.H5_17 (F := Ideal) c arg3 arg4 arg8 x3 x4 x8 xd, ∀ x, p.2 x = P5 xd x8 (Wt x3 x4) (p.1.emb x) :=
  (List.forall_mem_cons.2 ⟨draft_ok xd x8 (Wt x3 x4) 1 3 (by decide) (by decide) 384 768 rfl rfl _ (hwC_3 c arg3 arg4 x3 x4) _ (fun i k => hx_rep xd 384 Gen.inb_S1920x1536_S384x1536_384_0 i k (by omega)) _ (fun i => hs_rep arg8 x8 1 Gen.inb_S5x384_S1x384_1_0 i (by decide)) Gen.inb_S1920x1280_S384x256_384_768 _ rfl,
    (List.forall_mem_cons.2 ⟨draft_ok xd x8 (Wt x3 x4) 0 3 (by decide) (by decide) 0 768 rfl rfl _ (hwC_3 c arg3 arg4 x3 x4) _ (fun i k => hx_rep xd 0 Gen.inb_S1920x1536_S384x1536_0_0 i k (by omega)) _ (fun i => hs_rep arg8 x8 0 Gen.inb_S5x384_S1x384_0_0 i (by decide)) Gen.inb_S1920x1280_S384x256_0_768 _ rfl,
    dC_15 c arg3 arg4 arg8 x3 x4 x8 xd⟩)⟩)
theorem dC_20 (c : Dev nD) (arg3 : Memref sig .tc .vmem S1536x640 .i8) (arg4 : Memref sig .tc .vmem S12x1280 .f32)
    (arg8 : Memref sig .tc .vmem S5x384 .f32) (x3 : Vec Ideal S1536x640 .i8) (x4 : Vec Ideal S12x1280 .f32) (x8 : Vec Ideal S5x384 .f32)
    (xd : Vec Ideal S1920x1536 .bf16) :
    ∀ p ∈ runC.sl.H5_20 (F := Ideal) c arg3 arg4 arg8 x3 x4 x8 xd, ∀ x, p.2 x = P5 xd x8 (Wt x3 x4) (p.1.emb x) :=
  (List.forall_mem_cons.2 ⟨draft_ok xd x8 (Wt x3 x4) 4 3 (by decide) (by decide) 1536 768 rfl rfl _ (hwC_3 c arg3 arg4 x3 x4) _ (fun i k => hx_rep xd 1536 Gen.inb_S1920x1536_S384x1536_1536_0 i k (by omega)) _ (fun i => hs_rep arg8 x8 4 Gen.inb_S5x384_S1x384_4_0 i (by decide)) Gen.inb_S1920x1280_S384x256_1536_768 _ rfl,
    (List.forall_mem_cons.2 ⟨draft_ok xd x8 (Wt x3 x4) 3 3 (by decide) (by decide) 1152 768 rfl rfl _ (hwC_3 c arg3 arg4 x3 x4) _ (fun i k => hx_rep xd 1152 Gen.inb_S1920x1536_S384x1536_1152_0 i k (by omega)) _ (fun i => hs_rep arg8 x8 3 Gen.inb_S5x384_S1x384_3_0 i (by decide)) Gen.inb_S1920x1280_S384x256_1152_768 _ rfl,
    (List.forall_mem_cons.2 ⟨draft_ok xd x8 (Wt x3 x4) 2 3 (by decide) (by decide) 768 768 rfl rfl _ (hwC_3 c arg3 arg4 x3 x4) _ (fun i k => hx_rep xd 768 Gen.inb_S1920x1536_S384x1536_768_0 i k (by omega)) _ (fun i => hs_rep arg8 x8 2 Gen.inb_S5x384_S1x384_2_0 i (by decide)) Gen.inb_S1920x1280_S384x256_768_768 _ rfl,
    dC_17 c arg3 arg4 arg8 x3 x4 x8 xd⟩)⟩)⟩)
theorem vC_5 (c : Dev nD) (arg3 : Memref sig .tc .vmem S1536x640 .i8) (arg4 : Memref sig .tc .vmem S12x1280 .f32)
    (x3 : Vec Ideal S1536x640 .i8) (x4 : Vec Ideal S12x1280 .f32) (xv : Vec Ideal S1920x1536 .bf16) :
    ∀ p ∈ runC.sl.H6_5 (F := Ideal) c arg3 arg4 x3 x4 xv, ∀ x, p.2 x = P6 xv (Wt x3 x4) (p.1.emb x) :=
  (List.forall_mem_cons.2 ⟨other_ok xv (Wt x3 x4) 4 (by decide) 1024 rfl _ (hwC_4 c arg3 arg4 x3 x4) _ (hv_rep xv Gen.inb_S1920x1536_S1920x1536_0_0) Gen.inb_S1920x1280_S1920x256_0_1024 _ rfl,
    (List.forall_mem_cons.2 ⟨other_ok xv (Wt x3 x4) 3 (by decide) 768 rfl _ (hwC_3 c arg3 arg4 x3 x4) _ (hv_rep xv Gen.inb_S1920x1536_S1920x1536_0_0) Gen.inb_S1920x1280_S1920x256_0_768 _ rfl,
    (List.forall_mem_cons.2 ⟨other_ok xv (Wt x3 x4) 2 (by decide) 512 rfl _ (hwC_2 c arg3 arg4 x3 x4) _ (hv_rep xv Gen.inb_S1920x1536_S1920x1536_0_0) Gen.inb_S1920x1280_S1920x256_0_512 _ rfl,
    (List.forall_mem_cons.2 ⟨other_ok xv (Wt x3 x4) 1 (by decide) 256 rfl _ (hwC_1 c arg3 arg4 x3 x4) _ (hv_rep xv Gen.inb_S1920x1536_S1920x1536_0_0) Gen.inb_S1920x1280_S1920x256_0_256 _ rfl,
    (List.forall_mem_cons.2 ⟨other_ok xv (Wt x3 x4) 0 (by decide) 0 rfl _ (hwC_0 c arg3 arg4 x3 x4) _ (hv_rep xv Gen.inb_S1920x1536_S1920x1536_0_0) Gen.inb_S1920x1280_S1920x256_0_0 _ rfl,
    fun p hp => absurd hp List.not_mem_nil⟩)⟩)⟩)⟩)⟩)

/-- Every store to the data product's block at such a grid point. -/
theorem L5C (c : Dev nD) (i : grid0.Coords) (hc1 : ¬ k0_cond1 i = 1#1) (hc2 : lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec Ideal S1536x640 .i8) (x4 : Vec Ideal S12x1280 .f32) (x8 : Vec Ideal S5x384 .f32) (xd xv : Vec Ideal S1920x1536 .bf16)
    (fO : HbBuf0 (F := Ideal) c hbC) (fC : scC.view.ty.Contents (Elt Ideal)) :
    ∀ p ∈ (runC c i hc1 hc2 arg3 harg3 arg4 harg4 arg5 harg5 arg6 harg6 arg8 harg8 x3 x4 x8 xd xv fO fC).1, ∀ x, p.2 x = P5 xd x8 (Wt x3 x4) (p.1.emb x) :=
  (List.forall_mem_cons.2 ⟨draft_ok xd x8 (Wt x3 x4) 4 4 (by decide) (by decide) 1536 1024 rfl rfl _ (hwC_4 c arg3 arg4 x3 x4) _ (fun i k => hx_rep xd 1536 Gen.inb_S1920x1536_S384x1536_1536_0 i k (by omega)) _ (fun i => hs_rep arg8 x8 4 Gen.inb_S5x384_S1x384_4_0 i (by decide)) Gen.inb_S1920x1280_S384x256_1536_1024 _ rfl,
    (List.forall_mem_cons.2 ⟨draft_ok xd x8 (Wt x3 x4) 3 4 (by decide) (by decide) 1152 1024 rfl rfl _ (hwC_4 c arg3 arg4 x3 x4) _ (fun i k => hx_rep xd 1152 Gen.inb_S1920x1536_S384x1536_1152_0 i k (by omega)) _ (fun i => hs_rep arg8 x8 3 Gen.inb_S5x384_S1x384_3_0 i (by decide)) Gen.inb_S1920x1280_S384x256_1152_1024 _ rfl,
    (List.forall_mem_cons.2 ⟨draft_ok xd x8 (Wt x3 x4) 2 4 (by decide) (by decide) 768 1024 rfl rfl _ (hwC_4 c arg3 arg4 x3 x4) _ (fun i k => hx_rep xd 768 Gen.inb_S1920x1536_S384x1536_768_0 i k (by omega)) _ (fun i => hs_rep arg8 x8 2 Gen.inb_S5x384_S1x384_2_0 i (by decide)) Gen.inb_S1920x1280_S384x256_768_1024 _ rfl,
    (List.forall_mem_cons.2 ⟨draft_ok xd x8 (Wt x3 x4) 1 4 (by decide) (by decide) 384 1024 rfl rfl _ (hwC_4 c arg3 arg4 x3 x4) _ (fun i k => hx_rep xd 384 Gen.inb_S1920x1536_S384x1536_384_0 i k (by omega)) _ (fun i => hs_rep arg8 x8 1 Gen.inb_S5x384_S1x384_1_0 i (by decide)) Gen.inb_S1920x1280_S384x256_384_1024 _ rfl,
    (List.forall_mem_cons.2 ⟨draft_ok xd x8 (Wt x3 x4) 0 4 (by decide) (by decide) 0 1024 rfl rfl _ (hwC_4 c arg3 arg4 x3 x4) _ (fun i k => hx_rep xd 0 Gen.inb_S1920x1536_S384x1536_0_0 i k (by omega)) _ (fun i => hs_rep arg8 x8 0 Gen.inb_S5x384_S1x384_0_0 i (by decide)) Gen.inb_S1920x1280_S384x256_0_1024 _ rfl,
    dC_20 c arg3 arg4 arg8 x3 x4 x8 xd⟩)⟩)⟩)⟩)⟩)

/-- Every store to the other product's block at such a grid point. -/
theorem L6C (c : Dev nD) (i : grid0.Coords) (hc1 : ¬ k0_cond1 i = 1#1) (hc2 : lastCond i)
    (arg3 : Memref sig .tc .vmem S1536x640 .i8) (harg3 : arg3.IsWhole) (arg4 : Memref sig .tc .vmem S12x1280 .f32) (harg4 : arg4.IsWhole)
    (arg5 : Memref sig .tc .vmem S1920x1280 .bf16) (harg5 : arg5.IsWhole) (arg6 : Memref sig .tc .vmem S1920x1280 .bf16) (harg6 : arg6.IsWhole)
    (arg8 : Memref sig .tc .vmem S5x384 .f32) (harg8 : arg8.IsWhole)
    (x3 : Vec Ideal S1536x640 .i8) (x4 : Vec Ideal S12x1280 .f32) (x8 : Vec Ideal S5x384 .f32) (xd xv : Vec Ideal S1920x1536 .bf16)
    (fO : HbBuf0 (F := Ideal) c hbC) (fC : scC.view.ty.Contents (Elt Ideal)) :
    ∀ p ∈ (runC c i hc1 hc2 arg3 harg3 arg4 harg4 arg5 harg5 arg6 harg6 arg8 harg8 x3 x4 x8 xd xv fO fC).2.1, ∀ x, p.2 x = P6 xv (Wt x3 x4) (p.1.emb x) := vC_5 c arg3 arg4 x3 x4 xv

end Cert.Spec
end
-- ==== Proof.KIActs.lean ====
/-
  The activations the kernel keeps: the rotated rows, their codes and their scales.
-/
module

public import proofs.«01_k».proof.Proof.KIPoints
public import proofs.«01_k».proof.Proof.Math
public import proofs.«01_k».proof.Proof.KIPiece

@[expose] public section

set_option maxRecDepth 16384

noncomputable section

namespace Cert.Spec

open Idealize.ShloMosaic Idealize.SL.Sem
open Cert.KernelIdeal Cert.KernelIdeal.Hand

/-- A row rotated. -/
def rotR (f : S1920x1536.Idx → EReal) (i : Fin 1920) : Fin 1536 → EReal := rotS fun k => f (ix2 i k)
/-- The codes as extended reals, the codes, the scales, and the rotated rows themselves. -/
def XDs (f : S1920x1536.Idx → EReal) (y : S1920x1536.Idx) : EReal := qS (rotR f (y 0) (y 1)) (sclS (rotR f (y 0)))
def COs (f : S1920x1536.Idx → EReal) (y : S1920x1536.Idx) : BitVec 8 := FloatOps.fptosi (F := Ideal) (φ := .f32) 8 (XDs f y)
/-- The row a scale belongs to. -/
theorem rowOf_lt (y : S5x384.Idx) : 384 * (y 0).val + (y 1).val < 1920 := by
  have h0 : (y 0).val < 5 := (y 0).isLt
  have h1 : (y 1).val < 384 := (y 1).isLt
  omega
def rowOf (y : S5x384.Idx) : Fin 1920 := ⟨384 * (y 0).val + (y 1).val, rowOf_lt y⟩
def SCs (f : S1920x1536.Idx → EReal) (y : S5x384.Idx) : EReal := sclS (rotR f (rowOf y))
def XVs (f : S1920x1536.Idx → EReal) (y : S1920x1536.Idx) : EReal := rotR f (y 0) (y 1)

theorem hadK_run : runA.sl.r (F := Ideal) = hadK := rfl

section Chunk
variable (f : S1920x1536.Idx → EReal) (b : ℕ) (hb : b < 5) (v : Vec Ideal S1x1x384x1536 .bf16)
  (hv : ∀ (r : Fin 384) (k : Fin 1536), v (ix4 0 0 r k) = f (ix2 ⟨384 * b + r.val, by omega⟩ k))

include hv in
theorem row_eq (r : Fin 384) : rotS (fun k => v (ix4 0 0 r k)) = rotR f ⟨384 * b + r.val, by omega⟩ := by
  unfold rotR; exact congrArg rotS (funext fun k => hv r k)

variable (a : ℕ) (ha : a = 384 * b)

include ha in
theorem at_emb {α : Type} (G : S1920x1536.Idx → α) (inb : ∀ c, (![a, 0] : Fin 2 → ℕ) c + S384x1536.size c ≤ S1920x1536.size c) (r : Fin 384) (k : Fin 1536) :
    G (ix2 ⟨384 * b + r.val, by omega⟩ k) = G ((Rect.unit (s := S1920x1536) ![a, 0] S384x1536.size inb).emb (ix2 r k)) := by
  subst ha
  exact congrArg G ((emb2 (n := 1920) (k := 1536) (p := 384) (q := 1536) (384 * b) 0 inb r k (by omega) (by omega)).trans
    (congrArg₂ ix2 rfl (Fin.ext (Nat.zero_add _)))).symm

include hv ha in
theorem cd_ok (inb : ∀ c, (![a, 0] : Fin 2 → ℕ) c + S384x1536.size c ≤ S1920x1536.size c) (pay : FVec Ideal S384x1536 .bf16)
    (hp : pay = Gen.k0_pay11 (Gen.k0_pay10 hadK v)) :
    ∀ z : S384x1536.Idx, pay z = XDs f ((Rect.unit (s := S1920x1536) ![a, 0] S384x1536.size inb).emb z) := by
  subst hp
  intro z
  obtain ⟨r, k, rfl⟩ := ix2_eta z
  rw [← at_emb b hb a ha (XDs f) inb]
  have e : Gen.k0_pay11 (F := Ideal) (Gen.k0_pay10 hadK v) = (Gen.k0_pay8 hadK v : S384x1536.Idx → EReal) := by
    unfold Gen.k0_pay11 Gen.k0_pay10; dsimp only; rw [shapeCast_self]; rfl
  rw [e, pay8_apply, row_eq f b hb v hv]; rfl

include hv ha in
theorem cc_ok (inb : ∀ c, (![a, 0] : Fin 2 → ℕ) c + S384x1536.size c ≤ S1920x1536.size c) (pay : IVec S384x1536 8)
    (hp : pay = Gen.k0_pay9 hadK v) :
    ∀ z : S384x1536.Idx, pay z = COs f ((Rect.unit (s := S1920x1536) ![a, 0] S384x1536.size inb).emb z) := by
  subst hp
  intro z
  obtain ⟨r, k, rfl⟩ := ix2_eta z
  rw [← at_emb b hb a ha (COs f) inb]
  have e : Gen.k0_pay9 (F := Ideal) hadK v = fun z => FloatOps.fptosi (F := Ideal) (φ := .f32) 8 (Gen.k0_pay8 hadK v z) := by
    unfold Gen.k0_pay9; dsimp only; rw [shapeCast_self]; rfl
  rw [e]; dsimp only
  rw [pay8_apply, row_eq f b hb v hv]; rfl

include hv ha in
theorem cv_ok (inb : ∀ c, (![a, 0] : Fin 2 → ℕ) c + S384x1536.size c ≤ S1920x1536.size c) (pay : FVec Ideal S384x1536 .bf16)
    (hp : pay = Gen.k0_pay13 hadK v) :
    ∀ z : S384x1536.Idx, pay z = XVs f ((Rect.unit (s := S1920x1536) ![a, 0] S384x1536.size inb).emb z) := by
  subst hp
  intro z
  obtain ⟨r, k, rfl⟩ := ix2_eta z
  rw [← at_emb b hb a ha (XVs f) inb, pay13_apply, row_eq f b hb v hv]; rfl

include hv in
theorem cs_ok (inb : ∀ c, (![b, 0] : Fin 2 → ℕ) c + S1x384.size c ≤ S5x384.size c) (pay : FVec Ideal S1x384 .f32)
    (hp : pay = Gen.k0_pay12 (Gen.k0_pay7 hadK v)) :
    ∀ z : S1x384.Idx, pay z = SCs f ((Rect.unit (s := S5x384) ![b, 0] S1x384.size inb).emb z) := by
  subst hp
  intro z
  obtain ⟨o, r, rfl⟩ := ix2_eta z
  have ho : o = 0 := Fin.ext (by have : o.val < 1 := o.isLt; show o.val = 0; omega)
  subst ho
  have e : Gen.k0_pay12 (F := Ideal) (Gen.k0_pay7 hadK v) (ix2 0 r) = Gen.k0_pay7 hadK v (ix2 r 0) := by
    unfold Gen.k0_pay12
    generalize Gen.k0_pay7 (F := Ideal) hadK v = X
    pointwise
  rw [e, pay7_apply, row_eq f b hb v hv]
  refine Eq.trans ?_ (congrArg (SCs f) (emb2 (n := 5) (k := 384) (p := 1) (q := 384) b 0 inb 0 r (by omega) (by omega)).symm)
  unfold SCs
  exact congrArg sclS (congrArg (rotR f) (Fin.ext (by show 384 * b + r.val = 384 * (b + 0) + (0 + r.val); omega)))

end Chunk

/-- A chunk as the load reads it. -/
theorem load_chunk (w : S384x1536.Idx → EReal) (v : Vec Ideal S1x1x384x1536 .bf16) (h : v = shapeCast S1x1x384x1536 w up_hc) (r : Fin 384) (k : Fin 1536) :
    v (ix4 0 0 r k) = w (ix2 r k) := by
  have h' : shapeCast S384x1536 v up_hc.symm = w := by rw [h, shapeCast_shapeCast]
  rw [← h']
  pointwise

variable (c : Dev nD) (fA : HbBuf0 (F := Ideal) c hbA) (fB : HbBuf0 (F := Ideal) c hbB) (fX : scX.view.ty.Contents (Elt Ideal))

/-- The activations' arrays as indexed values. -/
abbrev actA : S1920x1536.Idx → EReal := hbA.view.read (Elt Ideal) fA
abbrev actB : S1920x1536.Idx → EReal := hbB.view.read (Elt Ideal) fB

theorem ld1506 (r : Fin 384) (k : Fin 1536) : runA.sl.v1506 (F := Ideal) c fA fB fX (ix4 0 0 r k) = actA c fA (ix2 ⟨384 * 0 + r.val, by omega⟩ k) := by
  refine (load_chunk _ _ (v1506_eq c fA fB fX) r k).trans ?_
  exact congrArg (actA c fA) ((emb2 (n := 1920) (k := 1536) (p := 384) (q := 1536) 0 0 Gen.inb_S1920x1536_S384x1536_0_0 r k (by omega) (by omega)).trans
    (congrArg₂ ix2 rfl (Fin.ext (Nat.zero_add _))))
theorem ld1594 (r : Fin 384) (k : Fin 1536) : runA.sl.v1594 (F := Ideal) c fA fB fX (ix4 0 0 r k) = actA c fA (ix2 ⟨384 * 1 + r.val, by omega⟩ k) := by
  refine (load_chunk _ _ (v1594_eq c fA fB fX) r k).trans ?_
  exact congrArg (actA c fA) ((emb2 (n := 1920) (k := 1536) (p := 384) (q := 1536) 384 0 Gen.inb_S1920x1536_S384x1536_384_0 r k (by omega) (by omega)).trans
    (congrArg₂ ix2 rfl (Fin.ext (Nat.zero_add _))))
theorem ld1682 (r : Fin 384) (k : Fin 1536) : runA.sl.v1682 (F := Ideal) c fA fB fX (ix4 0 0 r k) = actA c fA (ix2 ⟨384 * 2 + r.val, by omega⟩ k) := by
  refine (load_chunk _ _ (v1682_eq c fA fB fX) r k).trans ?_
  exact congrArg (actA c fA) ((emb2 (n := 1920) (k := 1536) (p := 384) (q := 1536) 768 0 Gen.inb_S1920x1536_S384x1536_768_0 r k (by omega) (by omega)).trans
    (congrArg₂ ix2 rfl (Fin.ext (Nat.zero_add _))))
theorem ld1770 (r : Fin 384) (k : Fin 1536) : runA.sl.v1770 (F := Ideal) c fA fB fX (ix4 0 0 r k) = actA c fA (ix2 ⟨384 * 3 + r.val, by omega⟩ k) := by
  refine (load_chunk _ _ (v1770_eq c fA fB fX) r k).trans ?_
  exact congrArg (actA c fA) ((emb2 (n := 1920) (k := 1536) (p := 384) (q := 1536) 1152 0 Gen.inb_S1920x1536_S384x1536_1152_0 r k (by omega) (by omega)).trans
    (congrArg₂ ix2 rfl (Fin.ext (Nat.zero_add _))))
theorem ld1848 (r : Fin 384) (k : Fin 1536) : runA.sl.v1848 (F := Ideal) c fA fB fX (ix4 0 0 r k) = actA c fA (ix2 ⟨384 * 4 + r.val, by omega⟩ k) := by
  refine (load_chunk _ _ (v1848_eq c fA fB fX) r k).trans ?_
  exact congrArg (actA c fA) ((emb2 (n := 1920) (k := 1536) (p := 384) (q := 1536) 1536 0 Gen.inb_S1920x1536_S384x1536_1536_0 r k (by omega) (by omega)).trans
    (congrArg₂ ix2 rfl (Fin.ext (Nat.zero_add _))))
theorem ld1553 (r : Fin 384) (k : Fin 1536) : runA.sl.v1553 (F := Ideal) c fA fB fX (ix4 0 0 r k) = actB c fB (ix2 ⟨384 * 0 + r.val, by omega⟩ k) := by
  refine (load_chunk _ _ (v1553_eq c fA fB fX) r k).trans ?_
  exact congrArg (actB c fB) ((emb2 (n := 1920) (k := 1536) (p := 384) (q := 1536) 0 0 Gen.inb_S1920x1536_S384x1536_0_0 r k (by omega) (by omega)).trans
    (congrArg₂ ix2 rfl (Fin.ext (Nat.zero_add _))))
theorem ld1641 (r : Fin 384) (k : Fin 1536) : runA.sl.v1641 (F := Ideal) c fA fB fX (ix4 0 0 r k) = actB c fB (ix2 ⟨384 * 1 + r.val, by omega⟩ k) := by
  refine (load_chunk _ _ (v1641_eq c fA fB fX) r k).trans ?_
  exact congrArg (actB c fB) ((emb2 (n := 1920) (k := 1536) (p := 384) (q := 1536) 384 0 Gen.inb_S1920x1536_S384x1536_384_0 r k (by omega) (by omega)).trans
    (congrArg₂ ix2 rfl (Fin.ext (Nat.zero_add _))))
theorem ld1729 (r : Fin 384) (k : Fin 1536) : runA.sl.v1729 (F := Ideal) c fA fB fX (ix4 0 0 r k) = actB c fB (ix2 ⟨384 * 2 + r.val, by omega⟩ k) := by
  refine (load_chunk _ _ (v1729_eq c fA fB fX) r k).trans ?_
  exact congrArg (actB c fB) ((emb2 (n := 1920) (k := 1536) (p := 384) (q := 1536) 768 0 Gen.inb_S1920x1536_S384x1536_768_0 r k (by omega) (by omega)).trans
    (congrArg₂ ix2 rfl (Fin.ext (Nat.zero_add _))))
theorem ld1817 (r : Fin 384) (k : Fin 1536) : runA.sl.v1817 (F := Ideal) c fA fB fX (ix4 0 0 r k) = actB c fB (ix2 ⟨384 * 3 + r.val, by omega⟩ k) := by
  refine (load_chunk _ _ (v1817_eq c fA fB fX) r k).trans ?_
  exact congrArg (actB c fB) ((emb2 (n := 1920) (k := 1536) (p := 384) (q := 1536) 1152 0 Gen.inb_S1920x1536_S384x1536_1152_0 r k (by omega) (by omega)).trans
    (congrArg₂ ix2 rfl (Fin.ext (Nat.zero_add _))))
theorem ld1895 (r : Fin 384) (k : Fin 1536) : runA.sl.v1895 (F := Ideal) c fA fB fX (ix4 0 0 r k) = actB c fB (ix2 ⟨384 * 4 + r.val, by omega⟩ k) := by
  refine (load_chunk _ _ (v1895_eq c fA fB fX) r k).trans ?_
  exact congrArg (actB c fB) ((emb2 (n := 1920) (k := 1536) (p := 384) (q := 1536) 1536 0 Gen.inb_S1920x1536_S384x1536_1536_0 r k (by omega) (by omega)).trans
    (congrArg₂ ix2 rfl (Fin.ext (Nat.zero_add _))))
theorem HD_ok : ∀ p ∈ runA.sl.HD_5 (F := Ideal) c fA fB fX, ∀ x, p.2 x = XDs (actA c fA) (p.1.emb x) :=
  (List.forall_mem_cons.2 ⟨cd_ok (actA c fA) 4 (by decide) (runA.sl.v1848 c fA fB fX) (ld1848 c fA fB fX) 1536 rfl Gen.inb_S1920x1536_S384x1536_1536_0 _ rfl,
    (List.forall_mem_cons.2 ⟨cd_ok (actA c fA) 3 (by decide) (runA.sl.v1770 c fA fB fX) (ld1770 c fA fB fX) 1152 rfl Gen.inb_S1920x1536_S384x1536_1152_0 _ rfl,
    (List.forall_mem_cons.2 ⟨cd_ok (actA c fA) 2 (by decide) (runA.sl.v1682 c fA fB fX) (ld1682 c fA fB fX) 768 rfl Gen.inb_S1920x1536_S384x1536_768_0 _ rfl,
    (List.forall_mem_cons.2 ⟨cd_ok (actA c fA) 1 (by decide) (runA.sl.v1594 c fA fB fX) (ld1594 c fA fB fX) 384 rfl Gen.inb_S1920x1536_S384x1536_384_0 _ rfl,
    (List.forall_mem_cons.2 ⟨cd_ok (actA c fA) 0 (by decide) (runA.sl.v1506 c fA fB fX) (ld1506 c fA fB fX) 0 rfl Gen.inb_S1920x1536_S384x1536_0_0 _ rfl,
    fun p hp => absurd hp List.not_mem_nil⟩)⟩)⟩)⟩)⟩)

theorem HC_ok : ∀ p ∈ runA.sl.HC_5 (F := Ideal) c fA fB fX, ∀ x, p.2 x = COs (actA c fA) (p.1.emb x) :=
  (List.forall_mem_cons.2 ⟨cc_ok (actA c fA) 4 (by decide) (runA.sl.v1848 c fA fB fX) (ld1848 c fA fB fX) 1536 rfl Gen.inb_S1920x1536_S384x1536_1536_0 _ rfl,
    (List.forall_mem_cons.2 ⟨cc_ok (actA c fA) 3 (by decide) (runA.sl.v1770 c fA fB fX) (ld1770 c fA fB fX) 1152 rfl Gen.inb_S1920x1536_S384x1536_1152_0 _ rfl,
    (List.forall_mem_cons.2 ⟨cc_ok (actA c fA) 2 (by decide) (runA.sl.v1682 c fA fB fX) (ld1682 c fA fB fX) 768 rfl Gen.inb_S1920x1536_S384x1536_768_0 _ rfl,
    (List.forall_mem_cons.2 ⟨cc_ok (actA c fA) 1 (by decide) (runA.sl.v1594 c fA fB fX) (ld1594 c fA fB fX) 384 rfl Gen.inb_S1920x1536_S384x1536_384_0 _ rfl,
    (List.forall_mem_cons.2 ⟨cc_ok (actA c fA) 0 (by decide) (runA.sl.v1506 c fA fB fX) (ld1506 c fA fB fX) 0 rfl Gen.inb_S1920x1536_S384x1536_0_0 _ rfl,
    fun p hp => absurd hp List.not_mem_nil⟩)⟩)⟩)⟩)⟩)

theorem HV_ok : ∀ p ∈ runA.sl.HV_5 (F := Ideal) c fA fB fX, ∀ x, p.2 x = XVs (actB c fB) (p.1.emb x) :=
  (List.forall_mem_cons.2 ⟨cv_ok (actB c fB) 4 (by decide) (runA.sl.v1895 c fA fB fX) (ld1895 c fA fB fX) 1536 rfl Gen.inb_S1920x1536_S384x1536_1536_0 _ rfl,
    (List.forall_mem_cons.2 ⟨cv_ok (actB c fB) 3 (by decide) (runA.sl.v1817 c fA fB fX) (ld1817 c fA fB fX) 1152 rfl Gen.inb_S1920x1536_S384x1536_1152_0 _ rfl,
    (List.forall_mem_cons.2 ⟨cv_ok (actB c fB) 2 (by decide) (runA.sl.v1729 c fA fB fX) (ld1729 c fA fB fX) 768 rfl Gen.inb_S1920x1536_S384x1536_768_0 _ rfl,
    (List.forall_mem_cons.2 ⟨cv_ok (actB c fB) 1 (by decide) (runA.sl.v1641 c fA fB fX) (ld1641 c fA fB fX) 384 rfl Gen.inb_S1920x1536_S384x1536_384_0 _ rfl,
    (List.forall_mem_cons.2 ⟨cv_ok (actB c fB) 0 (by decide) (runA.sl.v1553 c fA fB fX) (ld1553 c fA fB fX) 0 rfl Gen.inb_S1920x1536_S384x1536_0_0 _ rfl,
    fun p hp => absurd hp List.not_mem_nil⟩)⟩)⟩)⟩)⟩)

theorem p8_0 : Gen.k0_pay12 (runA.sl.r_1 (F := Ideal) c fA fB fX) = Gen.k0_pay12 (Gen.k0_pay7 hadK (runA.sl.v1506 c fA fB fX)) := rfl
theorem p8_1 : Gen.k0_pay24 runA.sl.r (runA.sl.r_3 (F := Ideal) c fA fB fX) (runA.sl.r_4 c fA fB fX) (runA.sl.r_5 c fA fB fX) (runA.sl.r_6 c fA fB fX) (runA.sl.r_7 c fA fB fX)
    = Gen.k0_pay12 (Gen.k0_pay7 hadK (runA.sl.v1594 c fA fB fX)) := rfl
theorem p8_2 : Gen.k0_pay32 (runA.sl.r_9 (F := Ideal) c fA fB fX) = Gen.k0_pay12 (Gen.k0_pay7 hadK (runA.sl.v1682 c fA fB fX)) := rfl
theorem p8_3 : Gen.k0_pay47 (runA.sl.r_16 (F := Ideal) c fA fB fX) = Gen.k0_pay12 (Gen.k0_pay7 hadK (runA.sl.v1770 c fA fB fX)) := rfl
theorem p8_4 : Gen.k0_pay55 (runA.sl.r_19 (F := Ideal) c fA fB fX) = Gen.k0_pay12 (Gen.k0_pay7 hadK (runA.sl.v1848 c fA fB fX)) := rfl
theorem s8_0 : ∀ z : S1x384.Idx, Gen.k0_pay12 (runA.sl.r_1 (F := Ideal) c fA fB fX) z = SCs (actA c fA) ((Rect.unit (s := S5x384) ![0, 0] S1x384.size Gen.inb_S5x384_S1x384_0_0).emb z) :=
  cs_ok (actA c fA) 0 (by decide) (runA.sl.v1506 c fA fB fX) (ld1506 c fA fB fX) Gen.inb_S5x384_S1x384_0_0 _ (p8_0 c fA fB fX)
theorem s8_1 : ∀ z : S1x384.Idx, Gen.k0_pay24 runA.sl.r (runA.sl.r_3 (F := Ideal) c fA fB fX) (runA.sl.r_4 c fA fB fX) (runA.sl.r_5 c fA fB fX) (runA.sl.r_6 c fA fB fX) (runA.sl.r_7 c fA fB fX) z = SCs (actA c fA) ((Rect.unit (s := S5x384) ![1, 0] S1x384.size Gen.inb_S5x384_S1x384_1_0).emb z) :=
  cs_ok (actA c fA) 1 (by decide) (runA.sl.v1594 c fA fB fX) (ld1594 c fA fB fX) Gen.inb_S5x384_S1x384_1_0 _ (p8_1 c fA fB fX)
theorem s8_2 : ∀ z : S1x384.Idx, Gen.k0_pay32 (runA.sl.r_9 (F := Ideal) c fA fB fX) z = SCs (actA c fA) ((Rect.unit (s := S5x384) ![2, 0] S1x384.size Gen.inb_S5x384_S1x384_2_0).emb z) :=
  cs_ok (actA c fA) 2 (by decide) (runA.sl.v1682 c fA fB fX) (ld1682 c fA fB fX) Gen.inb_S5x384_S1x384_2_0 _ (p8_2 c fA fB fX)
theorem s8_3 : ∀ z : S1x384.Idx, Gen.k0_pay47 (runA.sl.r_16 (F := Ideal) c fA fB fX) z = SCs (actA c fA) ((Rect.unit (s := S5x384) ![3, 0] S1x384.size Gen.inb_S5x384_S1x384_3_0).emb z) :=
  cs_ok (actA c fA) 3 (by decide) (runA.sl.v1770 c fA fB fX) (ld1770 c fA fB fX) Gen.inb_S5x384_S1x384_3_0 _ (p8_3 c fA fB fX)
theorem s8_4 : ∀ z : S1x384.Idx, Gen.k0_pay55 (runA.sl.r_19 (F := Ideal) c fA fB fX) z = SCs (actA c fA) ((Rect.unit (s := S5x384) ![4, 0] S1x384.size Gen.inb_S5x384_S1x384_4_0).emb z) :=
  cs_ok (actA c fA) 4 (by decide) (runA.sl.v1848 c fA fB fX) (ld1848 c fA fB fX) Gen.inb_S5x384_S1x384_4_0 _ (p8_4 c fA fB fX)
theorem H8_list (g : S5x384.Idx → EReal) (q0 q1 q2 q3 q4 : FVec Ideal S1x384 .f32) (h0 : ∀ z : S1x384.Idx, q0 z = g ((Rect.unit (s := S5x384) ![0, 0] S1x384.size Gen.inb_S5x384_S1x384_0_0).emb z)) (h1 : ∀ z : S1x384.Idx, q1 z = g ((Rect.unit (s := S5x384) ![1, 0] S1x384.size Gen.inb_S5x384_S1x384_1_0).emb z)) (h2 : ∀ z : S1x384.Idx, q2 z = g ((Rect.unit (s := S5x384) ![2, 0] S1x384.size Gen.inb_S5x384_S1x384_2_0).emb z)) (h3 : ∀ z : S1x384.Idx, q3 z = g ((Rect.unit (s := S5x384) ![3, 0] S1x384.size Gen.inb_S5x384_S1x384_3_0).emb z)) (h4 : ∀ z : S1x384.Idx, q4 z = g ((Rect.unit (s := S5x384) ![4, 0] S1x384.size Gen.inb_S5x384_S1x384_4_0).emb z)) :
    ∀ p ∈ [(⟨Rect.unit (s := S5x384) ![4, 0] S1x384.size Gen.inb_S5x384_S1x384_4_0, q4⟩ : View.Piece (Elt Ideal) S5x384 .f32), (⟨Rect.unit (s := S5x384) ![3, 0] S1x384.size Gen.inb_S5x384_S1x384_3_0, q3⟩ : View.Piece (Elt Ideal) S5x384 .f32), (⟨Rect.unit (s := S5x384) ![2, 0] S1x384.size Gen.inb_S5x384_S1x384_2_0, q2⟩ : View.Piece (Elt Ideal) S5x384 .f32), (⟨Rect.unit (s := S5x384) ![1, 0] S1x384.size Gen.inb_S5x384_S1x384_1_0, q1⟩ : View.Piece (Elt Ideal) S5x384 .f32), (⟨Rect.unit (s := S5x384) ![0, 0] S1x384.size Gen.inb_S5x384_S1x384_0_0, q0⟩ : View.Piece (Elt Ideal) S5x384 .f32)], ∀ x, p.2 x = g (p.1.emb x) :=
  List.forall_mem_cons.2 ⟨h4, List.forall_mem_cons.2 ⟨h3, List.forall_mem_cons.2 ⟨h2, List.forall_mem_cons.2 ⟨h1, List.forall_mem_cons.2 ⟨h0, fun p hp => absurd hp List.not_mem_nil⟩⟩⟩⟩⟩
theorem H8_eq : runA.sl.H8_5 (F := Ideal) c fA fB fX = [(⟨Rect.unit (s := S5x384) ![4, 0] S1x384.size Gen.inb_S5x384_S1x384_4_0, Gen.k0_pay55 (runA.sl.r_19 (F := Ideal) c fA fB fX)⟩ : View.Piece (Elt Ideal) S5x384 .f32), (⟨Rect.unit (s := S5x384) ![3, 0] S1x384.size Gen.inb_S5x384_S1x384_3_0, Gen.k0_pay47 (runA.sl.r_16 (F := Ideal) c fA fB fX)⟩ : View.Piece (Elt Ideal) S5x384 .f32), (⟨Rect.unit (s := S5x384) ![2, 0] S1x384.size Gen.inb_S5x384_S1x384_2_0, Gen.k0_pay32 (runA.sl.r_9 (F := Ideal) c fA fB fX)⟩ : View.Piece (Elt Ideal) S5x384 .f32), (⟨Rect.unit (s := S5x384) ![1, 0] S1x384.size Gen.inb_S5x384_S1x384_1_0, Gen.k0_pay24 runA.sl.r (runA.sl.r_3 (F := Ideal) c fA fB fX) (runA.sl.r_4 c fA fB fX) (runA.sl.r_5 c fA fB fX) (runA.sl.r_6 c fA fB fX) (runA.sl.r_7 c fA fB fX)⟩ : View.Piece (Elt Ideal) S5x384 .f32), (⟨Rect.unit (s := S5x384) ![0, 0] S1x384.size Gen.inb_S5x384_S1x384_0_0, Gen.k0_pay12 (runA.sl.r_1 (F := Ideal) c fA fB fX)⟩ : View.Piece (Elt Ideal) S5x384 .f32)] := rfl
theorem H8_ok : ∀ p ∈ runA.sl.H8_5 (F := Ideal) c fA fB fX, ∀ x, p.2 x = SCs (actA c fA) (p.1.emb x) := by
  rw [H8_eq]
  exact H8_list (SCs (actA c fA)) (Gen.k0_pay12 (runA.sl.r_1 (F := Ideal) c fA fB fX)) (Gen.k0_pay24 runA.sl.r (runA.sl.r_3 (F := Ideal) c fA fB fX) (runA.sl.r_4 c fA fB fX) (runA.sl.r_5 c fA fB fX) (runA.sl.r_6 c fA fB fX) (runA.sl.r_7 c fA fB fX)) (Gen.k0_pay32 (runA.sl.r_9 (F := Ideal) c fA fB fX)) (Gen.k0_pay47 (runA.sl.r_16 (F := Ideal) c fA fB fX)) (Gen.k0_pay55 (runA.sl.r_19 (F := Ideal) c fA fB fX)) (s8_0 c fA fB fX) (s8_1 c fA fB fX) (s8_2 c fA fB fX) (s8_3 c fA fB fX) (s8_4 c fA fB fX)
theorem XD_eq : View.canon (runA.sl.HD_5 (F := Ideal) c fA fB fX) = XDs (actA c fA) :=
  funext fun y => View.canon_apply_of_pieces _ _ (HD_ok c fA fB fX) y (cover_HD c fA fB fX y)
theorem CO_eq : View.canon (runA.sl.HC_5 (F := Ideal) c fA fB fX) = COs (actA c fA) :=
  funext fun y => View.canon_apply_of_pieces _ _ (HC_ok c fA fB fX) y (cover_HC c fA fB fX y)
theorem XV_eq : View.canon (runA.sl.HV_5 (F := Ideal) c fA fB fX) = XVs (actB c fB) :=
  funext fun y => View.canon_apply_of_pieces _ _ (HV_ok c fA fB fX) y (cover_HV c fA fB fX y)
theorem SC_eq : View.canon (runA.sl.H8_5 (F := Ideal) c fA fB fX) = SCs (actA c fA) :=
  funext fun y => View.canon_apply_of_pieces _ _ (H8_ok c fA fB fX) y (cover_H8 c fA fB fX y)

end Cert.Spec
end
-- ==== Proof.Values.lean ====
/-
  What the two programs compute, as functions of the four arguments.
-/
module

public import proofs.«01_k».proof.Proof.Math
public import proofs.«01_k».proof.Proof.Dec

@[expose] public section

set_option maxRecDepth 16384

noncomputable section

namespace Cert.Spec

open Idealize.ShloMosaic Idealize.SL.Sem

/-- One row of an operand, its rows counted through. -/
def rowS (x : Shape.Idx ⟨3, ![5, 384, 1536]⟩ → EReal) (i : Fin 1920) : Fin 1536 → EReal := fun k => x (ix3 ⟨i.val / 384, by omega⟩ ⟨i.val % 384, by omega⟩ k)
/-- The decoded weights with their scales. -/
def WF (q : Shape.Idx ⟨2, ![1536, 4480]⟩ → BitVec 8) (s : Shape.Idx ⟨2, ![12, 8960]⟩ → EReal) (i : Fin 1536) (j : Fin 8960) : EReal :=
  FloatOps.sitofp (F := Ideal) .bf16 (nibB (4 * (j.val % 2)) (q (ix2 i ⟨j.val / 2, by omega⟩))) * s (ix2 ⟨i.val / 128, by omega⟩ j)
/-- The scales. -/
def spSC (x : Shape.Idx ⟨3, ![5, 384, 1536]⟩ → EReal) (y : Shape.Idx ⟨2, ![5, 384]⟩) : EReal := sclS (rotS fun k => x (ix3 (y 0) (y 1) k))
/-- The codes as extended reals, and the codes. -/
def spQ (x : Shape.Idx ⟨3, ![5, 384, 1536]⟩ → EReal) (i : Fin 1920) (k : Fin 1536) : EReal := qS (rotS (rowS x i) k) (sclS (rotS (rowS x i)))
def spCO (x : Shape.Idx ⟨3, ![5, 384, 1536]⟩ → EReal) (y : Shape.Idx ⟨2, ![1920, 1536]⟩) : BitVec 8 :=
  FloatOps.fptosi (F := Ideal) (φ := .f32) 8 (spQ x (y 0) (y 1))
/-- The product of the codes, rescaled. -/
def spYD (x : Shape.Idx ⟨3, ![5, 384, 1536]⟩ → EReal) (q : Shape.Idx ⟨2, ![1536, 4480]⟩ → BitVec 8) (s : Shape.Idx ⟨2, ![12, 8960]⟩ → EReal)
    (y : Shape.Idx ⟨2, ![1920, 8960]⟩) : EReal := (∑ k : Fin 1536, spQ x (y 0) k * WF q s k (y 1)) * sclS (rotS (rowS x (y 0)))
/-- The product of the rotated rows. -/
def spYV (x : Shape.Idx ⟨3, ![5, 384, 1536]⟩ → EReal) (q : Shape.Idx ⟨2, ![1536, 4480]⟩ → BitVec 8) (s : Shape.Idx ⟨2, ![12, 8960]⟩ → EReal)
    (y : Shape.Idx ⟨2, ![1920, 8960]⟩) : EReal := ∑ k : Fin 1536, rotS (rowS x (y 0)) k * WF q s k (y 1)

end Cert.Spec
end
-- ==== Proof.KIValue.lean ====
/-
  What the kernel leaves in its four results.
-/
module

public import proofs.«01_k».proof.Proof.KIFrame
public import proofs.«01_k».proof.Proof.KIBlocks
public import proofs.«01_k».proof.Proof.KIActs
public import proofs.«01_k».proof.Proof.Values
public import Idealize.ShloMosaic.Lib.Pipeline.Value
public import Idealize.ShloMosaic.Lib.StableHlo.ReadAt
public import Idealize.ShloMosaic.Lib.Claim

@[expose] public section

set_option maxRecDepth 16384

noncomputable section

namespace Cert.Spec

open Idealize.ShloMosaic Idealize.SL.Sem Idealize.ShloMosaic.TcCoe
open Cert.KernelIdeal Cert.KernelIdeal.Gen Cert.KernelIdeal.Hand
open Idealize.ShloMosaic.Pipeline (Dat Window)

variable (m : (ℓ : Loc nD τ sig) → Buf (Elt Ideal) ℓ)

/-- The rows the kernel rotates for the codes are the first argument's. -/
theorem act0 (c : Dev nD) (i : Fin 1920) (k : Fin 1536) : actA c (V m c main_v0) (ix2 i k) = rowS (m ((c.tc : Thread nD τ).loc main_arg0)) i k := by
  show (show EReal from V (F := Ideal) m c main_v0 (ix2 i k)) = _
  unfold V
  after_reads_simp
  clean_types
  pointwise
  rfl
/-- The other rows are the second argument's. -/
theorem act1 (c : Dev nD) (i : Fin 1920) (k : Fin 1536) : actB c (V m c main_v1) (ix2 i k) = rowS (m ((c.tc : Thread nD τ).loc main_arg1)) i k := by
  show (show EReal from V (F := Ideal) m c main_v1 (ix2 i k)) = _
  unfold V
  after_reads_simp
  clean_types
  pointwise
  rfl

theorem XDm (c : Dev nD) : XD m c = XDs (actA c (V m c main_v0)) := XD_eq c _ _ _
theorem XVm (c : Dev nD) : XV m c = XVs (actB c (V m c main_v1)) := XV_eq c _ _ _
theorem COm (c : Dev nD) : CO m c = COs (actA c (V m c main_v0)) := CO_eq c _ _ _
theorem SCm (c : Dev nD) : SC m c = SCs (actA c (V m c main_v0)) := SC_eq c _ _ _

/-! ## The blocks of the two products -/

theorem out5_eq (c : Dev nD) (t : Fin cfg0.N) (y : S1920x1280.Idx) : out5 m c t y = P5 (XD m c) (SC m c) (Wt (iblk m c 0 t) (iblk m c 1 t)) y := by
  unfold out5
  split_ifs with h h'
  · exact View.canon_apply_of_pieces _ _ (L5A c _ _ _ _ _ _ _ _ _ _ _ _ _ _ _ _ _ _) y (cover_rA5 m c t h _ y)
  · exact View.canon_apply_of_pieces _ _ (L5C c _ _ _ _ _ _ _ _ _ _ _ _ _ _ _ _ _ _ _ _) y (cover_rC5 m c t h h' _ _ y)
  · exact View.canon_apply_of_pieces _ _ (L5B c _ _ _ _ _ _ _ _ _ _ _ _ _ _ _ _ _ _) y (cover_rB5 m c t h h' y)
theorem out6_eq (c : Dev nD) (t : Fin cfg0.N) (y : S1920x1280.Idx) : out6 m c t y = P6 (XV m c) (Wt (iblk m c 0 t) (iblk m c 1 t)) y := by
  unfold out6
  split_ifs with h h'
  · exact View.canon_apply_of_pieces _ _ (L6A c _ _ _ _ _ _ _ _ _ _ _ _ _ _ _ _ _ _) y (cover_rA6 m c t h _ y)
  · exact View.canon_apply_of_pieces _ _ (L6C c _ _ _ _ _ _ _ _ _ _ _ _ _ _ _ _ _ _ _ _) y (cover_rC6 m c t h h' _ _ y)
  · exact View.canon_apply_of_pieces _ _ (L6B c _ _ _ _ _ _ _ _ _ _ _ _ _ _ _ _ _ _) y (cover_rB6 m c t h h' y)

theorem point_lt (t : Fin cfg0.N) : t.val < 7 := lt_of_lt_of_eq t.isLt N_0

theorem ixm0 : ∀ t : Fin cfg0.N, win0_0.index t 0 = 0 ∧ win0_0.index t 1 = t.val :=
  (by decide +kernel : ∀ t : Fin grid0.N, win0_0.index t 0 = 0 ∧ win0_0.index t 1 = t.val)
theorem ixm1 : ∀ t : Fin cfg0.N, win0_1.index t 0 = 0 ∧ win0_1.index t 1 = t.val :=
  (by decide +kernel : ∀ t : Fin grid0.N, win0_1.index t 0 = 0 ∧ win0_1.index t 1 = t.val)
theorem ixm2 : ∀ t : Fin cfg0.N, win0_2.index t 0 = 0 ∧ win0_2.index t 1 = t.val :=
  (by decide +kernel : ∀ t : Fin grid0.N, win0_2.index t 0 = 0 ∧ win0_2.index t 1 = t.val)
theorem ixm3 : ∀ t : Fin cfg0.N, win0_3.index t 0 = 0 ∧ win0_3.index t 1 = t.val :=
  (by decide +kernel : ∀ t : Fin grid0.N, win0_3.index t 0 = 0 ∧ win0_3.index t 1 = t.val)
theorem ixm4 : ∀ t : Fin cfg0.N, win0_4.index t 0 = 0 ∧ win0_4.index t 1 = 0 :=
  (by decide +kernel : ∀ t : Fin grid0.N, win0_4.index t 0 = 0 ∧ win0_4.index t 1 = 0)

theorem kemb0 (t : Fin cfg0.N) (r : Fin 1536) (l : Fin 640) : (win0_0.rect t).emb (ix2 r l) = ix2 (n0 := 1536) (n1 := 4480) r ⟨640 * t.val + l.val, by have := point_lt t; omega⟩ := by
  funext a
  refine Fin.ext ?_
  rw [win0_0.rect_emb_val t]
  match a with
  | ⟨0, _⟩ => exact (congrArg (· * 1536 + r.val) (ixm0 t).1).trans (by simp)
  | ⟨1, _⟩ => exact (congrArg (· * 640 + l.val) (ixm0 t).2).trans (by show t.val * 640 + l.val = 640 * t.val + l.val; omega)
theorem kemb1 (t : Fin cfg0.N) (r : Fin 12) (l : Fin 1280) : (win0_1.rect t).emb (ix2 r l) = ix2 (n0 := 12) (n1 := 8960) r ⟨1280 * t.val + l.val, by have := point_lt t; omega⟩ := by
  funext a
  refine Fin.ext ?_
  rw [win0_1.rect_emb_val t]
  match a with
  | ⟨0, _⟩ => exact (congrArg (· * 12 + r.val) (ixm1 t).1).trans (by simp)
  | ⟨1, _⟩ => exact (congrArg (· * 1280 + l.val) (ixm1 t).2).trans (by show t.val * 1280 + l.val = 1280 * t.val + l.val; omega)
theorem kemb2 (t : Fin cfg0.N) (r : Fin 1920) (l : Fin 1280) : (win0_2.rect t).emb (ix2 r l) = ix2 (n0 := 1920) (n1 := 8960) r ⟨1280 * t.val + l.val, by have := point_lt t; omega⟩ := by
  funext a
  refine Fin.ext ?_
  rw [win0_2.rect_emb_val t]
  match a with
  | ⟨0, _⟩ => exact (congrArg (· * 1920 + r.val) (ixm2 t).1).trans (by simp)
  | ⟨1, _⟩ => exact (congrArg (· * 1280 + l.val) (ixm2 t).2).trans (by show t.val * 1280 + l.val = 1280 * t.val + l.val; omega)
theorem kemb3 (t : Fin cfg0.N) (r : Fin 1920) (l : Fin 1280) : (win0_3.rect t).emb (ix2 r l) = ix2 (n0 := 1920) (n1 := 8960) r ⟨1280 * t.val + l.val, by have := point_lt t; omega⟩ := by
  funext a
  refine Fin.ext ?_
  rw [win0_3.rect_emb_val t]
  match a with
  | ⟨0, _⟩ => exact (congrArg (· * 1920 + r.val) (ixm3 t).1).trans (by simp)
  | ⟨1, _⟩ => exact (congrArg (· * 1280 + l.val) (ixm3 t).2).trans (by show t.val * 1280 + l.val = 1280 * t.val + l.val; omega)
theorem kemb4 (t : Fin cfg0.N) (y : S5x384.Idx) : (win0_4.rect t).emb y = y := by
  funext a
  refine Fin.ext ?_
  match a with
  | ⟨0, _⟩ => exact win0_4.rect_emb_val_of_index_zero t 0 (ixm4 t).1 y
  | ⟨1, _⟩ => exact win0_4.rect_emb_val_of_index_zero t 1 (ixm4 t).2 y

/-- The weights of a block are the weights at its columns. -/
theorem wt_eq (c : Dev nD) (t : Fin cfg0.N) (k : Fin 1536) (j : Fin 1280) :
    Wt (iblk m c 0 t) (iblk m c 1 t) (ix2 k j)
      = WF (m ((c.tc : Thread nD τ).loc main_arg2)) (m ((c.tc : Thread nD τ).loc main_arg3)) k ⟨1280 * t.val + j.val, by have := point_lt t; omega⟩ := by
  have e0 : ∀ (r : Fin 1536) (l : Fin 640), iblk m c 0 t (ix2 r l) = m ((c.tc : Thread nD τ).loc main_arg2) (ix2 r ⟨640 * t.val + l.val, by have := point_lt t; omega⟩) := fun r l =>
    (show iblk m c 0 t (ix2 r l) = V m c main_arg2 ((win0_0.rect t).emb (ix2 r l)) from rfl).trans (by rw [kemb0, V_main_arg2])
  have e1 : ∀ (r : Fin 12) (l : Fin 1280), iblk m c 1 t (ix2 r l) = m ((c.tc : Thread nD τ).loc main_arg3) (ix2 r ⟨1280 * t.val + l.val, by have := point_lt t; omega⟩) := fun r l =>
    (show iblk m c 1 t (ix2 r l) = V m c main_arg3 ((win0_1.rect t).emb (ix2 r l)) from rfl).trans (by rw [kemb1, V_main_arg3])
  unfold Wt WF
  refine congrArg₂ (· * ·) ?_ ((e1 _ _).trans rfl)
  refine congrArg (FloatOps.sitofp (F := Ideal) .bf16) ?_
  refine congrArg₂ nibB ?_ ((e0 _ _).trans ?_)
  · show 4 * (j.val % 2) = 4 * ((1280 * t.val + j.val) % 2); omega
  · exact congrArg (m ((c.tc : Thread nD τ).loc main_arg2)) (congrArg₂ ix2 rfl (Fin.ext (by show 640 * t.val + j.val / 2 = (1280 * t.val + j.val) / 2; omega)))

/-! ## The four results -/

theorem rot0 (c : Dev nD) (i : Fin 1920) : rotR (actA c (V m c main_v0)) i = rotS (rowS (m ((c.tc : Thread nD τ).loc main_arg0)) i) :=
  congrArg rotS (funext fun k => act0 m c i k)
theorem rot1 (c : Dev nD) (i : Fin 1920) : rotR (actB c (V m c main_v1)) i = rotS (rowS (m ((c.tc : Thread nD τ).loc main_arg1)) i) :=
  congrArg rotS (funext fun k => act1 m c i k)
theorem xd_val (c : Dev nD) (i : Fin 1920) (k : Fin 1536) : XD m c (ix2 i k) = spQ (m ((c.tc : Thread nD τ).loc main_arg0)) i k := by
  rw [XDm]
  show qS (rotR (actA c (V m c main_v0)) i k) (sclS (rotR (actA c (V m c main_v0)) i)) = _
  rw [rot0]; rfl
theorem xv_val (c : Dev nD) (i : Fin 1920) (k : Fin 1536) : XV m c (ix2 i k) = rotS (rowS (m ((c.tc : Thread nD τ).loc main_arg1)) i) k := by
  rw [XVm]
  show rotR (actB c (V m c main_v1)) i k = _
  rw [rot1]
theorem co_val (c : Dev nD) : CO m c = spCO (m ((c.tc : Thread nD τ).loc main_arg0)) := by
  funext y
  have h := xd_val m c (y 0) (y 1)
  rw [XDm] at h
  rw [COm]
  exact congrArg (FloatOps.fptosi (F := Ideal) (φ := .f32) 8) h
theorem sc_row (c : Dev nD) (y : S5x384.Idx) : SC m c y = sclS (rotS (rowS (m ((c.tc : Thread nD τ).loc main_arg0)) (rowOf y))) := by
  rw [SCm]
  show sclS (rotR (actA c (V m c main_v0)) (rowOf y)) = _
  rw [rot0]
theorem sc_val (c : Dev nD) : SC m c = spSC (m ((c.tc : Thread nD τ).loc main_arg0)) := by
  funext y
  have h0 : (y 0).val < 5 := (y 0).isLt
  have h1 : (y 1).val < 384 := (y 1).isLt
  rw [sc_row]
  unfold spSC
  refine congrArg sclS (congrArg rotS (funext fun k => ?_))
  show m ((c.tc : Thread nD τ).loc main_arg0) _ = m ((c.tc : Thread nD τ).loc main_arg0) _
  refine congrArg (m ((c.tc : Thread nD τ).loc main_arg0)) ?_
  have a0 : (⟨(rowOf y).val / 384, by have := (rowOf y).isLt; omega⟩ : Fin 5) = y 0 := Fin.ext (by show (384 * (y 0).val + (y 1).val) / 384 = (y 0).val; omega)
  have a1 : (⟨(rowOf y).val % 384, Nat.mod_lt _ (by norm_num)⟩ : Fin 384) = y 1 := Fin.ext (by show (384 * (y 0).val + (y 1).val) % 384 = (y 1).val; omega)
  exact (congrArg (fun p => ix3 p _ k) a0).trans (congrArg (fun p => ix3 (y 0) p k) a1)
theorem sc_at (c : Dev nD) (i : Fin 1920) (h : i.val / 384 < 5) (h' : i.val % 384 < 384) :
    SC m c (ix2 ⟨i.val / 384, h⟩ ⟨i.val % 384, h'⟩) = sclS (rotS (rowS (m ((c.tc : Thread nD τ).loc main_arg0)) i)) := by
  rw [sc_row]
  have e : rowOf (ix2 ⟨i.val / 384, h⟩ ⟨i.val % 384, h'⟩) = i := Fin.ext (by show 384 * (i.val / 384) + i.val % 384 = i.val; omega)
  rw [e]

theorem blk5 (c : Dev nD) (t : Fin cfg0.N) (i : Fin 1920) (j : Fin 1280) :
    out5 m c t (ix2 i j) = spYD (m ((c.tc : Thread nD τ).loc main_arg0)) (m ((c.tc : Thread nD τ).loc main_arg2)) (m ((c.tc : Thread nD τ).loc main_arg3))
      (ix2 i ⟨1280 * t.val + j.val, by have := point_lt t; omega⟩) := by
  rw [out5_eq]
  exact congrArg₂ (· * ·) (Finset.sum_congr rfl fun k _ => congrArg₂ (· * ·) (xd_val m c i k) (wt_eq m c t k j)) (sc_at m c i _ _)
theorem blk6 (c : Dev nD) (t : Fin cfg0.N) (i : Fin 1920) (j : Fin 1280) :
    out6 m c t (ix2 i j) = spYV (m ((c.tc : Thread nD τ).loc main_arg1)) (m ((c.tc : Thread nD τ).loc main_arg2)) (m ((c.tc : Thread nD τ).loc main_arg3))
      (ix2 i ⟨1280 * t.val + j.val, by have := point_lt t; omega⟩) := by
  rw [out6_eq]
  exact Finset.sum_congr rfl fun k _ => congrArg₂ (· * ·) (xv_val m c i k) (wt_eq m c t k j)

/-- The column block a column lies in. -/
def ptOf (j : Fin 8960) : Fin cfg0.N := ⟨j.val / 1280, lt_of_lt_of_eq (by omega : j.val / 1280 < 7) N_0.symm⟩

theorem arr2 (c : Dev nD) : (dats m 0 c).arrAt 2 cfg0.N
    = spYD (m ((c.tc : Thread nD τ).loc main_arg0)) (m ((c.tc : Thread nD τ).loc main_arg2)) (m ((c.tc : Thread nD τ).loc main_arg3)) := by
  refine (dats m 0 c).arrAt_eq_of_cover 2 _ (fun t _ => funext fun y => ?_) (fun i => ⟨ptOf (i 1), flush0_2 _, ?_⟩)
  · obtain ⟨p, q, rfl⟩ : ∃ (p : Fin 1920) (q : Fin 1280), y = ix2 p q := ⟨y 0, y 1, by funext a; match a with | ⟨0, _⟩ => rfl | ⟨1, _⟩ => rfl⟩
    show (dats m 0 c).after 2 t (ix2 p q) = spYD _ _ _ ((win0_2.rect t).emb (ix2 p q))
    rw [after0_2, kemb2]
    exact blk5 m c t p q
  · have hj : (i 1).val < 8960 := (i 1).isLt
    have e : ((cfg0.win 2).blk (ptOf (i 1))).view.emb (ix2 (n0 := 1920) (n1 := 1280) (i 0) ⟨(i 1).val % 1280, Nat.mod_lt _ (by norm_num)⟩) = i :=
      (kemb2 (ptOf (i 1)) (i 0) ⟨(i 1).val % 1280, Nat.mod_lt _ (by norm_num)⟩).trans (by
        funext a
        match a with
        | ⟨0, _⟩ => rfl
        | ⟨1, _⟩ => exact Fin.ext (by show 1280 * ((i 1).val / 1280) + (i 1).val % 1280 = (i 1).val; omega))
    exact Eq.mp (congrArg (fun z => z ∈ ((cfg0.win 2).blk (ptOf (i 1))).view.set) e) (((cfg0.win 2).blk (ptOf (i 1))).view.emb_mem_set _)
theorem arr3 (c : Dev nD) : (dats m 0 c).arrAt 3 cfg0.N
    = spYV (m ((c.tc : Thread nD τ).loc main_arg1)) (m ((c.tc : Thread nD τ).loc main_arg2)) (m ((c.tc : Thread nD τ).loc main_arg3)) := by
  refine (dats m 0 c).arrAt_eq_of_cover 3 _ (fun t _ => funext fun y => ?_) (fun i => ⟨ptOf (i 1), flush0_3 _, ?_⟩)
  · obtain ⟨p, q, rfl⟩ : ∃ (p : Fin 1920) (q : Fin 1280), y = ix2 p q := ⟨y 0, y 1, by funext a; match a with | ⟨0, _⟩ => rfl | ⟨1, _⟩ => rfl⟩
    show (dats m 0 c).after 3 t (ix2 p q) = spYV _ _ _ ((win0_3.rect t).emb (ix2 p q))
    rw [after0_3, kemb3]
    exact blk6 m c t p q
  · have hj : (i 1).val < 8960 := (i 1).isLt
    have e : ((cfg0.win 3).blk (ptOf (i 1))).view.emb (ix2 (n0 := 1920) (n1 := 1280) (i 0) ⟨(i 1).val % 1280, Nat.mod_lt _ (by norm_num)⟩) = i :=
      (kemb3 (ptOf (i 1)) (i 0) ⟨(i 1).val % 1280, Nat.mod_lt _ (by norm_num)⟩).trans (by
        funext a
        match a with
        | ⟨0, _⟩ => rfl
        | ⟨1, _⟩ => exact Fin.ext (by show 1280 * ((i 1).val / 1280) + (i 1).val % 1280 = (i 1).val; omega))
    exact Eq.mp (congrArg (fun z => z ∈ ((cfg0.win 3).blk (ptOf (i 1))).view.set) e) (((cfg0.win 3).blk (ptOf (i 1))).view.emb_mem_set _)
/-- The last grid point. -/
abbrev t06 : Fin cfg0.N := ⟨6, lt_of_lt_of_eq (by norm_num : 6 < 7) N_0.symm⟩
theorem arr4 (c : Dev nD) : (dats m 0 c).arrAt 4 cfg0.N = spSC (m ((c.tc : Thread nD τ).loc main_arg0)) := by
  refine (dats m 0 c).arrAt_eq_of_cover 4 _ (fun t _ => funext fun y => ?_)
    (fun i => ⟨t06, (flush0_4 _).2 rfl, ?_⟩)
  · show (dats m 0 c).after 4 t y = spSC _ ((win0_4.rect t).emb y)
    rw [after0_4, kemb4, sc_val]
  · have e : ((cfg0.win 4).blk t06).view.emb (show S5x384.Idx from i) = i := kemb4 _ i
    exact Eq.mp (congrArg (fun z => z ∈ ((cfg0.win 4).blk t06).view.set) e) (((cfg0.win 4).blk t06).view.emb_mem_set (show S5x384.Idx from i))

/-- The kernel's run: its results are the products, the codes and the scales. -/
theorem kernel_run (ρ : Dev nD → PrngReg) : θ_run defs (onTc (τ := τ) (main (F := Ideal))) ⟨m, fun _ => 0, ρ⟩ (fun r => ∀ c : Dev nD,
      r.2.mem ((c.tc : Thread nD τ).loc main_v2_0) = spYD (m ((c.tc : Thread nD τ).loc main_arg0)) (m ((c.tc : Thread nD τ).loc main_arg2)) (m ((c.tc : Thread nD τ).loc main_arg3))
      ∧ r.2.mem ((c.tc : Thread nD τ).loc main_v2_1) = spYV (m ((c.tc : Thread nD τ).loc main_arg1)) (m ((c.tc : Thread nD τ).loc main_arg2)) (m ((c.tc : Thread nD τ).loc main_arg3))
      ∧ r.2.mem ((c.tc : Thread nD τ).loc main_v2_2) = spCO (m ((c.tc : Thread nD τ).loc main_arg0))
      ∧ r.2.mem ((c.tc : Thread nD τ).loc main_v2_3) = spSC (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
     ⟨((h.1.1 c).1 2).trans (arr2 m c), ((h.1.1 c).1 3).trans (arr3 m c),
      (h.1.written c (by decide)).trans ((G_v2_2 m c).trans (co_val m c)), ((h.1.1 c).1 4).trans (arr4 m c),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).1 0).trans (((dats m 0 c).arrAt_in 0 rfl _).trans ((A_eq m c 0).trans (V_main_arg2 m c))),
      ((h.1.1 c).1 1).trans (((dats m 0 c).arrAt_in 1 rfl _).trans ((A_eq m c 1).trans (V_main_arg3 m c)))⟩) (run_main m ρ)

end Cert.Spec
end
-- ==== Proof.RefBody.lean ====
/-
  What the reference's body computes, read at an index.
-/
module

public import proofs.«01_k».proof.Proof.Gen.ReferenceIdeal.Value
public import proofs.«01_k».proof.Proof.Math

@[expose] public section

set_option maxRecDepth 16384

noncomputable section

namespace Cert.Spec

open Idealize.ShloMosaic Idealize.SL.Sem

section Body
open Cert.ReferenceIdeal

theorem refmax (v : Vec Ideal S5x384x1536 .f32) (a : Fin 5) (b : Fin 384) : multiReduction (F := Ideal) .maximumf [2] S5x384 (absf v) 0xFF800000#32 Gen.reduces_S5x384x1536_S5x384 (.inl rfl) rfl (ix2 a b) = amaxS fun k => v (ix3 a b k) := by
  pointwise
  rfl

theorem ref2 (v : Vec Ideal S5x384x1536 .f32) : Gen.k0_pay2 (F := Ideal) v = v := shapeCast_self ..

theorem selx (M : FVec Ideal S5x384 .f32) (a : Fin 5) (b : Fin 384) (x : EReal) (h : M (ix2 a b) = x) : select (cmpf .oeq M (broadcast S5x384 (Scalar.ofBits (F := Ideal) .f32 0x00000000#32))) (broadcast S5x384 (Scalar.ofBits .f32 0x3F800000#32)) (divf M (broadcast S5x384 (Scalar.ofBits .f32 0x40E00000#32))) (ix2 a b) = if x = 0 then 1 else Ideal.div x (Ideal.ofBits .f32 0x40E00000#32) := by
  pointwise [h]
/-- The reference's scales. -/
theorem ref3 (v : Vec Ideal S5x384x1536 .f32) (a : Fin 5) (b : Fin 384) : Gen.k0_pay3 (F := Ideal) v (ix2 a b) = sclS fun k => v (ix3 a b k) := by
  unfold Gen.k0_pay3
  rw [ref2]
  exact selx _ a b _ (refmax v a b)

theorem qx (v : Vec Ideal S5x384x1536 .f32) (Y : FVec Ideal S5x384 .f32) (a : Fin 5) (b : Fin 384) (k : Fin 1536) :
    fptosi 8 (minimumf (broadcast S5x384x1536 (Scalar.sitofp .f32 7#32)) (maximumf (broadcast S5x384x1536 (Scalar.sitofp .f32 4294967289#32)) (roundeven (divf v (broadcastTo S5x384x1536 (shapeCast S5x384x1 Y Gen.shapeCasts_S5x384_S5x384x1) Gen.broadcasts_S5x384x1_S5x384x1536)))))
      (ix3 a b k) = FloatOps.fptosi (F := Ideal) (φ := .f32) 8 (qS (v (ix3 a b k)) (Y (ix2 a b))) := by
  pointwise
  rfl
theorem ref4 (v : Vec Ideal S5x384x1536 .f32) (a : Fin 5) (b : Fin 384) (k : Fin 1536) :
    Gen.k0_pay4 (F := Ideal) v (ix3 a b k) = FloatOps.fptosi (F := Ideal) (φ := .f32) 8 (qS (v (ix3 a b k)) (Gen.k0_pay3 (F := Ideal) v (ix2 a b))) := by
  unfold Gen.k0_pay4
  rw [ref2]
  exact qx v _ a b k

/-- The reference's codes, row by row. -/
theorem ref5 (v : Vec Ideal S5x384x1536 .f32) (i : Fin 1920) (k : Fin 1536) :
    Gen.k0_pay5 (F := Ideal) v (ix2 i k) = Gen.k0_pay4 (F := Ideal) v (ix3 ⟨i.val / 384, by omega⟩ ⟨i.val % 384, by omega⟩ k) := by
  unfold Gen.k0_pay5
  generalize Gen.k0_pay4 (F := Ideal) v = Y
  pointwise
/-- The reference's product of the rotated activations. -/
theorem ref1 (w : FVec Ideal S1536x8960 .bf16) (v : Vec Ideal S5x384x1536 .f32) (i : Fin 1920) (j : Fin 8960) :
    Gen.k0_pay1 (F := Ideal) w v (ix2 i j) = ∑ k : Fin 1536, v (ix3 ⟨i.val / 384, by omega⟩ ⟨i.val % 384, by omega⟩ k) * w (ix2 k j) := by
  unfold Gen.k0_pay1
  pointwise [dot_S1920x1536_S1536x8960_S1920x8960_1_0_0_1_n_n]
/-- The reference's product of the codes, rescaled. -/
theorem ref7 (w : Vec Ideal S1536x8960 .bf16) (v : Vec Ideal S5x384x1536 .f32) (i : Fin 1920) (j : Fin 8960) :
    Gen.k0_pay7 (F := Ideal) v w (ix2 i j) = (∑ k : Fin 1536, FloatOps.sitofp (F := Ideal) .bf16 (Gen.k0_pay4 (F := Ideal) v (ix3 ⟨i.val / 384, by omega⟩ ⟨i.val % 384, by omega⟩ k)) * w (ix2 k j))
      * Gen.k0_pay3 (F := Ideal) v (ix2 ⟨i.val / 384, by omega⟩ ⟨i.val % 384, by omega⟩) := by
  unfold Gen.k0_pay7 Gen.k0_pay6
  generalize Gen.k0_pay4 (F := Ideal) v = Y
  generalize Gen.k0_pay3 (F := Ideal) v = Z
  pointwise [dot_S1920x1536_S1536x8960_S1920x8960_1_0_0_1_n_n]
end Body

end Cert.Spec
end
-- ==== Proof.RefHost.lean ====
/-
  What the reference's host operations leave: the sign matrix, the rotated activations and the weights.
-/
module

public import proofs.«01_k».proof.Proof.Gen.ReferenceIdeal.Frame
public import proofs.«01_k».proof.Proof.Values
public import Idealize.ShloMosaic.Lib.StableHlo.ReadAt
public import Idealize.ShloMosaic.Lib.Claim

@[expose] public section

set_option maxRecDepth 16384

noncomputable section

namespace Cert.Spec

open Idealize.ShloMosaic Idealize.SL.Sem
open Cert.ReferenceIdeal Cert.ReferenceIdeal.Gen

/-- The two-by-two sign matrix. -/
theorem litS (a b : ℕ) (ha : a < 2) (hb : b < 2) :
    Ideal.ofBits .f32 (lit0 (S2x2.rowMajor (ix2 (⟨a, ha⟩ : Fin 2) (⟨b, hb⟩ : Fin 2)))) = (((sgB a b : ℤ) : ℝ) : EReal) := by
  have one : Ideal.ofBits .f32 0x3F800000#32 = 1 := by simp [Ideal.ofBits, Ideal.ieee, -EReal.coe_mul, -EReal.coe_neg]; norm_num
  have neg := negOne_eq
  interval_cases a <;> interval_cases b
  · show Ideal.ofBits .f32 0x3F800000#32 = _; rw [one]; simp [sgB]
  · show Ideal.ofBits .f32 0x3F800000#32 = _; rw [one]; simp [sgB]
  · show Ideal.ofBits .f32 0x3F800000#32 = _; rw [one]; simp [sgB]
  · show Ideal.ofBits .f32 0xBF800000#32 = _; rw [neg]; simp [sgB]

/-- Seven levels of signs are the rotation's sign. -/
theorem sgn7 (i j : ℕ) (hi : i < 128) (hj : j < 128) :
    (((sgB (i / 2 / 2 / 2 / 2 / 2 / 2) (j / 2 / 2 / 2 / 2 / 2 / 2) : ℤ) : ℝ) : EReal) * (((sgB (i / 2 / 2 / 2 / 2 / 2 % 2) (j / 2 / 2 / 2 / 2 / 2 % 2) : ℤ) : ℝ) : EReal)
      * (((sgB (i / 2 / 2 / 2 / 2 % 2) (j / 2 / 2 / 2 / 2 % 2) : ℤ) : ℝ) : EReal) * (((sgB (i / 2 / 2 / 2 % 2) (j / 2 / 2 / 2 % 2) : ℤ) : ℝ) : EReal)
      * (((sgB (i / 2 / 2 % 2) (j / 2 / 2 % 2) : ℤ) : ℝ) : EReal) * (((sgB (i / 2 % 2) (j / 2 % 2) : ℤ) : ℝ) : EReal)
      * (((sgB (i % 2) (j % 2) : ℤ) : ℝ) : EReal) = sg i j := by
  simp only [← EReal.coe_mul, ← Int.cast_mul, Nat.div_div_eq_div_mul]
  norm_num only
  have e1 : i / 64 = i / 64 % 2 := by omega
  have e2 : j / 64 = j / 64 % 2 := by omega
  unfold sg sgZ
  rw [← e1, ← e2]

/-- Half a byte, decoded on 32-bit words, is its sign-extended four bits. -/
theorem dec_lo : ∀ n < 256, (Scalar.select (IntOp.cmpi .sge (IntOp.andi ((BitVec.ofNat 8 n).setWidth 32) 15#32) 8#32)
    (IntOp.subi (IntOp.andi ((BitVec.ofNat 8 n).setWidth 32) 15#32) 16#32) (IntOp.andi ((BitVec.ofNat 8 n).setWidth 32) 15#32)).toInt = (nibB 0 (BitVec.ofNat 8 n)).toInt := by decide +kernel

theorem dec_hi : ∀ n < 256, (Scalar.select (IntOp.cmpi .sge (IntOp.shrsi .host ((BitVec.ofNat 8 n).setWidth 32) 4#32) 8#32)
    (IntOp.subi (IntOp.shrsi .host ((BitVec.ofNat 8 n).setWidth 32) 4#32) 16#32) (IntOp.shrsi .host ((BitVec.ofNat 8 n).setWidth 32) 4#32)).toInt = (nibB 4 (BitVec.ofNat 8 n)).toInt := by decide +kernel
theorem dec_lo' (x : BitVec 8) : FloatOps.sitofp (F := Ideal) .bf16 (Scalar.select (IntOp.cmpi .sge (IntOp.andi (x.setWidth 32) 15#32) 8#32)
    (IntOp.subi (IntOp.andi (x.setWidth 32) 15#32) 16#32) (IntOp.andi (x.setWidth 32) 15#32)) = FloatOps.sitofp (F := Ideal) .bf16 (nibB (4 * 0) x) := by
  have h := dec_lo x.toNat x.isLt
  rw [BitVec.ofNat_toNat, BitVec.setWidth_eq] at h
  exact congrArg (fun z : ℤ => ((z : ℝ) : EReal)) h
theorem dec_hi' (x : BitVec 8) : FloatOps.sitofp (F := Ideal) .bf16 (Scalar.select (IntOp.cmpi .sge (IntOp.shrsi .host (x.setWidth 32) 4#32) 8#32)
    (IntOp.subi (IntOp.shrsi .host (x.setWidth 32) 4#32) 16#32) (IntOp.shrsi .host (x.setWidth 32) 4#32)) = FloatOps.sitofp (F := Ideal) .bf16 (nibB (4 * 1) x) := by
  have h := dec_hi x.toNat x.isLt
  rw [BitVec.ofNat_toNat, BitVec.setWidth_eq] at h
  exact congrArg (fun z : ℤ => ((z : ℝ) : EReal)) h

theorem decWF (q : Shape.Idx ⟨2, ![1536, 4480]⟩ → BitVec 8) (s : Shape.Idx ⟨2, ![12, 8960]⟩ → EReal) (a b : Shape.Idx ⟨3, ![1536, 4480, 1]⟩ → BitVec 32)
    (ha' : ∀ (r : Fin 1536) (l : Fin 4480), a (ix3 r l 0) = IntOp.andi (BitVec.setWidth 32 (q (ix2 r l))) 15#32)
    (hb' : ∀ (r : Fin 1536) (l : Fin 4480), b (ix3 r l 0) = IntOp.shrsi ArithUnit.host (BitVec.setWidth 32 (q (ix2 r l))) 4#32)
    (i : Fin 1536) (j : Fin 8960) (d : BitVec 32) (hi : i.val / 128 * 128 + i.val % 128 < 1536)
    (hd : d = if h : j.val % 2 < 1 then a (ix3 ⟨i.val / 128 * 128 + i.val % 128, hi⟩ ⟨j.val / 2, by omega⟩ ⟨j.val % 2, h⟩)
      else b (ix3 ⟨i.val / 128 * 128 + i.val % 128, hi⟩ ⟨j.val / 2, by omega⟩ ⟨j.val % 2 - 1, by omega⟩)) :
    FloatOps.sitofp (F := Ideal) .bf16 (Scalar.select (IntOp.cmpi .sge d 8#32) (IntOp.subi d 16#32) d) * s (ix2 ⟨i.val / 128, by omega⟩ j) = WF q s i j := by
  have hi' : (⟨i.val / 128 * 128 + i.val % 128, hi⟩ : Fin 1536) = i := Fin.ext (by show i.val / 128 * 128 + i.val % 128 = i.val; omega)
  rw [hi'] at hd
  unfold WF
  refine congrArg (· * s (ix2 ⟨i.val / 128, by omega⟩ j)) ?_
  by_cases h : j.val % 2 < 1
  · have h0 : j.val % 2 = 0 := by omega
    have e : (⟨j.val % 2, h⟩ : Fin 1) = 0 := Fin.ext h0
    rw [dif_pos h, e, ha'] at hd
    rw [hd, h0]
    exact dec_lo' _
  · have h0 : j.val % 2 = 1 := by omega
    have e : (⟨j.val % 2 - 1, by omega⟩ : Fin 1) = 0 := Fin.ext (by show j.val % 2 - 1 = 0; omega)
    rw [dif_neg h, e, hb'] at hd
    rw [hd, h0]
    exact dec_hi' _

variable (m : (ℓ : Loc nD τ sig) → Buf (Elt Ideal) ℓ)
set_option maxHeartbeats 1000000

/-- The first operand, rotated. -/
theorem V11 (c : Dev nD) (a : Fin 5) (b : Fin 384) (k : Fin 1536) :
    (show EReal from V (F := Ideal) m c main_v11 (ix3 a b k)) = rotS (fun k => (show EReal from m ((c.tc : Thread nD τ).loc main_arg0) (ix3 a b k))) k := by
  unfold V
  after_reads_simp
  simp -implicitDefEqProofs only [StableHlo.TRef.toBuf, StableHlo.TRef.ofBuf, cast_cast, cast_eq]
  clean_types
  pointwise [dot_S5x384x12x128_S128x128_S5x384x12x128_3_0_012_1_n_n]
  unfold rotS
  refine Finset.sum_congr rfl fun x _ => ?_
  simp only [litS]
  rw [sgn7 x.val (k.val % 128) x.isLt (by omega)]
  simp only [Nat.mul_comm (k.val / 128) 128]
  rfl
/-- The second operand, rotated. -/
theorem V15 (c : Dev nD) (a : Fin 5) (b : Fin 384) (k : Fin 1536) :
    (show EReal from V (F := Ideal) m c main_v15 (ix3 a b k)) = rotS (fun k => (show EReal from m ((c.tc : Thread nD τ).loc main_arg1) (ix3 a b k))) k := by
  unfold V
  after_reads_simp
  simp -implicitDefEqProofs only [StableHlo.TRef.toBuf, StableHlo.TRef.ofBuf, cast_cast, cast_eq]
  clean_types
  pointwise [dot_S5x384x12x128_S128x128_S5x384x12x128_3_0_012_1_n_n]
  unfold rotS
  refine Finset.sum_congr rfl fun x _ => ?_
  simp only [litS]
  rw [sgn7 x.val (k.val % 128) x.isLt (by omega)]
  simp only [Nat.mul_comm (k.val / 128) 128]
  rfl

/-- The decoded weights. -/
theorem V36 (c : Dev nD) (i : Fin 1536) (j : Fin 8960) : (show EReal from V (F := Ideal) m c main_v36 (ix2 i j))
    = WF (m ((c.tc : Thread nD τ).loc main_arg2)) (m ((c.tc : Thread nD τ).loc main_arg3)) i j := by
  unfold V
  after_reads_simp
  generalize ha : StableHlo.upto _ _ _ (Proc.tc.devRef main_v21) = a
  generalize hb : StableHlo.upto _ _ _ (Proc.tc.devRef main_v22) = b
  simp -implicitDefEqProofs only [StableHlo.TRef.toBuf, StableHlo.TRef.ofBuf, cast_cast, cast_eq]
  clean_types
  pointwise
  have ha' : ∀ (r : Fin 1536) (l : Fin 4480), a (ix3 r l 0) = IntOp.andi (BitVec.setWidth 32 (m ((c.tc : Thread nD τ).loc main_arg2) (ix2 r l))) 15#32 := by
    intro r l
    rw [← ha]
    after_reads_simp
    clean_types
    pointwise
  have hb' : ∀ (r : Fin 1536) (l : Fin 4480), b (ix3 r l 0) = IntOp.shrsi ArithUnit.host (BitVec.setWidth 32 (m ((c.tc : Thread nD τ).loc main_arg2) (ix2 r l))) 4#32 := by
    intro r l
    rw [← hb]
    after_reads_simp
    clean_types
    pointwise
  exact decWF (m ((c.tc : Thread nD τ).loc main_arg2)) (m ((c.tc : Thread nD τ).loc main_arg3)) a b ha' hb' i j _ _ rfl
end Cert.Spec
end
-- ==== Proof.RefValue.lean ====
/-
  What the reference leaves in its four results.
-/
module

public import proofs.«01_k».proof.Proof.RefBody
public import proofs.«01_k».proof.Proof.RefHost
public import Idealize.ShloMosaic.Lib.Pipeline.Value

@[expose] public section

set_option maxRecDepth 16384

noncomputable section

namespace Cert.Spec

open Idealize.ShloMosaic Idealize.SL.Sem Idealize.ShloMosaic.TcCoe
open Cert.ReferenceIdeal Cert.ReferenceIdeal.Gen Cert.ReferenceIdeal.Value
open Idealize.ShloMosaic.Pipeline (Dat Window)

variable (m : (ℓ : Loc nD τ sig) → Buf (Elt Ideal) ℓ)

/-! ## The one grid point's blocks are whole arrays -/

theorem rix0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
theorem rix1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem rix2 : ∀ t : Fin cfg0.N, win0_2.index t 0 = 0 ∧ win0_2.index t 1 = 0 :=
  (by decide +kernel : ∀ t : Fin grid0.N, win0_2.index t 0 = 0 ∧ win0_2.index t 1 = 0)
theorem rix3 : ∀ t : Fin cfg0.N, win0_3.index t 0 = 0 ∧ win0_3.index t 1 = 0 :=
  (by decide +kernel : ∀ t : Fin grid0.N, win0_3.index t 0 = 0 ∧ win0_3.index t 1 = 0)
theorem rix4 : ∀ t : Fin cfg0.N, win0_4.index t 0 = 0 ∧ win0_4.index t 1 = 0 :=
  (by decide +kernel : ∀ t : Fin grid0.N, win0_4.index t 0 = 0 ∧ win0_4.index t 1 = 0)
theorem rix5 : ∀ t : Fin cfg0.N, win0_5.index t 0 = 0 ∧ win0_5.index t 1 = 0 :=
  (by decide +kernel : ∀ t : Fin grid0.N, win0_5.index t 0 = 0 ∧ win0_5.index t 1 = 0)
theorem rix6 : ∀ t : Fin cfg0.N, win0_6.index t 0 = 0 ∧ win0_6.index t 1 = 0 :=
  (by decide +kernel : ∀ t : Fin grid0.N, win0_6.index t 0 = 0 ∧ win0_6.index t 1 = 0)
theorem remb0 (t : Fin cfg0.N) (y : S5x384x1536.Idx) : (win0_0.rect t).emb y = y := by
  funext a
  refine Fin.ext ?_
  match a with
  | ⟨0, _⟩ => exact win0_0.rect_emb_val_of_index_zero t 0 (rix0 t).1 y
  | ⟨1, _⟩ => exact win0_0.rect_emb_val_of_index_zero t 1 (rix0 t).2.1 y
  | ⟨2, _⟩ => exact win0_0.rect_emb_val_of_index_zero t 2 (rix0 t).2.2 y
theorem remb1 (t : Fin cfg0.N) (y : S5x384x1536.Idx) : (win0_1.rect t).emb y = y := by
  funext a
  refine Fin.ext ?_
  match a with
  | ⟨0, _⟩ => exact win0_1.rect_emb_val_of_index_zero t 0 (rix1 t).1 y
  | ⟨1, _⟩ => exact win0_1.rect_emb_val_of_index_zero t 1 (rix1 t).2.1 y
  | ⟨2, _⟩ => exact win0_1.rect_emb_val_of_index_zero t 2 (rix1 t).2.2 y
theorem remb2 (t : Fin cfg0.N) (y : S1536x8960.Idx) : (win0_2.rect t).emb y = y := by
  funext a
  refine Fin.ext ?_
  match a with
  | ⟨0, _⟩ => exact win0_2.rect_emb_val_of_index_zero t 0 (rix2 t).1 y
  | ⟨1, _⟩ => exact win0_2.rect_emb_val_of_index_zero t 1 (rix2 t).2 y
theorem remb3 (t : Fin cfg0.N) (y : S1920x8960.Idx) : (win0_3.rect t).emb y = y := by
  funext a
  refine Fin.ext ?_
  match a with
  | ⟨0, _⟩ => exact win0_3.rect_emb_val_of_index_zero t 0 (rix3 t).1 y
  | ⟨1, _⟩ => exact win0_3.rect_emb_val_of_index_zero t 1 (rix3 t).2 y
theorem remb4 (t : Fin cfg0.N) (y : S1920x8960.Idx) : (win0_4.rect t).emb y = y := by
  funext a
  refine Fin.ext ?_
  match a with
  | ⟨0, _⟩ => exact win0_4.rect_emb_val_of_index_zero t 0 (rix4 t).1 y
  | ⟨1, _⟩ => exact win0_4.rect_emb_val_of_index_zero t 1 (rix4 t).2 y
theorem remb5 (t : Fin cfg0.N) (y : S1920x1536.Idx) : (win0_5.rect t).emb y = y := by
  funext a
  refine Fin.ext ?_
  match a with
  | ⟨0, _⟩ => exact win0_5.rect_emb_val_of_index_zero t 0 (rix5 t).1 y
  | ⟨1, _⟩ => exact win0_5.rect_emb_val_of_index_zero t 1 (rix5 t).2 y
theorem remb6 (t : Fin cfg0.N) (y : S5x384.Idx) : (win0_6.rect t).emb y = y := by
  funext a
  refine Fin.ext ?_
  match a with
  | ⟨0, _⟩ => exact win0_6.rect_emb_val_of_index_zero t 0 (rix6 t).1 y
  | ⟨1, _⟩ => exact win0_6.rect_emb_val_of_index_zero t 1 (rix6 t).2 y

theorem in0 (c : Dev nD) (t : Fin cfg0.N) (y : S5x384x1536.Idx) : iblk m c 0 t y = V m c main_v11 y :=
  (show iblk m c 0 t y = V m c main_v11 ((win0_0.rect t).emb y) from rfl).trans (by rw [remb0])
theorem in1 (c : Dev nD) (t : Fin cfg0.N) (y : S5x384x1536.Idx) : iblk m c 1 t y = V m c main_v15 y :=
  (show iblk m c 1 t y = V m c main_v15 ((win0_1.rect t).emb y) from rfl).trans (by rw [remb1])
theorem in2 (c : Dev nD) (t : Fin cfg0.N) (y : S1536x8960.Idx) : iblk m c 2 t y = V m c main_v36 y :=
  (show iblk m c 2 t y = V m c main_v36 ((win0_2.rect t).emb y) from rfl).trans (by rw [remb2])

/-- A load of a whole block reads the block. -/
theorem ld_whole3 (x : Vec Ideal S5x384x1536 .f32) : View.ld x r0_0 = x := by
  funext y
  show x (r0_0.emb y) = x y
  refine congrArg x (funext fun a => Fin.ext ?_)
  rw [Rect.emb_apply]
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem ld_whole2 (x : Vec Ideal S1536x8960 .bf16) : View.ld x r0_3 = x := by
  funext y
  show x (r0_3.emb y) = x y
  refine congrArg x (funext fun a => Fin.ext ?_)
  rw [Rect.emb_apply]
  match a with
  | ⟨0, _⟩ => show 0 + 1 * (y 0).val = (y 0).val; omega
  | ⟨1, _⟩ => show 0 + 1 * (y 1).val = (y 1).val; omega
theorem whole4 (y : S1920x8960.Idx) : r0_4.emb y = y := by
  funext a
  refine Fin.ext ?_
  rw [Rect.emb_apply]
  match a with
  | ⟨0, _⟩ => show 0 + 1 * (y 0).val = (y 0).val; omega
  | ⟨1, _⟩ => show 0 + 1 * (y 1).val = (y 1).val; omega
theorem canon_whole4 (p : Vec Ideal S1920x8960 .bf16) (y : S1920x8960.Idx) : View.canon [⟨r0_4, p⟩] y = p y := by
  refine View.canon_apply_of_pieces p _ ?_ y (cover0_3 _ y)
  intro pc hpc
  rw [List.mem_singleton.mp hpc]
  intro x
  exact congrArg p (whole4 x).symm
theorem whole2 (y : S1920x1536.Idx) : r0_2.emb y = y := by
  funext a
  refine Fin.ext ?_
  rw [Rect.emb_apply]
  match a with
  | ⟨0, _⟩ => show 0 + 1 * (y 0).val = (y 0).val; omega
  | ⟨1, _⟩ => show 0 + 1 * (y 1).val = (y 1).val; omega
theorem canon_whole2 (p : Vec Ideal S1920x1536 .i8) (y : S1920x1536.Idx) : View.canon [⟨r0_2, p⟩] y = p y := by
  refine View.canon_apply_of_pieces p _ ?_ y (cover0_5 _ y)
  intro pc hpc
  rw [List.mem_singleton.mp hpc]
  intro x
  exact congrArg p (whole2 x).symm
theorem whole1 (y : S5x384.Idx) : r0_1.emb y = y := by
  funext a
  refine Fin.ext ?_
  rw [Rect.emb_apply]
  match a with
  | ⟨0, _⟩ => show 0 + 1 * (y 0).val = (y 0).val; omega
  | ⟨1, _⟩ => show 0 + 1 * (y 1).val = (y 1).val; omega
theorem canon_whole1 (p : Vec Ideal S5x384 .f32) (y : S5x384.Idx) : View.canon [⟨r0_1, p⟩] y = p y := by
  refine View.canon_apply_of_pieces p _ ?_ y (cover0_6 _ y)
  intro pc hpc
  rw [List.mem_singleton.mp hpc]
  intro x
  exact congrArg p (whole1 x).symm

/-! ## The body's results at the one point -/

theorem rsc (c : Dev nD) (t : Fin cfg0.N) (a : Fin 5) (b : Fin 384) : k0_pay3 (F := Ideal) (iblk m c 0 t) (ix2 a b)
    = sclS (rotS fun k => m ((c.tc : Thread nD τ).loc main_arg0) (ix3 a b k)) :=
  (ref3 _ a b).trans (congrArg sclS (funext fun k => (in0 m c t _).trans (V11 m c a b k)))
theorem rco (c : Dev nD) (t : Fin cfg0.N) (i : Fin 1920) (k : Fin 1536) (h : i.val / 384 < 5) (h' : i.val % 384 < 384) :
    k0_pay4 (F := Ideal) (iblk m c 0 t) (ix3 ⟨i.val / 384, h⟩ ⟨i.val % 384, h'⟩ k) = FloatOps.fptosi (F := Ideal) (φ := .f32) 8 (spQ (m ((c.tc : Thread nD τ).loc main_arg0)) i k) :=
  (ref4 _ _ _ _).trans (congrArg (FloatOps.fptosi (F := Ideal) (φ := .f32) 8)
    (congrArg₂ qS ((in0 m c t _).trans (V11 m c _ _ k)) (rsc m c t _ _)))

theorem o3 (c : Dev nD) (t : Fin cfg0.N) (i : Fin 1920) (j : Fin 8960) : out0_3 (iblk m c 0 t) (iblk m c 1 t) (iblk m c 2 t) (ix2 i j)
    = spYD (m ((c.tc : Thread nD τ).loc main_arg0)) (m ((c.tc : Thread nD τ).loc main_arg2)) (m ((c.tc : Thread nD τ).loc main_arg3)) (ix2 i j) := by
  unfold out0_3
  rw [canon_whole4, ld_whole3, ld_whole2, ref7]
  refine congrArg₂ (· * ·) (Finset.sum_congr rfl fun k _ => congrArg₂ (· * ·) ?_ ((in2 m c t _).trans (V36 m c k j))) (rsc m c t _ _)
  rw [rco]
  exact sitofp_fptosi_qS .bf16 _ _
theorem o4 (c : Dev nD) (t : Fin cfg0.N) (i : Fin 1920) (j : Fin 8960) : out0_4 (iblk m c 0 t) (iblk m c 1 t) (iblk m c 2 t) (ix2 i j)
    = spYV (m ((c.tc : Thread nD τ).loc main_arg1)) (m ((c.tc : Thread nD τ).loc main_arg2)) (m ((c.tc : Thread nD τ).loc main_arg3)) (ix2 i j) := by
  unfold out0_4
  rw [canon_whole4, ld_whole3, ld_whole2, ref1]
  refine Finset.sum_congr rfl fun k _ => congrArg₂ (· * ·) ((in1 m c t _).trans (V15 m c _ _ k)) ?_
  unfold k0_pay6
  pointwise
  exact (in2 m c t _).trans (V36 m c k j)
theorem o5 (c : Dev nD) (t : Fin cfg0.N) (i : Fin 1920) (j : Fin 1536) : out0_5 (iblk m c 0 t) (iblk m c 1 t) (iblk m c 2 t) (ix2 i j)
    = spCO (m ((c.tc : Thread nD τ).loc main_arg0)) (ix2 i j) := by
  unfold out0_5
  rw [canon_whole2, ld_whole3, ref5]
  exact rco m c t i j _ _
theorem o6 (c : Dev nD) (t : Fin cfg0.N) (i : Fin 5) (j : Fin 384) : out0_6 (iblk m c 0 t) (iblk m c 1 t) (iblk m c 2 t) (ix2 i j)
    = spSC (m ((c.tc : Thread nD τ).loc main_arg0)) (ix2 i j) := by
  unfold out0_6
  rw [canon_whole1, ld_whole3]
  exact rsc m c t i j

/-! ## The four results -/

theorem rN : cfg0.N = 1 := (by decide +kernel : grid0.N = 1)
abbrev t00 : Fin cfg0.N := ⟨0, lt_of_lt_of_eq Nat.zero_lt_one rN.symm⟩

theorem idx2_eta {n0 n1 : ℕ} (y : Shape.Idx ⟨2, ![n0, n1]⟩) : y = ix2 (y 0) (y 1) := by
  funext a; match a with | ⟨0, _⟩ => rfl | ⟨1, _⟩ => rfl

theorem rarr3 (c : Dev nD) : (dats m 0 c).arrAt 3 cfg0.N
    = spYD (m ((c.tc : Thread nD τ).loc main_arg0)) (m ((c.tc : Thread nD τ).loc main_arg2)) (m ((c.tc : Thread nD τ).loc main_arg3)) := by
  refine (dats m 0 c).arrAt_eq_of_cover 3 _ (fun t _ => (flushed3 m c t).trans (funext fun y => ?_)) (fun i => ⟨t00, flush0_3 _, ?_⟩)
  · show out0_3 (iblk m c 0 t) (iblk m c 1 t) (iblk m c 2 t) y = spYD _ _ _ ((win0_3.rect t).emb y)
    rw [remb3, idx2_eta (n0 := 1920) (n1 := 8960) y]
    exact o3 m c t _ _
  · have e : ((cfg0.win 3).blk t00).view.emb (show S1920x8960.Idx from i) = i := remb3 t00 i
    exact Eq.mp (congrArg (fun z => z ∈ ((cfg0.win 3).blk t00).view.set) e) (((cfg0.win 3).blk t00).view.emb_mem_set (show S1920x8960.Idx from i))
theorem rarr4 (c : Dev nD) : (dats m 0 c).arrAt 4 cfg0.N
    = spYV (m ((c.tc : Thread nD τ).loc main_arg1)) (m ((c.tc : Thread nD τ).loc main_arg2)) (m ((c.tc : Thread nD τ).loc main_arg3)) := by
  refine (dats m 0 c).arrAt_eq_of_cover 4 _ (fun t _ => (flushed4 m c t).trans (funext fun y => ?_)) (fun i => ⟨t00, flush0_4 _, ?_⟩)
  · show out0_4 (iblk m c 0 t) (iblk m c 1 t) (iblk m c 2 t) y = spYV _ _ _ ((win0_4.rect t).emb y)
    rw [remb4, idx2_eta (n0 := 1920) (n1 := 8960) y]
    exact o4 m c t _ _
  · have e : ((cfg0.win 4).blk t00).view.emb (show S1920x8960.Idx from i) = i := remb4 t00 i
    exact Eq.mp (congrArg (fun z => z ∈ ((cfg0.win 4).blk t00).view.set) e) (((cfg0.win 4).blk t00).view.emb_mem_set (show S1920x8960.Idx from i))
theorem rarr5 (c : Dev nD) : (dats m 0 c).arrAt 5 cfg0.N = spCO (m ((c.tc : Thread nD τ).loc main_arg0)) := by
  refine (dats m 0 c).arrAt_eq_of_cover 5 _ (fun t _ => (flushed5 m c t).trans (funext fun y => ?_)) (fun i => ⟨t00, flush0_5 _, ?_⟩)
  · show out0_5 (iblk m c 0 t) (iblk m c 1 t) (iblk m c 2 t) y = spCO _ ((win0_5.rect t).emb y)
    rw [remb5, idx2_eta (n0 := 1920) (n1 := 1536) y]
    exact o5 m c t _ _
  · have e : ((cfg0.win 5).blk t00).view.emb (show S1920x1536.Idx from i) = i := remb5 t00 i
    exact Eq.mp (congrArg (fun z => z ∈ ((cfg0.win 5).blk t00).view.set) e) (((cfg0.win 5).blk t00).view.emb_mem_set (show S1920x1536.Idx from i))
theorem rarr6 (c : Dev nD) : (dats m 0 c).arrAt 6 cfg0.N = spSC (m ((c.tc : Thread nD τ).loc main_arg0)) := by
  refine (dats m 0 c).arrAt_eq_of_cover 6 _ (fun t _ => (flushed6 m c t).trans (funext fun y => ?_)) (fun i => ⟨t00, flush0_6 _, ?_⟩)
  · show out0_6 (iblk m c 0 t) (iblk m c 1 t) (iblk m c 2 t) y = spSC _ ((win0_6.rect t).emb y)
    rw [remb6, idx2_eta (n0 := 5) (n1 := 384) y]
    exact o6 m c t _ _
  · have e : ((cfg0.win 6).blk t00).view.emb (show S5x384.Idx from i) = i := remb6 t00 i
    exact Eq.mp (congrArg (fun z => z ∈ ((cfg0.win 6).blk t00).view.set) e) (((cfg0.win 6).blk t00).view.emb_mem_set (show S5x384.Idx from i))

/-- The reference's run: its results are the products, the codes and the scales. -/
theorem reference_run (ρ : Dev nD → PrngReg) : θ_run defs (onTc (τ := τ) (main (F := Ideal))) ⟨m, fun _ => 0, ρ⟩ (fun r => ∀ c : Dev nD,
      r.2.mem ((c.tc : Thread nD τ).loc main_v37_0) = spYD (m ((c.tc : Thread nD τ).loc main_arg0)) (m ((c.tc : Thread nD τ).loc main_arg2)) (m ((c.tc : Thread nD τ).loc main_arg3))
      ∧ r.2.mem ((c.tc : Thread nD τ).loc main_v37_1) = spYV (m ((c.tc : Thread nD τ).loc main_arg1)) (m ((c.tc : Thread nD τ).loc main_arg2)) (m ((c.tc : Thread nD τ).loc main_arg3))
      ∧ r.2.mem ((c.tc : Thread nD τ).loc main_v37_2) = spCO (m ((c.tc : Thread nD τ).loc main_arg0))
      ∧ r.2.mem ((c.tc : Thread nD τ).loc main_v37_3) = spSC (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
     ⟨(h c).1.trans (rarr3 m c), (h c).2.1.trans (rarr4 m c), (h c).2.2.1.trans (rarr5 m c), (h c).2.2.2.1.trans (rarr6 m c), (h c).2.2.2.2⟩) (run_blocks m ρ)

end Cert.Spec
end
-- ==== Proof.Equal.lean ====
/-
  The kernel and the reference leave the same results.
-/
module

public import proofs.«01_k».proof.Defs
public import proofs.«01_k».proof.Proof.KIValue
public import proofs.«01_k».proof.Proof.RefValue

@[expose] public section

noncomputable section

namespace Cert.Spec

open Idealize.ShloMosaic Idealize.SL.Sem

theorem equal : @Cert.algebraic_KernelIdeal_ReferenceIdeal Cert.KernelIdeal.Gen.facts Cert.ReferenceIdeal.Gen.facts := by
  intro m g m' g' _ hm
  refine ⟨fun c => spYD (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => spYV (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => spCO (m ((c.tc : Thread Cert.KernelIdeal.nD Cert.KernelIdeal.τ).loc Cert.KernelIdeal.main_arg0)),
    fun c => spSC (m ((c.tc : Thread Cert.KernelIdeal.nD Cert.KernelIdeal.τ).loc Cert.KernelIdeal.main_arg0)), kernel_run m g, ?_⟩
  refine (θ_run Cert.ReferenceIdeal.defs _ _).mono (fun _ h c => ?_) (reference_run m' g')
  obtain ⟨h0, h1, h2, h3⟩ := hm c
  obtain ⟨a, b, d, e, rest⟩ := h c
  rw [h0, h2, h3] at a
  rw [h1, h2, h3] at b
  rw [h0] at d e
  exact ⟨a, b, d, e, rest⟩

end Cert.Spec
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KFrame
public import proofs.«01_k».proof.Proof.KIFrame
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, Cert.Spec.equal⟩

end Cert.Proof

end
